-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_v55) = v2 c
          ∧ r.2.mem ((c.tc : Thread Cert.Reference6Ideal.nD Cert.Reference6Ideal.τ).loc Cert.Reference6Ideal.main_v56) = v3 c
          ∧ r.2.mem ((c.tc : Thread Cert.Reference6Ideal.nD Cert.Reference6Ideal.τ).loc Cert.Reference6Ideal.main_v57) = v4 c
          ∧ r.2.mem ((c.tc : Thread Cert.Reference6Ideal.nD Cert.Reference6Ideal.τ).loc Cert.Reference6Ideal.main_v45) = v5 c
          ∧ r.2.mem ((c.tc : Thread Cert.Reference6Ideal.nD Cert.Reference6Ideal.τ).loc Cert.Reference6Ideal.main_v49) = v6 c
          ∧ r.2.mem ((c.tc : Thread Cert.Reference6Ideal.nD Cert.Reference6Ideal.τ).loc Cert.Reference6Ideal.main_v53) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2048x3840 : Shape := ⟨2, ![2048, 3840]⟩
abbrev S2048x512 : Shape := ⟨2, ![2048, 512]⟩
abbrev S2048x8 : Shape := ⟨2, ![2048, 8]⟩
abbrev S_ : Shape := ⟨0, ![]⟩

class Facts : Prop where
  bitsLt_bf16_f32 : FTy.bits .bf16 < FTy.bits .f32
  bcast_S_S2048x3840 : S_.BroadcastsInDim S2048x3840 (![] : Fin 0 → Fin S2048x3840.rank)
  bcast_S_S2048x512 : S_.BroadcastsInDim S2048x512 (![] : Fin 0 → Fin S2048x512.rank)
  bcast_S_S2048x8 : S_.BroadcastsInDim S2048x8 (![] : Fin 0 → Fin S2048x8.rank)

variable [Facts]

def fn {F : FTy → Type} [FloatOps F] (main_arg0 : FVec F S2048x3840 .bf16) (main_arg1 : FVec F S2048x512 .bf16) (main_arg2 : FVec F S2048x8 .f32) : IVec S2048x3840 1 × IVec S2048x512 1 × IVec S2048x8 1 :=
  let main_v0 : FVec F S2048x3840 .f32 := (extf .f32 · bitsLt_bf16_f32) main_arg0
  let main_v1 : FVec F S2048x3840 .f32 := Host.absf main_v0
  let main_cst : FVec F S_ .f32 := constant S_ .f32 0x7F800000#32
  let main_v2 : FVec F S2048x3840 .f32 := broadcastInDim S2048x3840 ![] bcast_S_S2048x3840 main_cst
  let main_v3 : IVec S2048x3840 1 := cmpf .olt main_v1 main_v2
  let main_v4 : FVec F S2048x512 .f32 := (extf .f32 · bitsLt_bf16_f32) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : FVec F S2048x8 .f32 := Host.absf main_arg2
  let main_cst_1 : FVec F S_ .f32 := constant S_ .f32 0x7F800000#32
  let main_v9 : FVec F S2048x8 .f32 := broadcastInDim S2048x8 ![] bcast_S_S2048x8 main_cst_1
  let main_v10 : IVec S2048x8 1 := cmpf .olt main_v8 main_v9
  (main_v3, main_v7, main_v10)
-- ==== Pre_finite2.lean ====
abbrev S2048x1024 : Shape := ⟨2, ![2048, 1024]⟩
abbrev S5632x1024 : Shape := ⟨2, ![5632, 1024]⟩
abbrev S2816x1024 : Shape := ⟨2, ![2816, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S5632x1024 : S_.BroadcastsInDim S5632x1024 (![] : Fin 0 → Fin S5632x1024.rank)
  bcast_S_S2816x1024 : S_.BroadcastsInDim S2816x1024 (![] : Fin 0 → Fin S2816x1024.rank)

variable [Facts]

def fn {F : FTy → Type} [FloatOps F] (main_arg0 : FVec F S2048x1024 .bf16) (main_arg1 : FVec F S2048x1024 .bf16) (main_arg2 : FVec F S5632x1024 .bf16) (main_arg3 : FVec F S2816x1024 .bf16) : IVec S2048x1024 1 × IVec S2048x1024 1 × IVec S5632x1024 1 × IVec S2816x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S5632x1024 .f32 := (extf .f32 · bitsLt_bf16_f32) main_arg2
  let main_v9 : FVec F S5632x1024 .f32 := Host.absf main_v8
  let main_cst_1 : FVec F S_ .f32 := constant S_ .f32 0x7F800000#32
  let main_v10 : FVec F S5632x1024 .f32 := broadcastInDim S5632x1024 ![] bcast_S_S5632x1024 main_cst_1
  let main_v11 : IVec S5632x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  (main_v3, main_v7, main_v11, main_v15)
-- ==== Kernel.lean ====
abbrev S2048x3840 : Shape := ⟨2, ![2048, 3840]⟩
abbrev S2048x512 : Shape := ⟨2, ![2048, 512]⟩
abbrev S2048x8 : Shape := ⟨2, ![2048, 8]⟩
abbrev S2048x8x64 : Shape := ⟨3, ![2048, 8, 64]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S1x2048 : Shape := ⟨2, ![1, 2048]⟩
abbrev S2048x1 : Shape := ⟨2, ![2048, 1]⟩
abbrev S2048x2048 : Shape := ⟨2, ![2048, 2048]⟩
abbrev S4x2x2048 : Shape := ⟨3, ![4, 2, 2048]⟩
abbrev S8x64x2048 : Shape := ⟨3, ![8, 64, 2048]⟩
abbrev S2048x4x2 : Shape := ⟨3, ![2048, 4, 2]⟩
abbrev S4x2048x2 : Shape := ⟨3, ![4, 2048, 2]⟩
abbrev S2048x128 : Shape := ⟨2, ![2048, 128]⟩
abbrev S512x128 : Shape := ⟨2, ![512, 128]⟩
abbrev S1x2x2048 : Shape := ⟨3, ![1, 2, 2048]⟩
abbrev S1x512x2 : Shape := ⟨3, ![1, 512, 2]⟩
abbrev S128x2048 : Shape := ⟨2, ![128, 2048]⟩
abbrev S1x128 : Shape := ⟨2, ![1, 128]⟩
abbrev S2x2048 : Shape := ⟨2, ![2, 2048]⟩
abbrev S512x1 : Shape := ⟨2, ![512, 1]⟩
abbrev S512x2048 : Shape := ⟨2, ![512, 2048]⟩
abbrev S1x1x2048 : Shape := ⟨3, ![1, 1, 2048]⟩
abbrev S1x512x1 : Shape := ⟨3, ![1, 512, 1]⟩
abbrev S512 : Shape := ⟨1, ![512]⟩
abbrev S1024x128 : Shape := ⟨2, ![1024, 128]⟩
abbrev S1024x2048 : Shape := ⟨2, ![1024, 2048]⟩
abbrev S1536x128 : Shape := ⟨2, ![1536, 128]⟩
abbrev S1x1536 : Shape := ⟨2, ![1, 1536]⟩
abbrev S512x1536 : Shape := ⟨2, ![512, 1536]⟩
abbrev S1x1x1536 : Shape := ⟨3, ![1, 1, 1536]⟩
abbrev S1536 : Shape := ⟨1, ![1536]⟩
abbrev S1024x1536 : Shape := ⟨2, ![1024, 1536]⟩
abbrev S128x1536 : Shape := ⟨2, ![128, 1536]⟩
abbrev S1x1024 : Shape := ⟨2, ![1, 1024]⟩
abbrev S512x1024 : Shape := ⟨2, ![512, 1024]⟩
abbrev S1x1x1024 : Shape := ⟨3, ![1, 1, 1024]⟩
abbrev S1024 : Shape := ⟨1, ![1024]⟩
abbrev S1024x1024 : Shape := ⟨2, ![1024, 1024]⟩
abbrev S128x1024 : Shape := ⟨2, ![128, 1024]⟩
abbrev S1x512 : Shape := ⟨2, ![1, 512]⟩
abbrev S512x512 : Shape := ⟨2, ![512, 512]⟩
abbrev S1x1x512 : Shape := ⟨3, ![1, 1, 512]⟩
abbrev S1024x512 : Shape := ⟨2, ![1024, 512]⟩
abbrev S128x512 : Shape := ⟨2, ![128, 512]⟩

abbrev nBuf : Space → Nat
  | .hbm => 66
  | .vmem => 27
  | .smem => 0
  | _ => 0

abbrev bufTy : (tb : Table) → Fin (tcTables nBuf tb) → BufTy
  | .hbm, ⟨0, _⟩ => ⟨S2048x3840, .bf16⟩
  | .hbm, ⟨1, _⟩ => ⟨S2048x512, .bf16⟩
  | .hbm, ⟨2, _⟩ => ⟨S2048x8, .f32⟩
  | .hbm, ⟨3, _⟩ => ⟨S2048x3840, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S2048, .i32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048, .f32⟩
  | .hbm, ⟨45, _⟩ => ⟨S4x2x2048, .f32⟩
  | .hbm, ⟨46, _⟩ => ⟨S8x2048x2048, .f32⟩
  | .hbm, ⟨47, _⟩ => ⟨S8x2048x2048, .f32⟩
  | .hbm, ⟨48, _⟩ => ⟨S8x64x2048, .f32⟩
  | .hbm, ⟨49, _⟩ => ⟨S2048x8x64, .f32⟩
  | .hbm, ⟨50, _⟩ => ⟨S2048x512, .f32⟩
  | .hbm, ⟨51, _⟩ => ⟨S2048x8x64, .f32⟩
  | .hbm, ⟨52, _⟩ => ⟨S2048x8x64, .f32⟩
  | .hbm, ⟨53, _⟩ => ⟨S_, .f32⟩
  | .hbm, ⟨54, _⟩ => ⟨S2048x8, .f32⟩
  | .hbm, ⟨55, _⟩ => ⟨S8x2048, .f32⟩
  | .hbm, ⟨56, _⟩ => ⟨S4x2x2048, .f32⟩
  | .hbm, ⟨57, _⟩ => ⟨S2048x4x2, .f32⟩
  | .hbm, ⟨58, _⟩ => ⟨S4x2x2048, .f32⟩
  | .hbm, ⟨59, _⟩ => ⟨S2048x4x2, .f32⟩
  | .hbm, ⟨60, _⟩ => ⟨S4x2048x2, .f32⟩
  | .hbm, ⟨61, _⟩ => ⟨S2048x512, .bf16⟩
  | .hbm, ⟨62, _⟩ => ⟨S2048x512, .bf16⟩
  | .hbm, ⟨63, _⟩ => ⟨S2048x512, .bf16⟩
  | .hbm, ⟨64, _⟩ => ⟨S4x2048x2, .f32⟩
  | .hbm, ⟨65, _⟩ => ⟨S4x2x2048, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x2048, .f32⟩
  | .local _ .vmem, ⟨9, _⟩ => ⟨S1x2x2048, .f32⟩
  | .local _ .vmem, ⟨10, _⟩ => ⟨S1x2x2048, .f32⟩
  | .local _ .vmem, ⟨11, _⟩ => ⟨S1x2x2048, .f32⟩
  | .local _ .vmem, ⟨12, _⟩ => ⟨S1x2x2048, .f32⟩
  | .local _ .vmem, ⟨13, _⟩ => ⟨S1x2x2048, .f32⟩
  | .local _ .vmem, ⟨14, _⟩ => ⟨S1x512x2, .f32⟩
  | .local _ .vmem, ⟨15, _⟩ => ⟨S1x512x2, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x512x2, .f32⟩
  | .local _ .vmem, ⟨23, _⟩ => ⟨S1x512x2, .f32⟩
  | .local _ .vmem, ⟨24, _⟩ => ⟨S1x2x2048, .f32⟩
  | .local _ .vmem, ⟨25, _⟩ => ⟨S1x2x2048, .f32⟩
  | .local _ .vmem, ⟨26, _⟩ => ⟨S128x2048, .f32⟩
  | _, _ => ⟨S2048x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_v50_3 : Ref sig .tc := ⟨.hbm, 64, rfl⟩
abbrev main_v50_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let v10 : BitVec 32 := Scalar.extui v8
  let c0_i32_3 : BitVec 32 := 0#32
  let v11 : BitVec 1 := Scalar.cmpi .ne v10 c0_i32_3
  v11

def k0_mult1 (i : grid0.Coords) : BitVec 32 :=
  let arg1 : BitVec 32 := BitVec.ofNat 32 (i 1).val
  let c4_i32 : BitVec 32 := 4#32
  let v9 : BitVec 32 := Scalar.muli arg1 c4_i32
  let c128_i32_12 : BitVec 32 := 128#32
  let v31 : BitVec 32 := Scalar.muli v9 c128_i32_12
  v31
def k0_off1 (i : grid0.Coords) : Fin 2 → Nat :=
  let arg1 : BitVec 32 := BitVec.ofNat 32 (i 1).val
  let c4_i32 : BitVec 32 := 4#32
  let v9 : BitVec 32 := Scalar.muli arg1 c4_i32
  let c128_i32_12 : BitVec 32 := 128#32
  let v31 : BitVec 32 := Scalar.muli v9 c128_i32_12
  let v32 : BitVec 32 := v31
  let v182 : Index := Scalar.indexCast v32
  let c0_94 : Index := 0#32
  ![v182.toNat, 0]
def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v14 : BitVec 32 := Scalar.extui v12
  let c0_i32_5 : BitVec 32 := 0#32
  let v15 : BitVec 1 := Scalar.cmpi .ne v14 c0_i32_5
  v15

def k0_mult2 (i : grid0.Coords) : BitVec 32 :=
  let arg1 : BitVec 32 := BitVec.ofNat 32 (i 1).val
  let c4_i32_4 : BitVec 32 := 4#32
  let v13 : BitVec 32 := Scalar.muli arg1 c4_i32_4
  let c128_i32_12 : BitVec 32 := 128#32
  let v31 : BitVec 32 := Scalar.muli v13 c128_i32_12
  v31
def k0_off2 (i : grid0.Coords) : Fin 2 → Nat :=
  let arg1 : BitVec 32 := BitVec.ofNat 32 (i 1).val
  let c4_i32_4 : BitVec 32 := 4#32
  let v13 : BitVec 32 := Scalar.muli arg1 c4_i32_4
  let c128_i32_12 : BitVec 32 := 128#32
  let v31 : BitVec 32 := Scalar.muli v13 c128_i32_12
  let v32 : BitVec 32 := v31
  let v182 : Index := Scalar.indexCast v32
  let c0_92 : Index := 0#32
  ![v182.toNat, 0]
def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v18 : BitVec 32 := Scalar.extui v16
  let c0_i32_7 : BitVec 32 := 0#32
  let v19 : BitVec 1 := Scalar.cmpi .ne v18 c0_i32_7
  v19

def k0_mult3 (i : grid0.Coords) : BitVec 32 :=
  let arg1 : BitVec 32 := BitVec.ofNat 32 (i 1).val
  let c4_i32_6 : BitVec 32 := 4#32
  let v17 : BitVec 32 := Scalar.muli arg1 c4_i32_6
  let c128_i32_12 : BitVec 32 := 128#32
  let v31 : BitVec 32 := Scalar.muli v17 c128_i32_12
  v31
def k0_off3 (i : grid0.Coords) : Fin 2 → Nat :=
  let arg1 : BitVec 32 := BitVec.ofNat 32 (i 1).val
  let c4_i32_6 : BitVec 32 := 4#32
  let v17 : BitVec 32 := Scalar.muli arg1 c4_i32_6
  let c128_i32_12 : BitVec 32 := 128#32
  let v31 : BitVec 32 := Scalar.muli v17 c128_i32_12
  let v32 : BitVec 32 := v31
  let v182 : Index := Scalar.indexCast v32
  let c0_92 : Index := 0#32
  ![v182.toNat, 0]
def k0_cond5 (i : grid0.Coords) : BitVec 1 :=
  let arg1 : BitVec 32 := BitVec.ofNat 32 (i 1).val
  let c3_i32 : BitVec 32 := 3#32
  let v20 : BitVec 1 := Scalar.cmpi .eq arg1 c3_i32
  let v22 : BitVec 32 := Scalar.extui v20
  let c0_i32_9 : BitVec 32 := 0#32
  let v23 : BitVec 1 := Scalar.cmpi .ne v22 c0_i32_9
  v23

def k0_mult4 (i : grid0.Coords) : BitVec 32 :=
  let arg1 : BitVec 32 := BitVec.ofNat 32 (i 1).val
  let c4_i32_8 : BitVec 32 := 4#32
  let v21 : BitVec 32 := Scalar.muli arg1 c4_i32_8
  let c128_i32_12 : BitVec 32 := 128#32
  let v31 : BitVec 32 := Scalar.muli v21 c128_i32_12
  v31
def k0_off4 (i : grid0.Coords) : Fin 2 → Nat :=
  let arg1 : BitVec 32 := BitVec.ofNat 32 (i 1).val
  let c4_i32_8 : BitVec 32 := 4#32
  let v21 : BitVec 32 := Scalar.muli arg1 c4_i32_8
  let c128_i32_12 : BitVec 32 := 128#32
  let v31 : BitVec 32 := Scalar.muli v21 c128_i32_12
  let v32 : BitVec 32 := v31
  let v182 : Index := Scalar.indexCast v32
  let c0_92 : Index := 0#32
  ![v182.toNat, 0]
def k0_cond6 (i : grid0.Coords) : BitVec 1 :=
  let arg1 : BitVec 32 := BitVec.ofNat 32 (i 1).val
  let c3_i32_10 : BitVec 32 := 3#32
  let v24 : BitVec 1 := Scalar.cmpi .eq arg1 c3_i32_10
  let v25 : BitVec 32 := Scalar.extui v24
  let c0_i32_11 : BitVec 32 := 0#32
  let v26 : BitVec 1 := Scalar.cmpi .ne v25 c0_i32_11
  v26

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S2048x3840 : Shape := ⟨2, ![2048, 3840]⟩
abbrev S2048x512 : Shape := ⟨2, ![2048, 512]⟩
abbrev S2048x8 : Shape := ⟨2, ![2048, 8]⟩
abbrev S2048x8x64 : Shape := ⟨3, ![2048, 8, 64]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S2048x4x2 : Shape := ⟨3, ![2048, 4, 2]⟩
abbrev S4x2048x2 : Shape := ⟨3, ![4, 2048, 2]⟩
abbrev S4x2x2048 : Shape := ⟨3, ![4, 2, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2048x3840, .bf16⟩
  | .hbm, ⟨1, _⟩ => ⟨S2048x512, .bf16⟩
  | .hbm, ⟨2, _⟩ => ⟨S2048x8, .f32⟩
  | .hbm, ⟨3, _⟩ => ⟨S2048x3840, .f32⟩
  | .hbm, ⟨4, _⟩ => ⟨S2048x512, .f32⟩
  | .hbm, ⟨5, _⟩ => ⟨S2048x8x64, .f32⟩
  | .hbm, ⟨6, _⟩ => ⟨S2048x512, .f32⟩
  | .hbm, ⟨7, _⟩ => ⟨S2048x8x64, .f32⟩
  | .hbm, ⟨8, _⟩ => ⟨S2048x512, .f32⟩
  | .hbm, ⟨9, _⟩ => ⟨S2048x8x64, .f32⟩
  | .hbm, ⟨10, _⟩ => ⟨S2048, .i32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S8x2048x2048, .i1⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S8x2048, .i1⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x64x2048, .f32⟩
  | .hbm, ⟨74, _⟩ => ⟨S2048x8x64, .f32⟩
  | .hbm, ⟨75, _⟩ => ⟨S2048x512, .f32⟩
  | .hbm, ⟨76, _⟩ => ⟨S2048x8x64, .f32⟩
  | .hbm, ⟨77, _⟩ => ⟨S8x64x2048, .f32⟩
  | .hbm, ⟨78, _⟩ => ⟨S8x2048x2048, .f32⟩
  | .hbm, ⟨79, _⟩ => ⟨S8x64x2048, .f32⟩
  | .hbm, ⟨80, _⟩ => ⟨S2048x8x64, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S2048x8, .f32⟩
  | .hbm, ⟨105, _⟩ => ⟨S_, .f32⟩
  | .hbm, ⟨106, _⟩ => ⟨S8x2048, .f32⟩
  | .hbm, ⟨107, _⟩ => ⟨S8x2048x1, .f32⟩
  | .hbm, ⟨108, _⟩ => ⟨S_, .f32⟩
  | .hbm, ⟨109, _⟩ => ⟨S8x2048, .f32⟩
  | .hbm, ⟨110, _⟩ => ⟨S2048x8, .f32⟩
  | .hbm, ⟨111, _⟩ => ⟨S_, .f32⟩
  | .hbm, ⟨112, _⟩ => ⟨S8x2048x2048, .f32⟩
  | .hbm, ⟨113, _⟩ => ⟨S8x2048x2048, .f32⟩
  | .hbm, ⟨114, _⟩ => ⟨S8x2048x64, .f32⟩
  | .hbm, ⟨115, _⟩ => ⟨S2048x8x64, .f32⟩
  | .hbm, ⟨116, _⟩ => ⟨S8x2048x64, .f32⟩
  | .hbm, ⟨117, _⟩ => ⟨S2048x8x64, .f32⟩
  | .hbm, ⟨118, _⟩ => ⟨S2048x512, .f32⟩
  | .hbm, ⟨119, _⟩ => ⟨S2048x512, .bf16⟩
  | .hbm, ⟨120, _⟩ => ⟨S2048x512, .f32⟩
  | .hbm, ⟨121, _⟩ => ⟨S2048x512, .bf16⟩
  | .hbm, ⟨122, _⟩ => ⟨S2048x512, .f32⟩
  | .hbm, ⟨123, _⟩ => ⟨S2048x512, .bf16⟩
  | .hbm, ⟨124, _⟩ => ⟨S2048x4x2, .f32⟩
  | .hbm, ⟨125, _⟩ => ⟨S4x2048x2, .f32⟩
  | .hbm, ⟨126, _⟩ => ⟨S2048x4x2, .f32⟩
  | .hbm, ⟨127, _⟩ => ⟨S4x2x2048, .f32⟩
  | _, _ => ⟨S2048x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Kernel2.lean ====
abbrev S2048x1024 : Shape := ⟨2, ![2048, 1024]⟩
abbrev S5632x1024 : Shape := ⟨2, ![5632, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩
abbrev S2048x5632 : Shape := ⟨2, ![2048, 5632]⟩
abbrev S2048x1408 : Shape := ⟨2, ![2048, 1408]⟩
abbrev S8x128 : Shape := ⟨2, ![8, 128]⟩

abbrev nBuf : Space → Nat
  | .hbm => 10
  | .vmem => 34
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S5632x1024, .bf16⟩
  | .hbm, ⟨3, _⟩ => ⟨S2816x1024, .bf16⟩
  | .hbm, ⟨4, _⟩ => ⟨S2048x2816, .bf16⟩
  | .hbm, ⟨5, _⟩ => ⟨S2048x2816, .bf16⟩
  | .hbm, ⟨6, _⟩ => ⟨S2048x2816, .bf16⟩
  | .hbm, ⟨7, _⟩ => ⟨S2048x5632, .bf16⟩
  | .hbm, ⟨8, _⟩ => ⟨S2816x1024, .bf16⟩
  | .hbm, ⟨9, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1408x1024, .bf16⟩
  | .local _ .vmem, ⟨17, _⟩ => ⟨S1408x1024, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S2048x1408, .bf16⟩
  | .local _ .vmem, ⟨23, _⟩ => ⟨S2048x1408, .bf16⟩
  | .local _ .vmem, ⟨24, _⟩ => ⟨S2048x1024, .bf16⟩
  | .local _ .vmem, ⟨25, _⟩ => ⟨S1408x1024, .bf16⟩
  | .local _ .vmem, ⟨26, _⟩ => ⟨S1408x1024, .bf16⟩
  | .local _ .vmem, ⟨27, _⟩ => ⟨S8x128, .f32⟩
  | .local _ .vmem, ⟨28, _⟩ => ⟨S2048x1408, .bf16⟩
  | .local _ .vmem, ⟨29, _⟩ => ⟨S2048x1408, .bf16⟩
  | .local _ .vmem, ⟨30, _⟩ => ⟨S2048x1024, .bf16⟩
  | .local _ .vmem, ⟨31, _⟩ => ⟨S1408x1024, .bf16⟩
  | .local _ .vmem, ⟨32, _⟩ => ⟨S1408x1024, .bf16⟩
  | .local _ .vmem, ⟨33, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1408x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1408x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2048x1024 : Shape := ⟨2, ![2048, 1024]⟩
abbrev S5632x1024 : Shape := ⟨2, ![5632, 1024]⟩
abbrev S2816x1024 : Shape := ⟨2, ![2816, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S5632x1024, .bf16⟩
  | .hbm, ⟨3, _⟩ => ⟨S2816x1024, .bf16⟩
  | .hbm, ⟨4, _⟩ => ⟨S2048x1024, .f32⟩
  | .hbm, ⟨5, _⟩ => ⟨S5632x1024, .f32⟩
  | .hbm, ⟨6, _⟩ => ⟨S1024x5632, .f32⟩
  | .hbm, ⟨7, _⟩ => ⟨S2816x1024, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x1024, .f32⟩
  | .hbm, ⟨26, _⟩ => ⟨S2048x1024, .f32⟩
  | .hbm, ⟨27, _⟩ => ⟨S1024x2816, .f32⟩
  | .hbm, ⟨28, _⟩ => ⟨S2816x1024, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x5632, .f32⟩
  | .hbm, ⟨37, _⟩ => ⟨S5632x1024, .f32⟩
  | .hbm, ⟨38, _⟩ => ⟨S1024x5632, .f32⟩
  | .hbm, ⟨39, _⟩ => ⟨S2048x1024, .f32⟩
  | .hbm, ⟨40, _⟩ => ⟨S5632x1024, .f32⟩
  | .hbm, ⟨41, _⟩ => ⟨S5632x1024, .bf16⟩
  | .hbm, ⟨42, _⟩ => ⟨S2816x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel3.lean ====
abbrev S2048x5632 : Shape := ⟨2, ![2048, 5632]⟩
abbrev S5632x1024 : Shape := ⟨2, ![5632, 1024]⟩
abbrev S2048x1024 : Shape := ⟨2, ![2048, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S5632x1024 : Shape := ⟨2, ![5632, 1024]⟩
abbrev S1024x5632 : Shape := ⟨2, ![1024, 5632]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S5632x1024, .f32⟩
  | .hbm, ⟨3, _⟩ => ⟨S1024x5632, .f32⟩
  | .hbm, ⟨4, _⟩ => ⟨S_, .f32⟩
  | .hbm, ⟨5, _⟩ => ⟨S2048x1024, .f32⟩
  | .hbm, ⟨6, _⟩ => ⟨S2048x5632, .f32⟩
  | .hbm, ⟨7, _⟩ => ⟨S2048x5632, .f32⟩
  | .hbm, ⟨8, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x1024 : Shape := ⟨2, ![2048, 1024]⟩
abbrev S2048x7040 : Shape := ⟨2, ![2048, 7040]⟩
abbrev S1024x7040 : Shape := ⟨2, ![1024, 7040]⟩
abbrev S2048x1408 : Shape := ⟨2, ![2048, 1408]⟩
abbrev S1024x1408 : Shape := ⟨2, ![1024, 1408]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x7040, .bf16⟩
  | .hbm, ⟨2, _⟩ => ⟨S1024x7040, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x7040 : Shape := ⟨2, ![2048, 7040]⟩
abbrev S_ : Shape := ⟨0, ![]⟩
abbrev S1024x7040 : Shape := ⟨2, ![1024, 7040]⟩
abbrev S7040x1024 : Shape := ⟨2, ![7040, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7040, .bf16⟩
  | .hbm, ⟨2, _⟩ => ⟨S2048x1024, .f32⟩
  | .hbm, ⟨3, _⟩ => ⟨S_, .f32⟩
  | .hbm, ⟨4, _⟩ => ⟨S1024x7040, .f32⟩
  | .hbm, ⟨5, _⟩ => ⟨S2048x7040, .f32⟩
  | .hbm, ⟨6, _⟩ => ⟨S2048x7040, .f32⟩
  | .hbm, ⟨7, _⟩ => ⟨S7040x1024, .f32⟩
  | .hbm, ⟨8, _⟩ => ⟨S1024x7040, .f32⟩
  | .hbm, ⟨9, _⟩ => ⟨S1024x7040, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x7040 : Shape := ⟨2, ![2048, 7040]⟩
abbrev S1024x7040 : Shape := ⟨2, ![1024, 7040]⟩
abbrev S2048x1024 : Shape := ⟨2, ![2048, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x7040, .bf16⟩
  | .hbm, ⟨1, _⟩ => ⟨S1024x7040, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x7040 : Shape := ⟨2, ![2048, 7040]⟩
abbrev S1024x7040 : Shape := ⟨2, ![1024, 7040]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x7040, .bf16⟩
  | .hbm, ⟨1, _⟩ => ⟨S1024x7040, .bf16⟩
  | .hbm, ⟨2, _⟩ => ⟨S1024x7040, .f32⟩
  | .hbm, ⟨3, _⟩ => ⟨S_, .f32⟩
  | .hbm, ⟨4, _⟩ => ⟨S2048x1024, .f32⟩
  | .hbm, ⟨5, _⟩ => ⟨S2048x7040, .f32⟩
  | .hbm, ⟨6, _⟩ => ⟨S2048x7040, .f32⟩
  | .hbm, ⟨7, _⟩ => ⟨S2048x1024, .f32⟩
  | _, _ => ⟨S2048x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S2048x3072 : Shape := ⟨2, ![2048, 3072]⟩
abbrev S3x512x1024 : Shape := ⟨3, ![3, 512, 1024]⟩
abbrev S1024x1024 : Shape := ⟨2, ![1024, 1024]⟩
abbrev S8x2048 : Shape := ⟨2, ![8, 2048]⟩
abbrev S256x1024 : Shape := ⟨2, ![256, 1024]⟩
abbrev S256x512 : Shape := ⟨2, ![256, 512]⟩
abbrev S256x3072 : Shape := ⟨2, ![256, 3072]⟩
abbrev S8x256 : Shape := ⟨2, ![8, 256]⟩
abbrev S512x128 : Shape := ⟨2, ![512, 128]⟩
abbrev S1x512x1024 : Shape := ⟨3, ![1, 512, 1024]⟩
abbrev S512x1024 : Shape := ⟨2, ![512, 1024]⟩
abbrev S256x128 : Shape := ⟨2, ![256, 128]⟩
abbrev S128x256 : Shape := ⟨2, ![128, 256]⟩

abbrev nBuf : Space → Nat
  | .hbm => 15
  | .vmem => 27
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S3x512x1024, .bf16⟩
  | .hbm, ⟨6, _⟩ => ⟨S1024x1024, .bf16⟩
  | .hbm, ⟨7, _⟩ => ⟨S2048x3072, .bf16⟩
  | .hbm, ⟨8, _⟩ => ⟨S3x512x1024, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S8x2048, .f32⟩
  | .hbm, ⟨13, _⟩ => ⟨S8x2048, .f32⟩
  | .hbm, ⟨14, _⟩ => ⟨S8x2048, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S3x512x1024, .bf16⟩
  | .local _ .vmem, ⟨11, _⟩ => ⟨S1024x1024, .bf16⟩
  | .local _ .vmem, ⟨12, _⟩ => ⟨S256x3072, .bf16⟩
  | .local _ .vmem, ⟨13, _⟩ => ⟨S256x3072, .bf16⟩
  | .local _ .vmem, ⟨14, _⟩ => ⟨S3x512x1024, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S8x256, .f32⟩
  | .local _ .vmem, ⟨22, _⟩ => ⟨S8x256, .f32⟩
  | .local _ .vmem, ⟨23, _⟩ => ⟨S8x256, .f32⟩
  | .local _ .vmem, ⟨24, _⟩ => ⟨S8x256, .f32⟩
  | .local _ .vmem, ⟨25, _⟩ => ⟨S8x256, .f32⟩
  | .local _ .vmem, ⟨26, _⟩ => ⟨S8x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v42 : BitVec 32 := Scalar.extui v0
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v44 : BitVec 1 := Scalar.xori v0 v_true
  let v45 : BitVec 32 := Scalar.extui v44
  let c0_i32_18 : BitVec 32 := 0#32
  let v46 : BitVec 1 := Scalar.cmpi .ne v45 c0_i32_18
  v46

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v73 : BitVec 32 := Scalar.extui v0
  let c0_i32_35 : BitVec 32 := 0#32
  let v74 : BitVec 1 := Scalar.cmpi .ne v73 c0_i32_35
  v74

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_36 : BitVec 1 := 1#1
  let v75 : BitVec 1 := Scalar.xori v0 true_36
  let v76 : BitVec 32 := Scalar.extui v75
  let c0_i32_37 : BitVec 32 := 0#32
  let v77 : BitVec 1 := Scalar.cmpi .ne v76 c0_i32_37
  v77

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v104 : BitVec 32 := Scalar.extui v0
  let c0_i32_54 : BitVec 32 := 0#32
  let v105 : BitVec 1 := Scalar.cmpi .ne v104 c0_i32_54
  v105

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_55 : BitVec 1 := 1#1
  let v106 : BitVec 1 := Scalar.xori v0 true_55
  let v107 : BitVec 32 := Scalar.extui v106
  let c0_i32_56 : BitVec 32 := 0#32
  let v108 : BitVec 1 := Scalar.cmpi .ne v107 c0_i32_56
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S2048x1024 : Shape := ⟨2, ![2048, 1024]⟩
abbrev S2048x512 : Shape := ⟨2, ![2048, 512]⟩
abbrev S2048x3072 : Shape := ⟨2, ![2048, 3072]⟩
abbrev S3x512x1024 : Shape := ⟨3, ![3, 512, 1024]⟩
abbrev S1024x1024 : Shape := ⟨2, ![1024, 1024]⟩
abbrev S2048x1x512 : Shape := ⟨3, ![2048, 1, 512]⟩
abbrev S2048x3x512 : Shape := ⟨3, ![2048, 3, 512]⟩
abbrev S3x1024x2048 : Shape := ⟨3, ![3, 1024, 2048]⟩
abbrev S2048x3x1024 : Shape := ⟨3, ![2048, 3, 1024]⟩
abbrev S_ : Shape := ⟨0, ![]⟩
abbrev S3x2048x512 : Shape := ⟨3, ![3, 2048, 512]⟩
abbrev S3x1024x512 : Shape := ⟨3, ![3, 1024, 512]⟩
abbrev S2048x8x64 : Shape := ⟨3, ![2048, 8, 64]⟩
abbrev S2048x8 : Shape := ⟨2, ![2048, 8]⟩
abbrev S8x2048 : Shape := ⟨2, ![8, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x3072, .f32⟩
  | .hbm, ⟨5, _⟩ => ⟨S3x512x1024, .bf16⟩
  | .hbm, ⟨6, _⟩ => ⟨S1024x1024, .bf16⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S1024x1024, .f32⟩
  | .hbm, ⟨11, _⟩ => ⟨S3x512x1024, .f32⟩
  | .hbm, ⟨12, _⟩ => ⟨S2048x1x512, .f32⟩
  | .hbm, ⟨13, _⟩ => ⟨S2048x1x512, .f32⟩
  | .hbm, ⟨14, _⟩ => ⟨S2048x1x512, .f32⟩
  | .hbm, ⟨15, _⟩ => ⟨S2048x3x512, .f32⟩
  | .hbm, ⟨16, _⟩ => ⟨S3x1024x2048, .f32⟩
  | .hbm, ⟨17, _⟩ => ⟨S2048x3x1024, .f32⟩
  | .hbm, ⟨18, _⟩ => ⟨S2048x3x1024, .f32⟩
  | .hbm, ⟨19, _⟩ => ⟨S2048x3x1024, .f32⟩
  | .hbm, ⟨20, _⟩ => ⟨S2048x3x1024, .f32⟩
  | .hbm, ⟨21, _⟩ => ⟨S_, .f32⟩
  | .hbm, ⟨22, _⟩ => ⟨S2048x3x1024, .f32⟩
  | .hbm, ⟨23, _⟩ => ⟨S2048x3x1024, .f32⟩
  | .hbm, ⟨24, _⟩ => ⟨S_, .f32⟩
  | .hbm, ⟨25, _⟩ => ⟨S2048x3x1024, .f32⟩
  | .hbm, ⟨26, _⟩ => ⟨S2048x3x1024, .f32⟩
  | .hbm, ⟨27, _⟩ => ⟨S_, .f32⟩
  | .hbm, ⟨28, _⟩ => ⟨S2048x3x1024, .f32⟩
  | .hbm, ⟨29, _⟩ => ⟨S2048x3x1024, .f32⟩
  | .hbm, ⟨30, _⟩ => ⟨S2048x3x1024, .f32⟩
  | .hbm, ⟨31, _⟩ => ⟨S2048x3x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x3x1024, .f32⟩
  | .hbm, ⟨38, _⟩ => ⟨S2048x3x1024, .f32⟩
  | .hbm, ⟨39, _⟩ => ⟨S2048x3x1024, .f32⟩
  | .hbm, ⟨40, _⟩ => ⟨S2048x3x1024, .f32⟩
  | .hbm, ⟨41, _⟩ => ⟨S2048x3072, .f32⟩
  | .hbm, ⟨42, _⟩ => ⟨S3x1024x2048, .f32⟩
  | .hbm, ⟨43, _⟩ => ⟨S3x2048x512, .f32⟩
  | .hbm, ⟨44, _⟩ => ⟨S2048x3x512, .f32⟩
  | .hbm, ⟨45, _⟩ => ⟨S3x1024x512, .f32⟩
  | .hbm, ⟨46, _⟩ => ⟨S3x512x1024, .f32⟩
  | .hbm, ⟨47, _⟩ => ⟨S2048x1x512, .f32⟩
  | .hbm, ⟨48, _⟩ => ⟨S2048x512, .f32⟩
  | .hbm, ⟨49, _⟩ => ⟨S2048x1x512, .f32⟩
  | .hbm, ⟨50, _⟩ => ⟨S2048x512, .f32⟩
  | .hbm, ⟨51, _⟩ => ⟨S2048x1x512, .f32⟩
  | .hbm, ⟨52, _⟩ => ⟨S2048x512, .f32⟩
  | .hbm, ⟨53, _⟩ => ⟨S2048x512, .f32⟩
  | .hbm, ⟨54, _⟩ => ⟨S2048x8x64, .f32⟩
  | .hbm, ⟨55, _⟩ => ⟨S_, .f32⟩
  | .hbm, ⟨56, _⟩ => ⟨S2048x8, .f32⟩
  | .hbm, ⟨57, _⟩ => ⟨S8x2048, .f32⟩
  | .hbm, ⟨58, _⟩ => ⟨S2048x512, .f32⟩
  | .hbm, ⟨59, _⟩ => ⟨S2048x8x64, .f32⟩
  | .hbm, ⟨60, _⟩ => ⟨S_, .f32⟩
  | .hbm, ⟨61, _⟩ => ⟨S2048x8, .f32⟩
  | .hbm, ⟨62, _⟩ => ⟨S8x2048, .f32⟩
  | .hbm, ⟨63, _⟩ => ⟨S2048x512, .f32⟩
  | .hbm, ⟨64, _⟩ => ⟨S2048x8x64, .f32⟩
  | .hbm, ⟨65, _⟩ => ⟨S_, .f32⟩
  | .hbm, ⟨66, _⟩ => ⟨S2048x8, .f32⟩
  | .hbm, ⟨67, _⟩ => ⟨S8x2048, .f32⟩
  | .hbm, ⟨68, _⟩ => ⟨S2048x3072, .bf16⟩
  | .hbm, ⟨69, _⟩ => ⟨S2048x512, .bf16⟩
  | .hbm, ⟨70, _⟩ => ⟨S2048x512, .bf16⟩
  | .hbm, ⟨71, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel7.lean ====
abbrev S2048x1024 : Shape := ⟨2, ![2048, 1024]⟩
abbrev S5632x1024 : Shape := ⟨2, ![5632, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x2816 : Shape := ⟨2, ![1024, 2816]⟩
abbrev S2816x512 : Shape := ⟨2, ![2816, 512]⟩
abbrev S1024x512 : Shape := ⟨2, ![1024, 512]⟩
abbrev S1x512 : Shape := ⟨2, ![1, 512]⟩
abbrev S8x128 : Shape := ⟨2, ![8, 128]⟩

abbrev nBuf : Space → Nat
  | .hbm => 6
  | .vmem => 13
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S1024x7040 : Shape := ⟨2, ![1024, 7040]⟩
abbrev S2048x3840 : Shape := ⟨2, ![2048, 3840]⟩
abbrev S2048x3072 : Shape := ⟨2, ![2048, 3072]⟩
abbrev S1024x768 : Shape := ⟨2, ![1024, 768]⟩
abbrev S2048x768 : Shape := ⟨2, ![2048, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x7040, .bf16⟩
  | .hbm, ⟨2, _⟩ => ⟨S2048x3840, .bf16⟩
  | .hbm, ⟨3, _⟩ => ⟨S2048x3072, .f32⟩
  | .local _ .vmem, ⟨0, _⟩ => ⟨S2048x1024, .bf16⟩
  | .local _ .vmem, ⟨1, _⟩ => ⟨S1024x768, .bf16⟩
  | .local _ .vmem, ⟨2, _⟩ => ⟨S1024x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .f32⟩
  | .local _ .vmem, ⟨6, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 9], ![false, false]⟩

def k0_cond1 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c5_i32_3 : BitVec 32 := 5#32
  let v6 : BitVec 1 := Scalar.cmpi .sge arg1 c5_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2048x1024 : Shape := ⟨2, ![2048, 1024]⟩
abbrev S1024x7040 : Shape := ⟨2, ![1024, 7040]⟩
abbrev S2048x7040 : Shape := ⟨2, ![2048, 7040]⟩
abbrev S2048x3840 : Shape := ⟨2, ![2048, 3840]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7040, .bf16⟩
  | .hbm, ⟨2, _⟩ => ⟨S2048x1024, .f32⟩
  | .hbm, ⟨3, _⟩ => ⟨S1024x7040, .f32⟩
  | .hbm, ⟨4, _⟩ => ⟨S2048x7040, .f32⟩
  | .hbm, ⟨5, _⟩ => ⟨S2048x3840, .f32⟩
  | .hbm, ⟨6, _⟩ => ⟨S2048x3840, .bf16⟩
  | .hbm, ⟨7, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.BodyA.lean ====
/-
  The body of the attention gradient at the first of the four steps over the keys: what its stores leave in each buffer, as a list of pieces.
-/
module

public import proofs.«01_k».proof.Proof.Gen.KernelIdeal.Frame
public import proofs.«01_k».proof.Proof.Gen.KernelIdeal.Skeleton

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's proof term is large
set_option maxHeartbeats 2000000 in
/-- At the first step of a head pair, on whole buffers at any contents, the body runs to the end, leaves the eight inputs as they were and
    writes the listed pieces over what each output and the running sum for the query gradient held. -/
def runA (c : Dev nD) (i : grid0.Coords) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (x2 : Vec F S2048x128 .bf16) (x3 : Vec F S512x128 .bf16) (x4 : Vec F S512x128 .bf16) (x5 : Vec F S2048x128 .bf16) (x6 : Vec F S1x2x2048 .f32) (x7 : Vec F S1x2x2048 .f32) (x8 : Vec F S1x2x2048 .f32) (x9 : Vec F S1x512x2 .f32) (x10 : Vec F S2048x128 .bf16) (x11 : Vec F S2048x128 .bf16) (x12 : Vec F S2048x128 .bf16) (x13 : Vec F S1x512x2 .f32) (x14 : Vec F S1x2x2048 .f32) (x15 : Vec F S128x2048 .f32) :
    { L : List (View.Piece (Elt F) S2048x128 .bf16) × List (View.Piece (Elt F) S2048x128 .bf16) × List (View.Piece (Elt F) S1x512x2 .f32) × List (View.Piece (Elt F) S1x2x2048 .f32) × List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2.1) ∗ (arg14.view.loc (c : Thread nD τ) ↦[arg14.view.set]{fullShare} arg14.view.writes (Elt F) (harg14.unread x14) L.2.2.2.1) ∗ (arg15.view.loc (c : Thread nD τ) ↦[arg15.view.set]{fullShare} arg15.view.writes (Elt F) (harg15.unread x15) L.2.2.2.2)) -∗ K ⟨⟩))
          ⊢ wp frame (wpE (defs₀ (F := F)) Variants.none c none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_, ?_, ?_), fun E K => ?run⟩
  case run =>
    simp only [cc0_attn_b_bwd_eq_skeleton]; unfold cc0_attn_b_bwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5 | sl_exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    iexact H15

end Cert.AttnBwd

end
-- ==== Proof.Spec.lean ====
/-
  What one step of the attention gradient adds, in terms of the blocks it reads: the probabilities, their gradients, and the five sums made of
  them. The step at keys [512 g, 512 g + 512) sees every query t; a query before a key has probability zero.
-/
module

public import proofs.«01_k».proof.Proof.Gen.KernelIdeal.Skeleton
public import Idealize.ShloMosaic.Lib.Pointwise
public import Idealize.ShloMosaic.Lib.FinSumWindow
public import Idealize.ShloMosaic.Lib.WholeRead
public import Idealize.ShloMosaic.Lib.WritesUnit
public import Idealize.ShloMosaic.Lib.WordCmp

@[expose] public section

noncomputable section

namespace Cert.AttnBwd

open Cert.KernelIdeal
open Idealize.ShloMosaic
open scoped BigOperators

/-- One eighth, the scale of the scores, as the kernel writes it. -/
def eighth : EReal := Ideal.ofBits .f32 1040187392#32

/-- The lanes of head `h` of a pair: the lower 64 for head 0, the upper 64 for head 1. -/
def lane (h : Fin 2) (d : Fin 128) : Prop := d.val / 64 = h.val

instance (h : Fin 2) (d : Fin 128) : Decidable (lane h d) := by unfold lane; infer_instance

/-- The head whose lane `d` is. -/
def headOf (d : Fin 128) : Fin 2 := ⟨d.val / 64, by omega⟩

/-- The blocks a step reads: queries, keys, values, the upstream gradient, the normalisers, the row products and the two decays. -/
structure Blocks where
  q : Vec Ideal S2048x128 .bf16
  k : Vec Ideal S512x128 .bf16
  v : Vec Ideal S512x128 .bf16
  go : Vec Ideal S2048x128 .bf16
  lse : Vec Ideal S1x2x2048 .f32
  delta : Vec Ideal S1x2x2048 .f32
  cq : Vec Ideal S1x2x2048 .f32
  ck : Vec Ideal S1x512x2 .f32

namespace Blocks

variable (B : Blocks)

/-- The scaled key of head `h`, zero on the other head's lanes. -/
def key (h : Fin 2) (s : Fin 512) (d : Fin 128) : EReal := if lane h d then B.k (ix2 s d) * eighth else 0

/-- The value of head `h`, zero on the other head's lanes. -/
def val (h : Fin 2) (s : Fin 512) (d : Fin 128) : EReal := if lane h d then B.v (ix2 s d) else 0

/-- The probability of key `512 g + s` at query `t`. -/
def prob (g : ℕ) (h : Fin 2) (s : Fin 512) (t : Fin 2048) : EReal :=
  if 512 * g + s.val ≤ t.val then
    Ideal.exp ((∑ d : Fin 128, B.key h s d * B.q (ix2 t d)) + B.cq (ix3 0 h t) - B.ck (ix3 0 s h) - B.lse (ix3 0 h t))
  else 0

/-- The gradient of the score of key `512 g + s` at query `t`. -/
def dscore (g : ℕ) (h : Fin 2) (s : Fin 512) (t : Fin 2048) : EReal :=
  B.prob g h s t * ((∑ d : Fin 128, B.val h s d * B.go (ix2 t d)) - B.delta (ix3 0 h t))

/-- The gradient of value `s`, lane `d`. -/
def dval (g : ℕ) (s : Fin 512) (d : Fin 128) : EReal := ∑ t : Fin 2048, B.prob g (headOf d) s t * B.go (ix2 t d)

/-- The gradient of key `s`, lane `d`. -/
def dkey (g : ℕ) (s : Fin 512) (d : Fin 128) : EReal := (∑ t : Fin 2048, B.dscore g (headOf d) s t * B.q (ix2 t d)) * eighth

/-- The gradient of the decay at key `s`. -/
def ddecayK (g : ℕ) (s : Fin 512) (h : Fin 2) : EReal := 0 - ∑ t : Fin 2048, B.dscore g h s t

/-- What the step adds to the gradient of the decay at query `t`. -/
def ddecayQ (g : ℕ) (h : Fin 2) (t : Fin 2048) : EReal := ∑ s : Fin 512, B.dscore g h s t

/-- What the step adds to the gradient of query `t`, lane `d`. -/
def dquery (g : ℕ) (d : Fin 128) (t : Fin 2048) : EReal :=
  ∑ s : Fin 512, B.key 0 s d * B.dscore g 0 s t + ∑ s : Fin 512, B.key 1 s d * B.dscore g 1 s t

end Blocks

/-- What one step leaves, from the blocks it reads: `x` the key and value gradients before it, `o` the two running sums it adds to, `y` what each
    buffer holds after it. -/
structure Step (g : ℕ) (B : Blocks) (x₁₁ x₁₂ : Vec Ideal S2048x128 .bf16) (o₁₄ : Vec Ideal S1x2x2048 .f32) (o₁₅ : Vec Ideal S128x2048 .f32)
    (y₁₁ y₁₂ : Vec Ideal S2048x128 .bf16) (y₁₃ : Vec Ideal S1x512x2 .f32) (y₁₄ : Vec Ideal S1x2x2048 .f32) (y₁₅ : Vec Ideal S128x2048 .f32) : Prop where
  dk : ∀ (s : Fin 512) (d : Fin 128) (r : Fin 2048), r.val = 512 * g + s.val → y₁₁ (ix2 r d) = B.dkey g s d
  dk_else : ∀ (r : Fin 2048) (d : Fin 128), r.val < 512 * g ∨ 512 * g + 512 ≤ r.val → y₁₁ (ix2 r d) = x₁₁ (ix2 r d)
  dv : ∀ (s : Fin 512) (d : Fin 128) (r : Fin 2048), r.val = 512 * g + s.val → y₁₂ (ix2 r d) = B.dval g s d
  dv_else : ∀ (r : Fin 2048) (d : Fin 128), r.val < 512 * g ∨ 512 * g + 512 ≤ r.val → y₁₂ (ix2 r d) = x₁₂ (ix2 r d)
  decayK : ∀ (s : Fin 512) (h : Fin 2), y₁₃ (ix3 0 s h) = B.ddecayK g s h
  decayQ : ∀ (h : Fin 2) (t : Fin 2048), y₁₄ (ix3 0 h t) = o₁₄ (ix3 0 h t) + B.ddecayQ g h t
  dq : ∀ (d : Fin 128) (t : Fin 2048), y₁₅ (ix2 d t) = o₁₅ (ix2 d t) + B.dquery g d t

/-- A selection whose mask is a proposition is an `if`. -/
theorem select_iff {α : Type} {c : BitVec 1} {p : Prop} [Decidable p] (h : (c = 1#1) ↔ p) (a b : α) :
    Scalar.select c a b = if p then a else b := by
  unfold Scalar.select
  by_cases hp : p
  · simp [hp, h.2 hp]
  · have hc : c ≠ 1#1 := fun e => hp (h.1 e)
    simp [hp, hc]

/-- The kernel's mask of the lower lanes. -/
theorem lower (d : Fin 128) : (Gen.k0_pay1 (ix2 0 d) = 1#1) ↔ lane 0 d := by
  unfold Gen.k0_pay1 lane; pointwise; word_cmp

/-- The kernel's mask of the upper lanes. -/
theorem upper (d : Fin 128) : (Gen.k0_pay2 (ix2 0 d) = 1#1) ↔ lane 1 d := by
  unfold Gen.k0_pay2 lane; pointwise; word_cmp

/-- A lane's two halves, each zero on the other head's lanes, add up to the lane's own head's. -/
theorem by_head (f : Fin 2 → EReal) (d : Fin 128) :
    ((if lane 0 d then f 0 else 0) + if lane 1 d then f 1 else 0) = f (headOf d) := by
  by_cases h : d.val < 64
  · have h0 : lane 0 d := by unfold lane; omega
    have h1 : ¬lane 1 d := by unfold lane; omega
    rw [if_pos h0, if_neg h1, add_zero]; congr 1; exact Fin.ext (show 0 = d.val / 64 by omega)
  · have h0 : ¬lane 0 d := by unfold lane; omega
    have h1 : lane 1 d := by unfold lane; omega
    rw [if_neg h0, if_pos h1, zero_add]; congr 1; exact Fin.ext (show 1 = d.val / 64 by omega)

/-- A cast to the same shape changes nothing. -/
theorem shapeCast_at {s : Shape} (x : FVec Ideal s .f32) (h) (j : s.Idx) : shapeCast s x h j = x j := by
  rw [shapeCast_self]

section Loads

variable {κ : Kind} {sp : Space} {e : EltTy}

/-- Entry `(a, b)` of a loaded rectangle is the buffer's entry at the offsets past it. -/
theorem readAt2 {n₀ n₁ m₀ m₁ : ℕ} (v : View sig κ sp ⟨2, ![n₀, n₁]⟩ e) (f : v.ty.Contents (Elt Ideal)) (off : Fin 2 → ℕ)
    (inb : ∀ a, off a + (![m₀, m₁] : Fin 2 → ℕ) a ≤ (![n₀, n₁] : Fin 2 → ℕ) a) (a : Fin m₀) (b : Fin m₁) (a' : Fin n₀) (b' : Fin n₁)
    (ha : a'.val = off 0 + a.val) (hb : b'.val = off 1 + b.val) :
    View.readAt (Elt Ideal) v (Rect.unit (s := ⟨2, ![n₀, n₁]⟩) off ![m₀, m₁] inb).toLoadRect f (ix2 a b) = v.read (Elt Ideal) f (ix2 a' b') := by
  rw [View.readAt_apply]
  congr 1
  refine funext fun x => Fin.ext ?_
  match x with
  | ⟨0, _⟩ => show off 0 + 1 * a.val = a'.val; omega
  | ⟨1, _⟩ => show off 1 + 1 * b.val = b'.val; omega

/-- The same for a buffer of three axes. -/
theorem readAt3 {n₀ n₁ n₂ m₀ m₁ m₂ : ℕ} (v : View sig κ sp ⟨3, ![n₀, n₁, n₂]⟩ e) (f : v.ty.Contents (Elt Ideal))
    (off : Fin 3 → ℕ) (inb : ∀ a, off a + (![m₀, m₁, m₂] : Fin 3 → ℕ) a ≤ (![n₀, n₁, n₂] : Fin 3 → ℕ) a) (a : Fin m₀) (b : Fin m₁) (d : Fin m₂)
    (a' : Fin n₀) (b' : Fin n₁) (d' : Fin n₂) (ha : a'.val = off 0 + a.val) (hb : b'.val = off 1 + b.val) (hd : d'.val = off 2 + d.val) :
    View.readAt (Elt Ideal) v (Rect.unit (s := ⟨3, ![n₀, n₁, n₂]⟩) off ![m₀, m₁, m₂] inb).toLoadRect f (ix3 a b d)
      = v.read (Elt Ideal) f (ix3 a' b' d') := by
  rw [View.readAt_apply]
  congr 1
  refine funext fun x => Fin.ext ?_
  match x with
  | ⟨0, _⟩ => show off 0 + 1 * a.val = a'.val; omega
  | ⟨1, _⟩ => show off 1 + 1 * b.val = b'.val; omega
  | ⟨2, _⟩ => show off 2 + 1 * d.val = d'.val; omega

/-- A load from a whole matrix of known contents. -/
theorem load2 {n₀ n₁ m₀ m₁ : ℕ} {m : Memref sig κ sp ⟨2, ![n₀, n₁]⟩ e} (h : m.IsWhole) (X : Vec Ideal ⟨2, ![n₀, n₁]⟩ e) (off : Fin 2 → ℕ)
    (inb : ∀ a, off a + (![m₀, m₁] : Fin 2 → ℕ) a ≤ (![n₀, n₁] : Fin 2 → ℕ) a) (a : Fin m₀) (b : Fin m₁) (a' : Fin n₀) (b' : Fin n₁)
    (ha : a'.val = off 0 + a.val) (hb : b'.val = off 1 + b.val) :
    View.readAt (Elt Ideal) m.view (Rect.unit (s := ⟨2, ![n₀, n₁]⟩) off ![m₀, m₁] inb).toLoadRect (h.unread X) (ix2 a b) = X (ix2 a' b') :=
  (readAt2 m.view _ off inb a b a' b' ha hb).trans (congrFun (h.read_unread X) _)

/-- A load from a whole buffer of three axes of known contents. -/
theorem load3 {n₀ n₁ n₂ m₀ m₁ m₂ : ℕ} {m : Memref sig κ sp ⟨3, ![n₀, n₁, n₂]⟩ e} (h : m.IsWhole) (X : Vec Ideal ⟨3, ![n₀, n₁, n₂]⟩ e)
    (off : Fin 3 → ℕ) (inb : ∀ a, off a + (![m₀, m₁, m₂] : Fin 3 → ℕ) a ≤ (![n₀, n₁, n₂] : Fin 3 → ℕ) a) (a : Fin m₀) (b : Fin m₁) (d : Fin m₂)
    (a' : Fin n₀) (b' : Fin n₁) (d' : Fin n₂) (ha : a'.val = off 0 + a.val) (hb : b'.val = off 1 + b.val) (hd : d'.val = off 2 + d.val) :
    View.readAt (Elt Ideal) m.view (Rect.unit (s := ⟨3, ![n₀, n₁, n₂]⟩) off ![m₀, m₁, m₂] inb).toLoadRect (h.unread X) (ix3 a b d) = X (ix3 a' b' d') :=
  (readAt3 m.view _ off inb a b d a' b' d' ha hb hd).trans (congrFun (h.read_unread X) _)

/-- An entry of a matrix under the newest store reads that store's payload. -/
theorem hit2 {n₀ n₁ m₀ m₁ : ℕ} (v : View sig κ sp ⟨2, ![n₀, n₁]⟩ e) (f : v.ty.Contents (Elt Ideal)) {off : Fin 2 → ℕ} (off' : Fin 2 → ℕ)
    (inb : ∀ a, off a + (![m₀, m₁] : Fin 2 → ℕ) a ≤ (![n₀, n₁] : Fin 2 → ℕ) a) (w : (⟨2, ![m₀, m₁]⟩ : Shape).Idx → Elt Ideal e)
    (L : List (View.Piece (Elt Ideal) ⟨2, ![n₀, n₁]⟩ e)) (a : Fin m₀) (b : Fin m₁) (a' : Fin n₀) (b' : Fin n₁) (heq : off = off')
    (ha : a'.val = off' 0 + a.val) (hb : b'.val = off' 1 + b.val) :
    v.read (Elt Ideal) (v.writes (Elt Ideal) f (⟨Rect.unit (s := ⟨2, ![n₀, n₁]⟩) off ![m₀, m₁] inb, w⟩ :: L)) (ix2 a' b') = w (ix2 a b) :=
  View.read_writes_cons_unit_of_mem (s := ⟨2, ![n₀, n₁]⟩) v f inb w L (ix2 a' b') (ix2 a b) heq fun x => match x with
    | ⟨0, _⟩ => ha
    | ⟨1, _⟩ => hb

/-- The same for a buffer of three axes. -/
theorem hit3 {n₀ n₁ n₂ m₀ m₁ m₂ : ℕ} (v : View sig κ sp ⟨3, ![n₀, n₁, n₂]⟩ e) (f : v.ty.Contents (Elt Ideal)) {off : Fin 3 → ℕ} (off' : Fin 3 → ℕ)
    (inb : ∀ a, off a + (![m₀, m₁, m₂] : Fin 3 → ℕ) a ≤ (![n₀, n₁, n₂] : Fin 3 → ℕ) a) (w : (⟨3, ![m₀, m₁, m₂]⟩ : Shape).Idx → Elt Ideal e)
    (L : List (View.Piece (Elt Ideal) ⟨3, ![n₀, n₁, n₂]⟩ e)) (a : Fin m₀) (b : Fin m₁) (d : Fin m₂) (a' : Fin n₀) (b' : Fin n₁) (d' : Fin n₂)
    (heq : off = off') (ha : a'.val = off' 0 + a.val) (hb : b'.val = off' 1 + b.val) (hd : d'.val = off' 2 + d.val) :
    v.read (Elt Ideal) (v.writes (Elt Ideal) f (⟨Rect.unit (s := ⟨3, ![n₀, n₁, n₂]⟩) off ![m₀, m₁, m₂] inb, w⟩ :: L)) (ix3 a' b' d') = w (ix3 a b d) :=
  View.read_writes_cons_unit_of_mem (s := ⟨3, ![n₀, n₁, n₂]⟩) v f inb w L (ix3 a' b' d') (ix3 a b d) heq fun x => match x with
    | ⟨0, _⟩ => ha
    | ⟨1, _⟩ => hb
    | ⟨2, _⟩ => hd

end Loads

end Cert.AttnBwd

end
-- ==== Proof.ValueA.lean ====
/-
  The values of the first step over the keys: each stored vector at an index, in terms of the blocks read.
-/
module

public import proofs.«01_k».proof.Proof.Spec

@[expose] public section

set_option maxRecDepth 16384

noncomputable section

namespace Cert.AttnBwd.StepA

open Cert.KernelIdeal Cert.KernelIdeal.Gen Cert.AttnBwd
open Idealize.ShloMosaic
open scoped BigOperators

/-- The query that position `i` of the step's rows is. -/
def at_ (i : Fin 2048) : Fin 2048 := ⟨0 + i.val, by omega⟩

/-- A sum over all queries of a function that vanishes before the step's first row is the sum over the step's rows. -/
theorem sum_at (f : Fin 2048 → EReal) (hf : ∀ t : Fin 2048, t.val < 0 → f t = 0) : ∑ i : Fin 2048, f (at_ i) = ∑ t, f t :=
  (FinSumWindow.sum_window 0 (by decide) f fun t ht => hf t (by omega)).symm

variable (B : Blocks)

/-- A query before the step's first row has probability zero. -/
theorem prob_before (h : Fin 2) (s : Fin 512) (t : Fin 2048) (ht : t.val < 0) : B.prob 0 h s t = 0 :=
  if_neg (by omega)

/-- A query before the step's first row has score gradient zero. -/
theorem dscore_before (h : Fin 2) (s : Fin 512) (t : Fin 2048) (ht : t.val < 0) : B.dscore 0 h s t = 0 := by
  unfold Blocks.dscore; rw [prob_before B h s t ht, zero_mul]

theorem key0 (x : Vec Ideal S512x128 .bf16) (hx : ∀ s d, x (ix2 s d) = B.k (ix2 s d)) (s : Fin 512) (d : Fin 128) :
    k0_pay20 k0_pay1 x (ix2 s d) = B.key 0 s d := by
  unfold k0_pay20 k0_pay18 Blocks.key
  pointwise
  rw [select_iff (lower d), hx]; rfl

theorem val0 (x : Vec Ideal S512x128 .bf16) (hx : ∀ s d, x (ix2 s d) = B.v (ix2 s d)) (s : Fin 512) (d : Fin 128) :
    k0_pay22 k0_pay1 x (ix2 s d) = B.val 0 s d := by
  unfold k0_pay22 k0_pay19 Blocks.val
  pointwise
  rw [select_iff (lower d), hx]

theorem key1 (x : Vec Ideal S512x128 .bf16) (hx : ∀ s d, x (ix2 s d) = B.k (ix2 s d)) (s : Fin 512) (d : Fin 128) :
    k0_pay21 k0_pay2 x (ix2 s d) = B.key 1 s d := by
  unfold k0_pay21 k0_pay18 Blocks.key
  pointwise
  rw [select_iff (upper d), hx]; rfl

theorem val1 (x : Vec Ideal S512x128 .bf16) (hx : ∀ s d, x (ix2 s d) = B.v (ix2 s d)) (s : Fin 512) (d : Fin 128) :
    k0_pay23 k0_pay2 x (ix2 s d) = B.val 1 s d := by
  unfold k0_pay23 k0_pay19 Blocks.val
  pointwise
  rw [select_iff (upper d), hx]

/-- The step's mask keeps a query at or after the key. -/
theorem mask (s : Fin 512) (i : Fin 2048) :
    (k0_pay24 (Scalar.muli (BitVec.ofNat 32 0) 4#32) (ix2 s i) = 1#1) ↔ 512 * 0 + s.val ≤ (at_ i).val := by
  unfold k0_pay24 at_; pointwise
  rw [show Scalar.muli (Scalar.muli 0#32 4#32) 128#32 = BitVec.ofNat 32 0 by decide]
  simp only [show (0#32 : BitVec 32) = BitVec.ofNat 32 0 from rfl, WordCmp.addi_ofNat]; word_cmp

/-- The same over the grid coordinate. -/
theorem mask_of (i : grid0.Coords) (hi : (i 1).val = 0) (s : Fin 512) (j : Fin 2048) :
    (k0_pay24 (Scalar.muli (BitVec.ofNat 32 (i 1).val) 4#32) (ix2 s j) = 1#1) ↔ 512 * 0 + s.val ≤ (at_ j).val := by
  rw [hi]; exact mask s j

theorem zero_at (s : Fin 512) (j : Fin 2048) : constant (F := Ideal) S512x2048 .f32 0#32 (ix2 s j) = 0 := by
  pointwise

/-- The casts before the stores change no value. -/
theorem cast_dk (x : FVec Ideal S512x128 .f32) (j : S512x128.Idx) : k0_pay6 x j = x j := rfl
theorem cast_dv (x : FVec Ideal S512x128 .f32) (j : S512x128.Idx) : k0_pay7 x j = x j := rfl
theorem cast_dq (x : FVec Ideal S128x2048 .f32) (j : (⟨2, ![128, 2048]⟩ : Shape).Idx) : k0_pay5 x j = x j := shapeCast_at _ _ _

theorem prob0 (xk : FVec Ideal S512x128 .bf16) (hxk : ∀ s d, xk (ix2 s d) = B.key 0 s d) (xq : Vec Ideal S2048x128 .bf16) (hxq : ∀ i d, xq (ix2 i d) = B.q (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (s : Fin 512) (i : Fin 2048) :
    k0_pay25 xk xq mk z xc xd xl (ix2 s i) = B.prob 0 0 s (at_ i) := by
  unfold k0_pay25
  pointwise
  rw [select_iff (hmk s i)]
  simp only [hz, zero_add, hxk, hxq, hxc, hxd, hxl]; rfl

theorem prob1 (xk : FVec Ideal S512x128 .bf16) (hxk : ∀ s d, xk (ix2 s d) = B.key 1 s d) (xq : Vec Ideal S2048x128 .bf16) (hxq : ∀ i d, xq (ix2 i d) = B.q (ix2 (at_ i) d)) (mk : IVec S512x2048 1) (hmk : ∀ s i, (mk (ix2 s i) = 1#1) ↔ 512 * 0 + s.val ≤ (at_ i).val) (xc : Vec Ideal S1x1x2048 .f32) (hxc : ∀ i, xc (ix3 0 0 i) = B.cq (ix3 0 1 (at_ i))) (xd : Vec Ideal S1x512x1 .f32) (hxd : ∀ s, xd (ix3 0 s 0) = B.ck (ix3 0 s 1)) (xl : Vec Ideal S1x1x2048 .f32) (hxl : ∀ i, xl (ix3 0 0 i) = B.lse (ix3 0 1 (at_ i))) (s : Fin 512) (i : Fin 2048) :
    k0_pay34 xk xq mk xc xd xl (ix2 s i) = B.prob 0 1 s (at_ i) := by
  unfold k0_pay34
  pointwise
  rw [select_iff (hmk s i)]
  simp only [hxk, hxq, hxc, hxd, hxl]; rfl

theorem dscore0 (xk : FVec Ideal S512x128 .bf16) (hxk : ∀ s d, xk (ix2 s d) = B.key 0 s d) (xv : FVec Ideal S512x128 .bf16) (hxv : ∀ s d, xv (ix2 s d) = B.val 0 s d) (xq : Vec Ideal S2048x128 .bf16) (hxq : ∀ i d, xq (ix2 i d) = B.q (ix2 (at_ i) d)) (xg : Vec Ideal S2048x128 .bf16) (hxg : ∀ i d, xg (ix2 i d) = B.go (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (xm : Vec Ideal S1x1x2048 .f32) (hxm : ∀ i, xm (ix3 0 0 i) = B.delta (ix3 0 0 (at_ i))) (s : Fin 512) (i : Fin 2048) :
    k0_pay26 xk xv xq xg mk z xc xd xl xm (ix2 s i) = B.dscore 0 0 s (at_ i) := by
  unfold k0_pay26 Blocks.dscore
  pointwise
  rw [prob0 B xk hxk xq hxq mk hmk z hz xc hxc xd hxd xl hxl]
  simp only [hxv, hxg, hxm]

theorem dscore0' (xk : FVec Ideal S512x128 .bf16) (hxk : ∀ s d, xk (ix2 s d) = B.key 0 s d) (xv : FVec Ideal S512x128 .bf16) (hxv : ∀ s d, xv (ix2 s d) = B.val 0 s d) (xq : Vec Ideal S2048x128 .bf16) (hxq : ∀ i d, xq (ix2 i d) = B.q (ix2 (at_ i) d)) (xg : Vec Ideal S2048x128 .bf16) (hxg : ∀ i d, xg (ix2 i d) = B.go (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (xm : Vec Ideal S1x1x2048 .f32) (hxm : ∀ i, xm (ix3 0 0 i) = B.delta (ix3 0 0 (at_ i))) (s : Fin 512) (i : Fin 2048) :
    k0_pay27 xk xv xq xg mk z xc xd xl xm (ix2 s i) = B.dscore 0 0 s (at_ i) := by
  unfold k0_pay27
  pointwise
  exact dscore0 B xk hxk xv hxv xq hxq xg hxg mk hmk z hz xc hxc xd hxd xl hxl xm hxm s i

theorem inner1 (xv : FVec Ideal S512x128 .bf16) (hxv : ∀ s d, xv (ix2 s d) = B.val 1 s d) (xg : Vec Ideal S2048x128 .bf16) (hxg : ∀ i d, xg (ix2 i d) = B.go (ix2 (at_ i) d)) (xm : Vec Ideal S1x1x2048 .f32) (hxm : ∀ i, xm (ix3 0 0 i) = B.delta (ix3 0 1 (at_ i))) (s : Fin 512) (i : Fin 2048) :
    k0_pay35 xv xg xm (ix2 s i) = (∑ d : Fin 128, B.val 1 s d * B.go (ix2 (at_ i) d)) - B.delta (ix3 0 1 (at_ i)) := by
  unfold k0_pay35
  pointwise
  simp only [hxv, hxg, hxm]

theorem dscore1 (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (s : Fin 512) (i : Fin 2048) :
    k0_pay36 p w (ix2 s i) = B.dscore 0 1 s (at_ i) := by
  unfold k0_pay36 Blocks.dscore
  pointwise
  rw [hp, hw]

theorem dscore1' (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (s : Fin 512) (i : Fin 2048) :
    k0_pay37 p w (ix2 s i) = B.dscore 0 1 s (at_ i) := by
  unfold k0_pay37
  pointwise
  exact dscore1 B p hp w hw s i

theorem dval_lower (xk : FVec Ideal S512x128 .bf16) (hxk : ∀ s d, xk (ix2 s d) = B.key 0 s d) (xq : Vec Ideal S2048x128 .bf16) (hxq : ∀ i d, xq (ix2 i d) = B.q (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (xg : Vec Ideal S2048x128 .bf16) (hxg : ∀ i d, xg (ix2 i d) = B.go (ix2 (at_ i) d)) (s : Fin 512) (d : Fin 128) :
    k0_pay28 k0_pay1 xk xq xg mk z xc xd xl (ix2 s d) = if lane 0 d then ∑ t, B.prob 0 0 s t * B.go (ix2 t d) else 0 := by
  unfold k0_pay28
  pointwise
  rw [select_iff (lower d)]
  simp only [prob0 B xk hxk xq hxq mk hmk z hz xc hxc xd hxd xl hxl, hxg]
  rw [sum_at (fun t => B.prob 0 0 s t * B.go (ix2 t d)) fun t ht => by rw [prob_before B 0 s t ht, zero_mul]]

theorem dkey_lower (xk : FVec Ideal S512x128 .bf16) (hxk : ∀ s d, xk (ix2 s d) = B.key 0 s d) (xv : FVec Ideal S512x128 .bf16) (hxv : ∀ s d, xv (ix2 s d) = B.val 0 s d) (xq : Vec Ideal S2048x128 .bf16) (hxq : ∀ i d, xq (ix2 i d) = B.q (ix2 (at_ i) d)) (xg : Vec Ideal S2048x128 .bf16) (hxg : ∀ i d, xg (ix2 i d) = B.go (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (xm : Vec Ideal S1x1x2048 .f32) (hxm : ∀ i, xm (ix3 0 0 i) = B.delta (ix3 0 0 (at_ i))) (s : Fin 512) (d : Fin 128) :
    k0_pay29 k0_pay1 xk xv xq xg mk z xc xd xl xm (ix2 s d) = if lane 0 d then (∑ t, B.dscore 0 0 s t * B.q (ix2 t d)) * eighth else 0 := by
  unfold k0_pay29
  pointwise
  rw [select_iff (lower d)]
  simp only [dscore0' B xk hxk xv hxv xq hxq xg hxg mk hmk z hz xc hxc xd hxd xl hxl xm hxm, hxq]
  rw [sum_at (fun t => B.dscore 0 0 s t * B.q (ix2 t d)) fun t ht => by rw [dscore_before B 0 s t ht, zero_mul]]
  rfl

/-- The stored value gradient. -/
theorem dval_eq (xg : Vec Ideal S2048x128 .bf16) (hxg : ∀ i d, xg (ix2 i d) = B.go (ix2 (at_ i) d)) (y : FVec Ideal S512x128 .f32) (hy : ∀ s d, y (ix2 s d) = if lane 0 d then ∑ t, B.prob 0 0 s t * B.go (ix2 t d) else 0) (p : FVec Ideal S512x2048 .f32) (hp : ∀ s i, p (ix2 s i) = B.prob 0 1 s (at_ i)) (s : Fin 512) (d : Fin 128) :
    k0_pay38 k0_pay2 xg y p (ix2 s d) = B.dval 0 s d := by
  unfold k0_pay38 Blocks.dval
  pointwise
  rw [select_iff (upper d), hy]
  simp only [hp, hxg]
  rw [sum_at (fun t => B.prob 0 1 s t * B.go (ix2 t d)) fun t ht => by rw [prob_before B 1 s t ht, zero_mul]]
  exact by_head (fun h => ∑ t, B.prob 0 h s t * B.go (ix2 t d)) d

/-- The stored key gradient. -/
theorem dkey_eq (xq : Vec Ideal S2048x128 .bf16) (hxq : ∀ i d, xq (ix2 i d) = B.q (ix2 (at_ i) d)) (y : FVec Ideal S512x128 .f32) (hy : ∀ s d, y (ix2 s d) = if lane 0 d then (∑ t, B.dscore 0 0 s t * B.q (ix2 t d)) * eighth else 0) (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (s : Fin 512) (d : Fin 128) :
    k0_pay39 k0_pay2 xq y p w (ix2 s d) = B.dkey 0 s d := by
  unfold k0_pay39 Blocks.dkey
  pointwise
  rw [select_iff (upper d), hy]
  simp only [dscore1' B p hp w hw, hxq]
  rw [sum_at (fun t => B.dscore 0 1 s t * B.q (ix2 t d)) fun t ht => by rw [dscore_before B 1 s t ht, zero_mul]]
  exact by_head (fun h => (∑ t, B.dscore 0 h s t * B.q (ix2 t d)) * eighth) d

/-- The stored gradient of the first head's decay at the keys. -/
theorem decayK0 (xk : FVec Ideal S512x128 .bf16) (hxk : ∀ s d, xk (ix2 s d) = B.key 0 s d) (xv : FVec Ideal S512x128 .bf16) (hxv : ∀ s d, xv (ix2 s d) = B.val 0 s d) (xq : Vec Ideal S2048x128 .bf16) (hxq : ∀ i d, xq (ix2 i d) = B.q (ix2 (at_ i) d)) (xg : Vec Ideal S2048x128 .bf16) (hxg : ∀ i d, xg (ix2 i d) = B.go (ix2 (at_ i) d)) (mk : IVec S512x2048 1) (hmk : ∀ s i, (mk (ix2 s i) = 1#1) ↔ 512 * 0 + s.val ≤ (at_ i).val) (z : FVec Ideal S512x2048 .f32) (hz : ∀ s i, z (ix2 s i) = 0) (xc : Vec Ideal S1x1x2048 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x2048 .f32) (hxl : ∀ i, xl (ix3 0 0 i) = B.lse (ix3 0 0 (at_ i))) (xm : Vec Ideal S1x1x2048 .f32) (hxm : ∀ i, xm (ix3 0 0 i) = B.delta (ix3 0 0 (at_ i))) (s : Fin 512) :
    k0_pay32 (k0_pay30 xk xv xq xg mk z xc xd xl xm) k0_pay31 (ix3 0 s 0) = B.ddecayK 0 s 0 := by
  unfold k0_pay32 k0_pay31 k0_pay30 Blocks.ddecayK
  pointwise
  simp only [dscore0 B xk hxk xv hxv xq hxq xg hxg mk hmk z hz xc hxc xd hxd xl hxl xm hxm]
  rw [sum_at (B.dscore 0 0 s) (dscore_before B 0 s)]

/-- The stored gradient of the second head's decay at the keys. -/
theorem decayK1 (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (s : Fin 512) :
    k0_pay40 p w (ix3 0 s 0) = B.ddecayK 0 s 1 := by
  unfold k0_pay40 Blocks.ddecayK
  pointwise
  simp only [dscore1 B p hp w hw]
  rw [sum_at (B.dscore 0 1 s) (dscore_before B 1 s)]

/-- The stored gradient of the first head's decay at the queries. -/
theorem decayQ0 (x : FVec Ideal S512x2048 .f32) (hx : ∀ s i, x (ix2 s i) = B.dscore 0 0 s (at_ i)) (o : Vec Ideal S1x1x2048 .f32) (i : Fin 2048) :
    k0_pay33 x o (ix3 0 0 i) = o (ix3 0 0 i) + B.ddecayQ 0 0 (at_ i) := by
  unfold k0_pay33 Blocks.ddecayQ
  pointwise
  simp only [hx]

/-- The stored gradient of the second head's decay at the queries. -/
theorem decayQ1 (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (o : Vec Ideal S1x1x2048 .f32) (i : Fin 2048) :
    k0_pay41 p w o (ix3 0 0 i) = o (ix3 0 0 i) + B.ddecayQ 0 1 (at_ i) := by
  unfold k0_pay41 Blocks.ddecayQ
  pointwise
  simp only [dscore1 B p hp w hw]

/-- The running sum of the query gradient. -/
theorem dquery_eq (k0 k1 : FVec Ideal S512x128 .bf16) (hk0 : ∀ s d, k0 (ix2 s d) = B.key 0 s d) (hk1 : ∀ s d, k1 (ix2 s d) = B.key 1 s d)
    (x : FVec Ideal S512x2048 .bf16) (hx : ∀ s i, x (ix2 s i) = B.dscore 0 0 s (at_ i)) (p : FVec Ideal S512x2048 .f32) (hp : ∀ s i, p (ix2 s i) = B.prob 0 1 s (at_ i)) (w : FVec Ideal S512x2048 .f32) (hw : ∀ s i, w (ix2 s i) = (∑ d : Fin 128, B.val 1 s d * B.go (ix2 (at_ i) d)) - B.delta (ix3 0 1 (at_ i))) (o : Vec Ideal S128x2048 .f32) (d : Fin 128) (i : Fin 2048) :
    k0_pay42 k0 k1 x p w o (ix2 d i) = o (ix2 d i) + B.dquery 0 d (at_ i) := by
  unfold k0_pay42 Blocks.dquery
  pointwise
  simp only [dscore1' B p hp w hw, hk0, hk1, hx]

end Cert.AttnBwd.StepA

end
-- ==== Proof.ResultA.lean ====
/-
  What the first step over the keys leaves in each buffer, read off the stores it makes.
-/
module

public import proofs.«01_k».proof.Proof.BodyA
public import proofs.«01_k».proof.Proof.ValueA

@[expose] public section

set_option maxRecDepth 16384

noncomputable section

namespace Cert.AttnBwd.StepA

open Cert.KernelIdeal Cert.KernelIdeal.Gen Cert.AttnBwd
open Idealize.ShloMosaic Idealize.ShloMosaic.TcCoe Idealize.ShloMosaic.Tactic

variable (B : Blocks)

/-- The first row of the step's keys, as the kernel computes it. -/
theorem row_off (i : grid0.Coords) (hi : (i 1).val = 0) :
    ![(Scalar.indexCast (Scalar.muli (Scalar.muli (BitVec.ofNat 32 (i 1).val) 4#32) 128#32)).toNat, 0] = (![512 * 0, 0] : Fin 2 → ℕ) := by
  rw [hi]; rfl

/-- Every query is before the step's first row or at one of its rows. -/
theorem before_or_at (t : Fin 2048) : t.val < 0 ∨ ∃ i, t = at_ i := by
  by_cases h : t.val < 0
  · exact .inl h
  · exact .inr ⟨⟨t.val - 0, by omega⟩, Fin.ext (show t.val = 0 + (t.val - 0) by omega)⟩

/-- Nothing is added to the decay gradient of a query before the step's first row. -/
theorem decayQ_before (h : Fin 2) (t : Fin 2048) (ht : t.val < 0) : B.ddecayQ 0 h t = 0 :=
  Finset.sum_eq_zero fun s _ => dscore_before B h s t ht

/-- Nothing is added to the gradient of a query before the step's first row. -/
theorem dquery_before (d : Fin 128) (t : Fin 2048) (ht : t.val < 0) : B.dquery 0 d t = 0 := by
  unfold Blocks.dquery
  simp only [dscore_before B _ _ t ht, mul_zero, Finset.sum_const_zero, add_zero]

-- many loads are resolved
set_option maxHeartbeats 1000000 in
/-- The first step leaves what its specification says. -/
theorem step (c : Dev nD) (i : grid0.Coords) (hi : (i 1).val = 0) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) :
    Step 0 B x11 x12 (fun _ => 0) (fun _ => 0) (arg11.view.read (Elt Ideal) (arg11.view.writes (Elt Ideal) (harg11.unread x11) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.1)) (arg12.view.read (Elt Ideal) (arg12.view.writes (Elt Ideal) (harg12.unread x12) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.1)) (arg13.view.read (Elt Ideal) (arg13.view.writes (Elt Ideal) (harg13.unread x13) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.1)) (arg14.view.read (Elt Ideal) (arg14.view.writes (Elt Ideal) (harg14.unread x14) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.1)) (arg15.view.read (Elt Ideal) (arg15.view.writes (Elt Ideal) (harg15.unread x15) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2)) := by
  constructor
  case dk =>
    intro s d r hr
    unfold runA
    sl_unfold_words
    dsimp only
    refine (hit2 arg11.view _ (![512 * 0, 0]) _ _ _ s d r d (row_off i hi) hr (Nat.zero_add _).symm).trans ?_
    exact (cast_dk _ _).trans (dkey_eq B _ (fun j d => load2 harg2 B.q _ _ j d (at_ j) d rfl (Nat.zero_add _).symm) _ (dkey_lower B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s d)
  case dk_else =>
    intro r d hr
    unfold runA
    sl_unfold_words
    dsimp only
    refine (View.read_writes_cons_unit_of_not_mem arg11.view _ _ _ _ (ix2 r d) (off' := ![512 * 0, 0]) (row_off i hi) 0 (by exact hr)).trans ?_
    exact congrFun (harg11.read_unread x11) _
  case dv =>
    intro s d r hr
    unfold runA
    sl_unfold_words
    dsimp only
    refine (hit2 arg12.view _ (![512 * 0, 0]) _ _ _ s d r d (row_off i hi) hr (Nat.zero_add _).symm).trans ?_
    exact (cast_dv _ _).trans (dval_eq B _ (fun j d => load2 harg5 B.go _ _ j d (at_ j) d rfl (Nat.zero_add _).symm) _ (dval_lower B _ (key0 B _ (fun s d => load2 harg3 B.k _ _ s d s d (Nat.zero_add _).symm (Nat.zero_add _).symm)) _ (fun j d => load2 harg2 B.q _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j d => load2 harg5 B.go _ _ j d (at_ j) d rfl (Nat.zero_add _).symm)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) s d)
  case dv_else =>
    intro r d hr
    unfold runA
    sl_unfold_words
    dsimp only
    refine (View.read_writes_cons_unit_of_not_mem arg12.view _ _ _ _ (ix2 r d) (off' := ![512 * 0, 0]) (row_off i hi) 0 (by exact hr)).trans ?_
    exact congrFun (harg12.read_unread x12) _
  case decayK =>
    intro s h
    unfold runA
    sl_unfold_words
    dsimp only
    match h with
    | ⟨0, _⟩ =>
      refine (View.read_writes_cons_unit_of_not_mem arg13.view _ _ _ _ (ix3 0 s 0) rfl 2 (.inl Nat.zero_lt_one)).trans ?_
      refine (hit3 arg13.view _ ![0, 0, 0] _ _ _ 0 s 0 0 s 0 rfl rfl (Nat.zero_add _).symm rfl).trans ?_
      exact decayK0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl) s
    | ⟨1, _⟩ =>
      refine (hit3 arg13.view _ ![0, 0, 1] _ _ _ 0 s 0 0 s 1 rfl rfl (Nat.zero_add _).symm rfl).trans ?_
      exact decayK1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s
  case decayQ =>
    intro h t
    unfold runA
    sl_unfold_words
    dsimp only
    obtain rfl | rfl : h = 0 ∨ h = 1 := by
      match h with
      | ⟨0, _⟩ => exact .inl rfl
      | ⟨1, _⟩ => exact .inr rfl
    all_goals obtain ht | ⟨j, rfl⟩ := before_or_at t
    · exact absurd ht (Nat.not_lt_zero _)
    · refine (View.read_writes_cons_unit_of_not_mem arg14.view _ _ _ _ (ix3 0 0 (at_ j)) rfl 1 (.inl Nat.zero_lt_one)).trans ?_
      refine (hit3 arg14.view _ ![0, 0, 0] _ _ _ 0 0 j 0 0 (at_ j) rfl rfl rfl rfl).trans ?_
      refine (decayQ0 B _ (dscore0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ j).trans (congrArg (· + B.ddecayQ 0 0 (at_ j)) ?_)
      refine (readAt3 arg14.view _ _ _ 0 0 j 0 0 (at_ j) rfl rfl rfl).trans ?_
      refine (hit3 arg14.view _ ![0, 0, 0] _ _ _ 0 0 (at_ j) 0 0 (at_ j) rfl rfl rfl (Nat.zero_add _).symm).trans ?_
      unfold k0_pay4; pointwise
    · exact absurd ht (Nat.not_lt_zero _)
    · refine (hit3 arg14.view _ ![0, 1, 0] _ _ _ 0 0 j 0 1 (at_ j) rfl rfl rfl rfl).trans ?_
      refine (decayQ1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ j).trans (congrArg (· + B.ddecayQ 0 1 (at_ j)) ?_)
      refine (readAt3 arg14.view _ _ _ 0 0 j 0 1 (at_ j) rfl rfl rfl).trans ?_
      refine (View.read_writes_cons_unit_of_not_mem arg14.view _ _ _ _ (ix3 0 1 (at_ j)) rfl 1 (.inr (le_refl 1))).trans ?_
      refine (hit3 arg14.view _ ![0, 0, 0] _ _ _ 0 1 (at_ j) 0 1 (at_ j) rfl rfl rfl (Nat.zero_add _).symm).trans ?_
      unfold k0_pay4; pointwise
  case dq =>
    intro d t
    unfold runA
    sl_unfold_words
    dsimp only
    obtain ht | ⟨j, rfl⟩ := before_or_at t
    · exact absurd ht (Nat.not_lt_zero _)
    · refine (hit2 arg15.view _ ![0, 0] _ _ _ d j d (at_ j) rfl (Nat.zero_add _).symm rfl).trans ?_
      refine (cast_dq _ _).trans ((dquery_eq B _ _ (key0 B _ (fun s d => load2 harg3 B.k _ _ s d s d (Nat.zero_add _).symm (Nat.zero_add _).symm)) (key1 B _ (fun s d => load2 harg3 B.k _ _ s d s d (Nat.zero_add _).symm (Nat.zero_add _).symm)) _ (dscore0' B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ d j).trans (congrArg (· + B.dquery 0 d (at_ j)) ?_))
      refine (readAt2 arg15.view _ _ _ d j d (at_ j) (Nat.zero_add _).symm rfl).trans ?_
      refine (hit2 arg15.view _ ![0, 0] _ _ _ d (at_ j) d (at_ j) rfl (Nat.zero_add _).symm (Nat.zero_add _).symm).trans ?_
      unfold k0_pay3; pointwise

end Cert.AttnBwd.StepA

end
-- ==== Proof.BodyB.lean ====
/-
  The body of the attention gradient at the second of the four steps over the keys: what its stores leave in each buffer, as a list of pieces.
-/
module

public import proofs.«01_k».proof.Proof.Gen.KernelIdeal.Frame
public import proofs.«01_k».proof.Proof.Gen.KernelIdeal.Skeleton

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's proof term is large
set_option maxHeartbeats 2000000 in
/-- At the second step of a head pair, on whole buffers at any contents, the body runs to the end, leaves the eight inputs as they were and
    writes the listed pieces over what each output and the running sum for the query gradient held. -/
def runB (c : Dev nD) (i : grid0.Coords) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (x2 : Vec F S2048x128 .bf16) (x3 : Vec F S512x128 .bf16) (x4 : Vec F S512x128 .bf16) (x5 : Vec F S2048x128 .bf16) (x6 : Vec F S1x2x2048 .f32) (x7 : Vec F S1x2x2048 .f32) (x8 : Vec F S1x2x2048 .f32) (x9 : Vec F S1x512x2 .f32) (x10 : Vec F S2048x128 .bf16) (x11 : Vec F S2048x128 .bf16) (x12 : Vec F S2048x128 .bf16) (x13 : Vec F S1x512x2 .f32) (x14 : Vec F S1x2x2048 .f32) (x15 : Vec F S128x2048 .f32) :
    { L : List (View.Piece (Elt F) S2048x128 .bf16) × List (View.Piece (Elt F) S2048x128 .bf16) × List (View.Piece (Elt F) S1x512x2 .f32) × List (View.Piece (Elt F) S1x2x2048 .f32) × List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2.1) ∗ (arg14.view.loc (c : Thread nD τ) ↦[arg14.view.set]{fullShare} arg14.view.writes (Elt F) (harg14.unread x14) L.2.2.2.1) ∗ (arg15.view.loc (c : Thread nD τ) ↦[arg15.view.set]{fullShare} arg15.view.writes (Elt F) (harg15.unread x15) L.2.2.2.2)) -∗ K ⟨⟩))
          ⊢ wp frame (wpE (defs₀ (F := F)) Variants.none c none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_, ?_, ?_), fun E K => ?run⟩
  case run =>
    simp only [cc0_attn_b_bwd_eq_skeleton]; unfold cc0_attn_b_bwd_skel
    simp only [k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5 | sl_exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    iexact H15

end Cert.AttnBwd

end
-- ==== Proof.ValueB.lean ====
/-
  The values of the second step over the keys: each stored vector at an index, in terms of the blocks read.
-/
module

public import proofs.«01_k».proof.Proof.Spec

@[expose] public section

set_option maxRecDepth 16384

noncomputable section

namespace Cert.AttnBwd.StepB

open Cert.KernelIdeal Cert.KernelIdeal.Gen Cert.AttnBwd
open Idealize.ShloMosaic
open scoped BigOperators

/-- The query that position `i` of the step's rows is. -/
def at_ (i : Fin 1536) : Fin 2048 := ⟨512 + i.val, by omega⟩

/-- A sum over all queries of a function that vanishes before the step's first row is the sum over the step's rows. -/
theorem sum_at (f : Fin 2048 → EReal) (hf : ∀ t : Fin 2048, t.val < 512 → f t = 0) : ∑ i : Fin 1536, f (at_ i) = ∑ t, f t :=
  (FinSumWindow.sum_window 512 (by decide) f fun t ht => hf t (by omega)).symm

variable (B : Blocks)

/-- A query before the step's first row has probability zero. -/
theorem prob_before (h : Fin 2) (s : Fin 512) (t : Fin 2048) (ht : t.val < 512) : B.prob 1 h s t = 0 :=
  if_neg (by omega)

/-- A query before the step's first row has score gradient zero. -/
theorem dscore_before (h : Fin 2) (s : Fin 512) (t : Fin 2048) (ht : t.val < 512) : B.dscore 1 h s t = 0 := by
  unfold Blocks.dscore; rw [prob_before B h s t ht, zero_mul]

theorem key0 (x : Vec Ideal S512x128 .bf16) (hx : ∀ s d, x (ix2 s d) = B.k (ix2 s d)) (s : Fin 512) (d : Fin 128) :
    k0_pay45 k0_pay1 x (ix2 s d) = B.key 0 s d := by
  unfold k0_pay45 k0_pay43 Blocks.key
  pointwise
  rw [select_iff (lower d), hx]; rfl

theorem val0 (x : Vec Ideal S512x128 .bf16) (hx : ∀ s d, x (ix2 s d) = B.v (ix2 s d)) (s : Fin 512) (d : Fin 128) :
    k0_pay47 k0_pay1 x (ix2 s d) = B.val 0 s d := by
  unfold k0_pay47 k0_pay44 Blocks.val
  pointwise
  rw [select_iff (lower d), hx]

theorem key1 (x : Vec Ideal S512x128 .bf16) (hx : ∀ s d, x (ix2 s d) = B.k (ix2 s d)) (s : Fin 512) (d : Fin 128) :
    k0_pay46 k0_pay2 x (ix2 s d) = B.key 1 s d := by
  unfold k0_pay46 k0_pay43 Blocks.key
  pointwise
  rw [select_iff (upper d), hx]; rfl

theorem val1 (x : Vec Ideal S512x128 .bf16) (hx : ∀ s d, x (ix2 s d) = B.v (ix2 s d)) (s : Fin 512) (d : Fin 128) :
    k0_pay48 k0_pay2 x (ix2 s d) = B.val 1 s d := by
  unfold k0_pay48 k0_pay44 Blocks.val
  pointwise
  rw [select_iff (upper d), hx]

/-- The step's mask keeps a query at or after the key. -/
theorem mask (s : Fin 512) (i : Fin 1536) :
    (k0_pay49 (Scalar.muli (BitVec.ofNat 32 1) 4#32) (ix2 s i) = 1#1) ↔ 512 * 1 + s.val ≤ (at_ i).val := by
  unfold k0_pay49 at_; pointwise
  rw [show Scalar.muli (Scalar.muli 1#32 4#32) 128#32 = BitVec.ofNat 32 512 by decide]
  simp only [show (512#32 : BitVec 32) = BitVec.ofNat 32 512 from rfl, WordCmp.addi_ofNat]; word_cmp

/-- The same over the grid coordinate. -/
theorem mask_of (i : grid0.Coords) (hi : (i 1).val = 1) (s : Fin 512) (j : Fin 1536) :
    (k0_pay49 (Scalar.muli (BitVec.ofNat 32 (i 1).val) 4#32) (ix2 s j) = 1#1) ↔ 512 * 1 + s.val ≤ (at_ j).val := by
  rw [hi]; exact mask s j

theorem zero_at (s : Fin 512) (j : Fin 1536) : constant (F := Ideal) S512x1536 .f32 0#32 (ix2 s j) = 0 := by
  pointwise

/-- The casts before the stores change no value. -/
theorem cast_dk (x : FVec Ideal S512x128 .f32) (j : S512x128.Idx) : k0_pay9 x j = x j := rfl
theorem cast_dv (x : FVec Ideal S512x128 .f32) (j : S512x128.Idx) : k0_pay10 x j = x j := rfl
theorem cast_dq (x : FVec Ideal S128x1536 .f32) (j : (⟨2, ![128, 1536]⟩ : Shape).Idx) : k0_pay8 x j = x j := shapeCast_at _ _ _

theorem prob0 (xk : FVec Ideal S512x128 .bf16) (hxk : ∀ s d, xk (ix2 s d) = B.key 0 s d) (xq : Vec Ideal S1536x128 .bf16) (hxq : ∀ i d, xq (ix2 i d) = B.q (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (s : Fin 512) (i : Fin 1536) :
    k0_pay50 xk xq mk z xc xd xl (ix2 s i) = B.prob 1 0 s (at_ i) := by
  unfold k0_pay50
  pointwise
  rw [select_iff (hmk s i)]
  simp only [hz, zero_add, hxk, hxq, hxc, hxd, hxl]; rfl

theorem prob1 (xk : FVec Ideal S512x128 .bf16) (hxk : ∀ s d, xk (ix2 s d) = B.key 1 s d) (xq : Vec Ideal S1536x128 .bf16) (hxq : ∀ i d, xq (ix2 i d) = B.q (ix2 (at_ i) d)) (mk : IVec S512x1536 1) (hmk : ∀ s i, (mk (ix2 s i) = 1#1) ↔ 512 * 1 + s.val ≤ (at_ i).val) (xc : Vec Ideal S1x1x1536 .f32) (hxc : ∀ i, xc (ix3 0 0 i) = B.cq (ix3 0 1 (at_ i))) (xd : Vec Ideal S1x512x1 .f32) (hxd : ∀ s, xd (ix3 0 s 0) = B.ck (ix3 0 s 1)) (xl : Vec Ideal S1x1x1536 .f32) (hxl : ∀ i, xl (ix3 0 0 i) = B.lse (ix3 0 1 (at_ i))) (s : Fin 512) (i : Fin 1536) :
    k0_pay59 xk xq mk xc xd xl (ix2 s i) = B.prob 1 1 s (at_ i) := by
  unfold k0_pay59
  pointwise
  rw [select_iff (hmk s i)]
  simp only [hxk, hxq, hxc, hxd, hxl]; rfl

theorem dscore0 (xk : FVec Ideal S512x128 .bf16) (hxk : ∀ s d, xk (ix2 s d) = B.key 0 s d) (xv : FVec Ideal S512x128 .bf16) (hxv : ∀ s d, xv (ix2 s d) = B.val 0 s d) (xq : Vec Ideal S1536x128 .bf16) (hxq : ∀ i d, xq (ix2 i d) = B.q (ix2 (at_ i) d)) (xg : Vec Ideal S1536x128 .bf16) (hxg : ∀ i d, xg (ix2 i d) = B.go (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (xm : Vec Ideal S1x1x1536 .f32) (hxm : ∀ i, xm (ix3 0 0 i) = B.delta (ix3 0 0 (at_ i))) (s : Fin 512) (i : Fin 1536) :
    k0_pay51 xk xv xq xg mk z xc xd xl xm (ix2 s i) = B.dscore 1 0 s (at_ i) := by
  unfold k0_pay51 Blocks.dscore
  pointwise
  rw [prob0 B xk hxk xq hxq mk hmk z hz xc hxc xd hxd xl hxl]
  simp only [hxv, hxg, hxm]

theorem dscore0' (xk : FVec Ideal S512x128 .bf16) (hxk : ∀ s d, xk (ix2 s d) = B.key 0 s d) (xv : FVec Ideal S512x128 .bf16) (hxv : ∀ s d, xv (ix2 s d) = B.val 0 s d) (xq : Vec Ideal S1536x128 .bf16) (hxq : ∀ i d, xq (ix2 i d) = B.q (ix2 (at_ i) d)) (xg : Vec Ideal S1536x128 .bf16) (hxg : ∀ i d, xg (ix2 i d) = B.go (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (xm : Vec Ideal S1x1x1536 .f32) (hxm : ∀ i, xm (ix3 0 0 i) = B.delta (ix3 0 0 (at_ i))) (s : Fin 512) (i : Fin 1536) :
    k0_pay52 xk xv xq xg mk z xc xd xl xm (ix2 s i) = B.dscore 1 0 s (at_ i) := by
  unfold k0_pay52
  pointwise
  exact dscore0 B xk hxk xv hxv xq hxq xg hxg mk hmk z hz xc hxc xd hxd xl hxl xm hxm s i

theorem inner1 (xv : FVec Ideal S512x128 .bf16) (hxv : ∀ s d, xv (ix2 s d) = B.val 1 s d) (xg : Vec Ideal S1536x128 .bf16) (hxg : ∀ i d, xg (ix2 i d) = B.go (ix2 (at_ i) d)) (xm : Vec Ideal S1x1x1536 .f32) (hxm : ∀ i, xm (ix3 0 0 i) = B.delta (ix3 0 1 (at_ i))) (s : Fin 512) (i : Fin 1536) :
    k0_pay60 xv xg xm (ix2 s i) = (∑ d : Fin 128, B.val 1 s d * B.go (ix2 (at_ i) d)) - B.delta (ix3 0 1 (at_ i)) := by
  unfold k0_pay60
  pointwise
  simp only [hxv, hxg, hxm]

theorem dscore1 (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (s : Fin 512) (i : Fin 1536) :
    k0_pay61 p w (ix2 s i) = B.dscore 1 1 s (at_ i) := by
  unfold k0_pay61 Blocks.dscore
  pointwise
  rw [hp, hw]

theorem dscore1' (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (s : Fin 512) (i : Fin 1536) :
    k0_pay62 p w (ix2 s i) = B.dscore 1 1 s (at_ i) := by
  unfold k0_pay62
  pointwise
  exact dscore1 B p hp w hw s i

theorem dval_lower (xk : FVec Ideal S512x128 .bf16) (hxk : ∀ s d, xk (ix2 s d) = B.key 0 s d) (xq : Vec Ideal S1536x128 .bf16) (hxq : ∀ i d, xq (ix2 i d) = B.q (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (xg : Vec Ideal S1536x128 .bf16) (hxg : ∀ i d, xg (ix2 i d) = B.go (ix2 (at_ i) d)) (s : Fin 512) (d : Fin 128) :
    k0_pay53 k0_pay1 xk xq xg mk z xc xd xl (ix2 s d) = if lane 0 d then ∑ t, B.prob 1 0 s t * B.go (ix2 t d) else 0 := by
  unfold k0_pay53
  pointwise
  rw [select_iff (lower d)]
  simp only [prob0 B xk hxk xq hxq mk hmk z hz xc hxc xd hxd xl hxl, hxg]
  rw [sum_at (fun t => B.prob 1 0 s t * B.go (ix2 t d)) fun t ht => by rw [prob_before B 0 s t ht, zero_mul]]

theorem dkey_lower (xk : FVec Ideal S512x128 .bf16) (hxk : ∀ s d, xk (ix2 s d) = B.key 0 s d) (xv : FVec Ideal S512x128 .bf16) (hxv : ∀ s d, xv (ix2 s d) = B.val 0 s d) (xq : Vec Ideal S1536x128 .bf16) (hxq : ∀ i d, xq (ix2 i d) = B.q (ix2 (at_ i) d)) (xg : Vec Ideal S1536x128 .bf16) (hxg : ∀ i d, xg (ix2 i d) = B.go (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (xm : Vec Ideal S1x1x1536 .f32) (hxm : ∀ i, xm (ix3 0 0 i) = B.delta (ix3 0 0 (at_ i))) (s : Fin 512) (d : Fin 128) :
    k0_pay54 k0_pay1 xk xv xq xg mk z xc xd xl xm (ix2 s d) = if lane 0 d then (∑ t, B.dscore 1 0 s t * B.q (ix2 t d)) * eighth else 0 := by
  unfold k0_pay54
  pointwise
  rw [select_iff (lower d)]
  simp only [dscore0' B xk hxk xv hxv xq hxq xg hxg mk hmk z hz xc hxc xd hxd xl hxl xm hxm, hxq]
  rw [sum_at (fun t => B.dscore 1 0 s t * B.q (ix2 t d)) fun t ht => by rw [dscore_before B 0 s t ht, zero_mul]]
  rfl

/-- The stored value gradient. -/
theorem dval_eq (xg : Vec Ideal S1536x128 .bf16) (hxg : ∀ i d, xg (ix2 i d) = B.go (ix2 (at_ i) d)) (y : FVec Ideal S512x128 .f32) (hy : ∀ s d, y (ix2 s d) = if lane 0 d then ∑ t, B.prob 1 0 s t * B.go (ix2 t d) else 0) (p : FVec Ideal S512x1536 .f32) (hp : ∀ s i, p (ix2 s i) = B.prob 1 1 s (at_ i)) (s : Fin 512) (d : Fin 128) :
    k0_pay63 k0_pay2 xg y p (ix2 s d) = B.dval 1 s d := by
  unfold k0_pay63 Blocks.dval
  pointwise
  rw [select_iff (upper d), hy]
  simp only [hp, hxg]
  rw [sum_at (fun t => B.prob 1 1 s t * B.go (ix2 t d)) fun t ht => by rw [prob_before B 1 s t ht, zero_mul]]
  exact by_head (fun h => ∑ t, B.prob 1 h s t * B.go (ix2 t d)) d

/-- The stored key gradient. -/
theorem dkey_eq (xq : Vec Ideal S1536x128 .bf16) (hxq : ∀ i d, xq (ix2 i d) = B.q (ix2 (at_ i) d)) (y : FVec Ideal S512x128 .f32) (hy : ∀ s d, y (ix2 s d) = if lane 0 d then (∑ t, B.dscore 1 0 s t * B.q (ix2 t d)) * eighth else 0) (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (s : Fin 512) (d : Fin 128) :
    k0_pay64 k0_pay2 xq y p w (ix2 s d) = B.dkey 1 s d := by
  unfold k0_pay64 Blocks.dkey
  pointwise
  rw [select_iff (upper d), hy]
  simp only [dscore1' B p hp w hw, hxq]
  rw [sum_at (fun t => B.dscore 1 1 s t * B.q (ix2 t d)) fun t ht => by rw [dscore_before B 1 s t ht, zero_mul]]
  exact by_head (fun h => (∑ t, B.dscore 1 h s t * B.q (ix2 t d)) * eighth) d

/-- The stored gradient of the first head's decay at the keys. -/
theorem decayK0 (xk : FVec Ideal S512x128 .bf16) (hxk : ∀ s d, xk (ix2 s d) = B.key 0 s d) (xv : FVec Ideal S512x128 .bf16) (hxv : ∀ s d, xv (ix2 s d) = B.val 0 s d) (xq : Vec Ideal S1536x128 .bf16) (hxq : ∀ i d, xq (ix2 i d) = B.q (ix2 (at_ i) d)) (xg : Vec Ideal S1536x128 .bf16) (hxg : ∀ i d, xg (ix2 i d) = B.go (ix2 (at_ i) d)) (mk : IVec S512x1536 1) (hmk : ∀ s i, (mk (ix2 s i) = 1#1) ↔ 512 * 1 + s.val ≤ (at_ i).val) (z : FVec Ideal S512x1536 .f32) (hz : ∀ s i, z (ix2 s i) = 0) (xc : Vec Ideal S1x1x1536 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1536 .f32) (hxl : ∀ i, xl (ix3 0 0 i) = B.lse (ix3 0 0 (at_ i))) (xm : Vec Ideal S1x1x1536 .f32) (hxm : ∀ i, xm (ix3 0 0 i) = B.delta (ix3 0 0 (at_ i))) (s : Fin 512) :
    k0_pay57 (k0_pay55 xk xv xq xg mk z xc xd xl xm) k0_pay56 (ix3 0 s 0) = B.ddecayK 1 s 0 := by
  unfold k0_pay57 k0_pay56 k0_pay55 Blocks.ddecayK
  pointwise
  simp only [dscore0 B xk hxk xv hxv xq hxq xg hxg mk hmk z hz xc hxc xd hxd xl hxl xm hxm]
  rw [sum_at (B.dscore 1 0 s) (dscore_before B 0 s)]

/-- The stored gradient of the second head's decay at the keys. -/
theorem decayK1 (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (s : Fin 512) :
    k0_pay65 p w (ix3 0 s 0) = B.ddecayK 1 s 1 := by
  unfold k0_pay65 Blocks.ddecayK
  pointwise
  simp only [dscore1 B p hp w hw]
  rw [sum_at (B.dscore 1 1 s) (dscore_before B 1 s)]

/-- The stored gradient of the first head's decay at the queries. -/
theorem decayQ0 (x : FVec Ideal S512x1536 .f32) (hx : ∀ s i, x (ix2 s i) = B.dscore 1 0 s (at_ i)) (o : Vec Ideal S1x1x1536 .f32) (i : Fin 1536) :
    k0_pay58 x o (ix3 0 0 i) = o (ix3 0 0 i) + B.ddecayQ 1 0 (at_ i) := by
  unfold k0_pay58 Blocks.ddecayQ
  pointwise
  simp only [hx]

/-- The stored gradient of the second head's decay at the queries. -/
theorem decayQ1 (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (o : Vec Ideal S1x1x1536 .f32) (i : Fin 1536) :
    k0_pay66 p w o (ix3 0 0 i) = o (ix3 0 0 i) + B.ddecayQ 1 1 (at_ i) := by
  unfold k0_pay66 Blocks.ddecayQ
  pointwise
  simp only [dscore1 B p hp w hw]

/-- The running sum of the query gradient. -/
theorem dquery_eq (k0 k1 : FVec Ideal S512x128 .bf16) (hk0 : ∀ s d, k0 (ix2 s d) = B.key 0 s d) (hk1 : ∀ s d, k1 (ix2 s d) = B.key 1 s d)
    (x : FVec Ideal S512x1536 .bf16) (hx : ∀ s i, x (ix2 s i) = B.dscore 1 0 s (at_ i)) (p : FVec Ideal S512x1536 .f32) (hp : ∀ s i, p (ix2 s i) = B.prob 1 1 s (at_ i)) (w : FVec Ideal S512x1536 .f32) (hw : ∀ s i, w (ix2 s i) = (∑ d : Fin 128, B.val 1 s d * B.go (ix2 (at_ i) d)) - B.delta (ix3 0 1 (at_ i))) (o : Vec Ideal S128x1536 .f32) (d : Fin 128) (i : Fin 1536) :
    k0_pay67 k0 k1 x p w o (ix2 d i) = o (ix2 d i) + B.dquery 1 d (at_ i) := by
  unfold k0_pay67 Blocks.dquery
  pointwise
  simp only [dscore1' B p hp w hw, hk0, hk1, hx]

end Cert.AttnBwd.StepB

end
-- ==== Proof.ResultB.lean ====
/-
  What the second step over the keys leaves in each buffer, read off the stores it makes.
-/
module

public import proofs.«01_k».proof.Proof.BodyB
public import proofs.«01_k».proof.Proof.ValueB

@[expose] public section

set_option maxRecDepth 16384

noncomputable section

namespace Cert.AttnBwd.StepB

open Cert.KernelIdeal Cert.KernelIdeal.Gen Cert.AttnBwd
open Idealize.ShloMosaic Idealize.ShloMosaic.TcCoe Idealize.ShloMosaic.Tactic

variable (B : Blocks)

/-- The first row of the step's keys, as the kernel computes it. -/
theorem row_off (i : grid0.Coords) (hi : (i 1).val = 1) :
    ![(Scalar.indexCast (Scalar.muli (Scalar.muli (BitVec.ofNat 32 (i 1).val) 4#32) 128#32)).toNat, 0] = (![512 * 1, 0] : Fin 2 → ℕ) := by
  rw [hi]; rfl

/-- Every query is before the step's first row or at one of its rows. -/
theorem before_or_at (t : Fin 2048) : t.val < 512 ∨ ∃ i, t = at_ i := by
  by_cases h : t.val < 512
  · exact .inl h
  · exact .inr ⟨⟨t.val - 512, by omega⟩, Fin.ext (show t.val = 512 + (t.val - 512) by omega)⟩

/-- Nothing is added to the decay gradient of a query before the step's first row. -/
theorem decayQ_before (h : Fin 2) (t : Fin 2048) (ht : t.val < 512) : B.ddecayQ 1 h t = 0 :=
  Finset.sum_eq_zero fun s _ => dscore_before B h s t ht

/-- Nothing is added to the gradient of a query before the step's first row. -/
theorem dquery_before (d : Fin 128) (t : Fin 2048) (ht : t.val < 512) : B.dquery 1 d t = 0 := by
  unfold Blocks.dquery
  simp only [dscore_before B _ _ t ht, mul_zero, Finset.sum_const_zero, add_zero]

-- many loads are resolved
set_option maxHeartbeats 1000000 in
/-- The second step leaves what its specification says. -/
theorem step (c : Dev nD) (i : grid0.Coords) (hi : (i 1).val = 1) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) :
    Step 1 B x11 x12 x14 x15 (arg11.view.read (Elt Ideal) (arg11.view.writes (Elt Ideal) (harg11.unread x11) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.1)) (arg12.view.read (Elt Ideal) (arg12.view.writes (Elt Ideal) (harg12.unread x12) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.1)) (arg13.view.read (Elt Ideal) (arg13.view.writes (Elt Ideal) (harg13.unread x13) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.1)) (arg14.view.read (Elt Ideal) (arg14.view.writes (Elt Ideal) (harg14.unread x14) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.1)) (arg15.view.read (Elt Ideal) (arg15.view.writes (Elt Ideal) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2)) := by
  constructor
  case dk =>
    intro s d r hr
    unfold runB
    sl_unfold_words
    dsimp only
    refine (hit2 arg11.view _ (![512 * 1, 0]) _ _ _ s d r d (row_off i hi) hr (Nat.zero_add _).symm).trans ?_
    exact (cast_dk _ _).trans (dkey_eq B _ (fun j d => load2 harg2 B.q _ _ j d (at_ j) d rfl (Nat.zero_add _).symm) _ (dkey_lower B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s d)
  case dk_else =>
    intro r d hr
    unfold runB
    sl_unfold_words
    dsimp only
    refine (View.read_writes_cons_unit_of_not_mem arg11.view _ _ _ _ (ix2 r d) (off' := ![512 * 1, 0]) (row_off i hi) 0 (by exact hr)).trans ?_
    exact congrFun (harg11.read_unread x11) _
  case dv =>
    intro s d r hr
    unfold runB
    sl_unfold_words
    dsimp only
    refine (hit2 arg12.view _ (![512 * 1, 0]) _ _ _ s d r d (row_off i hi) hr (Nat.zero_add _).symm).trans ?_
    exact (cast_dv _ _).trans (dval_eq B _ (fun j d => load2 harg5 B.go _ _ j d (at_ j) d rfl (Nat.zero_add _).symm) _ (dval_lower B _ (key0 B _ (fun s d => load2 harg3 B.k _ _ s d s d (Nat.zero_add _).symm (Nat.zero_add _).symm)) _ (fun j d => load2 harg2 B.q _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j d => load2 harg5 B.go _ _ j d (at_ j) d rfl (Nat.zero_add _).symm)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) s d)
  case dv_else =>
    intro r d hr
    unfold runB
    sl_unfold_words
    dsimp only
    refine (View.read_writes_cons_unit_of_not_mem arg12.view _ _ _ _ (ix2 r d) (off' := ![512 * 1, 0]) (row_off i hi) 0 (by exact hr)).trans ?_
    exact congrFun (harg12.read_unread x12) _
  case decayK =>
    intro s h
    unfold runB
    sl_unfold_words
    dsimp only
    match h with
    | ⟨0, _⟩ =>
      refine (View.read_writes_cons_unit_of_not_mem arg13.view _ _ _ _ (ix3 0 s 0) rfl 2 (.inl Nat.zero_lt_one)).trans ?_
      refine (hit3 arg13.view _ ![0, 0, 0] _ _ _ 0 s 0 0 s 0 rfl rfl (Nat.zero_add _).symm rfl).trans ?_
      exact decayK0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl) s
    | ⟨1, _⟩ =>
      refine (hit3 arg13.view _ ![0, 0, 1] _ _ _ 0 s 0 0 s 1 rfl rfl (Nat.zero_add _).symm rfl).trans ?_
      exact decayK1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s
  case decayQ =>
    intro h t
    unfold runB
    sl_unfold_words
    dsimp only
    obtain rfl | rfl : h = 0 ∨ h = 1 := by
      match h with
      | ⟨0, _⟩ => exact .inl rfl
      | ⟨1, _⟩ => exact .inr rfl
    all_goals obtain ht | ⟨j, rfl⟩ := before_or_at t
    · rw [decayQ_before B 0 t ht, add_zero]
      refine (View.read_writes_cons_unit_of_not_mem arg14.view _ _ _ _ (ix3 0 0 t) rfl 2 (.inl ht)).trans ?_
      refine (View.read_writes_cons_unit_of_not_mem arg14.view _ _ _ _ (ix3 0 0 t) rfl 2 (.inl ht)).trans ?_
      exact congrFun (harg14.read_unread x14) _
    · refine (View.read_writes_cons_unit_of_not_mem arg14.view _ _ _ _ (ix3 0 0 (at_ j)) rfl 1 (.inl Nat.zero_lt_one)).trans ?_
      refine (hit3 arg14.view _ ![0, 0, 512] _ _ _ 0 0 j 0 0 (at_ j) rfl rfl rfl rfl).trans ?_
      refine (decayQ0 B _ (dscore0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ j).trans (congrArg (· + B.ddecayQ 1 0 (at_ j)) ?_)
      exact load3 harg14 x14 _ _ 0 0 j 0 0 (at_ j) rfl rfl rfl
    · rw [decayQ_before B 1 t ht, add_zero]
      refine (View.read_writes_cons_unit_of_not_mem arg14.view _ _ _ _ (ix3 0 1 t) rfl 2 (.inl ht)).trans ?_
      refine (View.read_writes_cons_unit_of_not_mem arg14.view _ _ _ _ (ix3 0 1 t) rfl 2 (.inl ht)).trans ?_
      exact congrFun (harg14.read_unread x14) _
    · refine (hit3 arg14.view _ ![0, 1, 512] _ _ _ 0 0 j 0 1 (at_ j) rfl rfl rfl rfl).trans ?_
      refine (decayQ1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ j).trans (congrArg (· + B.ddecayQ 1 1 (at_ j)) ?_)
      exact load3 harg14 x14 _ _ 0 0 j 0 1 (at_ j) rfl rfl rfl
  case dq =>
    intro d t
    unfold runB
    sl_unfold_words
    dsimp only
    obtain ht | ⟨j, rfl⟩ := before_or_at t
    · rw [dquery_before B d t ht, add_zero]
      refine (View.read_writes_cons_unit_of_not_mem arg15.view _ _ _ _ (ix2 d t) rfl 1 (.inl ht)).trans ?_
      exact congrFun (harg15.read_unread x15) _
    · refine (hit2 arg15.view _ ![0, 512] _ _ _ d j d (at_ j) rfl (Nat.zero_add _).symm rfl).trans ?_
      refine (cast_dq _ _).trans ((dquery_eq B _ _ (key0 B _ (fun s d => load2 harg3 B.k _ _ s d s d (Nat.zero_add _).symm (Nat.zero_add _).symm)) (key1 B _ (fun s d => load2 harg3 B.k _ _ s d s d (Nat.zero_add _).symm (Nat.zero_add _).symm)) _ (dscore0' B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ d j).trans (congrArg (· + B.dquery 1 d (at_ j)) ?_))
      exact load2 harg15 x15 _ _ d j d (at_ j) (Nat.zero_add _).symm rfl

end Cert.AttnBwd.StepB

end
-- ==== Proof.BodyC.lean ====
/-
  The body of the attention gradient at the third of the four steps over the keys: what its stores leave in each buffer, as a list of pieces.
-/
module

public import proofs.«01_k».proof.Proof.Gen.KernelIdeal.Frame
public import proofs.«01_k».proof.Proof.Gen.KernelIdeal.Skeleton

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's proof term is large
set_option maxHeartbeats 2000000 in
/-- At the third step of a head pair, on whole buffers at any contents, the body runs to the end, leaves the eight inputs as they were and
    writes the listed pieces over what each output and the running sum for the query gradient held. -/
def runC (c : Dev nD) (i : grid0.Coords) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (x2 : Vec F S2048x128 .bf16) (x3 : Vec F S512x128 .bf16) (x4 : Vec F S512x128 .bf16) (x5 : Vec F S2048x128 .bf16) (x6 : Vec F S1x2x2048 .f32) (x7 : Vec F S1x2x2048 .f32) (x8 : Vec F S1x2x2048 .f32) (x9 : Vec F S1x512x2 .f32) (x10 : Vec F S2048x128 .bf16) (x11 : Vec F S2048x128 .bf16) (x12 : Vec F S2048x128 .bf16) (x13 : Vec F S1x512x2 .f32) (x14 : Vec F S1x2x2048 .f32) (x15 : Vec F S128x2048 .f32) :
    { L : List (View.Piece (Elt F) S2048x128 .bf16) × List (View.Piece (Elt F) S2048x128 .bf16) × List (View.Piece (Elt F) S1x512x2 .f32) × List (View.Piece (Elt F) S1x2x2048 .f32) × List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (arg11.view.loc (c : Thread nD τ) ↦[arg11.view.set]{fullShare} arg11.view.writes (Elt F) (harg11.unread x11) L.1) ∗ (arg12.view.loc (c : Thread nD τ) ↦[arg12.view.set]{fullShare} arg12.view.writes (Elt F) (harg12.unread x12) L.2.1) ∗ (arg13.view.loc (c : Thread nD τ) ↦[arg13.view.set]{fullShare} arg13.view.writes (Elt F) (harg13.unread x13) L.2.2.1) ∗ (arg14.view.loc (c : Thread nD τ) ↦[arg14.view.set]{fullShare} arg14.view.writes (Elt F) (harg14.unread x14) L.2.2.2.1) ∗ (arg15.view.loc (c : Thread nD τ) ↦[arg15.view.set]{fullShare} arg15.view.writes (Elt F) (harg15.unread x15) L.2.2.2.2)) -∗ K ⟨⟩))
          ⊢ wp frame (wpE (defs₀ (F := F)) Variants.none c none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_, ?_, ?_), fun E K => ?run⟩
  case run =>
    simp only [cc0_attn_b_bwd_eq_skeleton]; unfold cc0_attn_b_bwd_skel
    simp only [k0_part9_eq_skeleton, k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5 | sl_exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    iexact H15

end Cert.AttnBwd

end
-- ==== Proof.ValueC.lean ====
/-
  The values of the third step over the keys: each stored vector at an index, in terms of the blocks read.
-/
module

public import proofs.«01_k».proof.Proof.Spec

@[expose] public section

set_option maxRecDepth 16384

noncomputable section

namespace Cert.AttnBwd.StepC

open Cert.KernelIdeal Cert.KernelIdeal.Gen Cert.AttnBwd
open Idealize.ShloMosaic
open scoped BigOperators

/-- The query that position `i` of the step's rows is. -/
def at_ (i : Fin 1024) : Fin 2048 := ⟨1024 + i.val, by omega⟩

/-- A sum over all queries of a function that vanishes before the step's first row is the sum over the step's rows. -/
theorem sum_at (f : Fin 2048 → EReal) (hf : ∀ t : Fin 2048, t.val < 1024 → f t = 0) : ∑ i : Fin 1024, f (at_ i) = ∑ t, f t :=
  (FinSumWindow.sum_window 1024 (by decide) f fun t ht => hf t (by omega)).symm

variable (B : Blocks)

/-- A query before the step's first row has probability zero. -/
theorem prob_before (h : Fin 2) (s : Fin 512) (t : Fin 2048) (ht : t.val < 1024) : B.prob 2 h s t = 0 :=
  if_neg (by omega)

/-- A query before the step's first row has score gradient zero. -/
theorem dscore_before (h : Fin 2) (s : Fin 512) (t : Fin 2048) (ht : t.val < 1024) : B.dscore 2 h s t = 0 := by
  unfold Blocks.dscore; rw [prob_before B h s t ht, zero_mul]

theorem key0 (x : Vec Ideal S512x128 .bf16) (hx : ∀ s d, x (ix2 s d) = B.k (ix2 s d)) (s : Fin 512) (d : Fin 128) :
    k0_pay70 k0_pay1 x (ix2 s d) = B.key 0 s d := by
  unfold k0_pay70 k0_pay68 Blocks.key
  pointwise
  rw [select_iff (lower d), hx]; rfl

theorem val0 (x : Vec Ideal S512x128 .bf16) (hx : ∀ s d, x (ix2 s d) = B.v (ix2 s d)) (s : Fin 512) (d : Fin 128) :
    k0_pay72 k0_pay1 x (ix2 s d) = B.val 0 s d := by
  unfold k0_pay72 k0_pay69 Blocks.val
  pointwise
  rw [select_iff (lower d), hx]

theorem key1 (x : Vec Ideal S512x128 .bf16) (hx : ∀ s d, x (ix2 s d) = B.k (ix2 s d)) (s : Fin 512) (d : Fin 128) :
    k0_pay71 k0_pay2 x (ix2 s d) = B.key 1 s d := by
  unfold k0_pay71 k0_pay68 Blocks.key
  pointwise
  rw [select_iff (upper d), hx]; rfl

theorem val1 (x : Vec Ideal S512x128 .bf16) (hx : ∀ s d, x (ix2 s d) = B.v (ix2 s d)) (s : Fin 512) (d : Fin 128) :
    k0_pay73 k0_pay2 x (ix2 s d) = B.val 1 s d := by
  unfold k0_pay73 k0_pay69 Blocks.val
  pointwise
  rw [select_iff (upper d), hx]

/-- The step's mask keeps a query at or after the key. -/
theorem mask (s : Fin 512) (i : Fin 1024) :
    (k0_pay74 (Scalar.muli (BitVec.ofNat 32 2) 4#32) (ix2 s i) = 1#1) ↔ 512 * 2 + s.val ≤ (at_ i).val := by
  unfold k0_pay74 at_; pointwise
  rw [show Scalar.muli (Scalar.muli 2#32 4#32) 128#32 = BitVec.ofNat 32 1024 by decide]
  simp only [show (1024#32 : BitVec 32) = BitVec.ofNat 32 1024 from rfl, WordCmp.addi_ofNat]; word_cmp

/-- The same over the grid coordinate. -/
theorem mask_of (i : grid0.Coords) (hi : (i 1).val = 2) (s : Fin 512) (j : Fin 1024) :
    (k0_pay74 (Scalar.muli (BitVec.ofNat 32 (i 1).val) 4#32) (ix2 s j) = 1#1) ↔ 512 * 2 + s.val ≤ (at_ j).val := by
  rw [hi]; exact mask s j

theorem zero_at (s : Fin 512) (j : Fin 1024) : constant (F := Ideal) S512x1024 .f32 0#32 (ix2 s j) = 0 := by
  pointwise

/-- The casts before the stores change no value. -/
theorem cast_dk (x : FVec Ideal S512x128 .f32) (j : S512x128.Idx) : k0_pay12 x j = x j := rfl
theorem cast_dv (x : FVec Ideal S512x128 .f32) (j : S512x128.Idx) : k0_pay13 x j = x j := rfl
theorem cast_dq (x : FVec Ideal S128x1024 .f32) (j : (⟨2, ![128, 1024]⟩ : Shape).Idx) : k0_pay11 x j = x j := shapeCast_at _ _ _

theorem prob0 (xk : FVec Ideal S512x128 .bf16) (hxk : ∀ s d, xk (ix2 s d) = B.key 0 s d) (xq : Vec Ideal S1024x128 .bf16) (hxq : ∀ i d, xq (ix2 i d) = B.q (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (s : Fin 512) (i : Fin 1024) :
    k0_pay75 xk xq mk z xc xd xl (ix2 s i) = B.prob 2 0 s (at_ i) := by
  unfold k0_pay75
  pointwise
  rw [select_iff (hmk s i)]
  simp only [hz, zero_add, hxk, hxq, hxc, hxd, hxl]; rfl

theorem prob1 (xk : FVec Ideal S512x128 .bf16) (hxk : ∀ s d, xk (ix2 s d) = B.key 1 s d) (xq : Vec Ideal S1024x128 .bf16) (hxq : ∀ i d, xq (ix2 i d) = B.q (ix2 (at_ i) d)) (mk : IVec S512x1024 1) (hmk : ∀ s i, (mk (ix2 s i) = 1#1) ↔ 512 * 2 + s.val ≤ (at_ i).val) (xc : Vec Ideal S1x1x1024 .f32) (hxc : ∀ i, xc (ix3 0 0 i) = B.cq (ix3 0 1 (at_ i))) (xd : Vec Ideal S1x512x1 .f32) (hxd : ∀ s, xd (ix3 0 s 0) = B.ck (ix3 0 s 1)) (xl : Vec Ideal S1x1x1024 .f32) (hxl : ∀ i, xl (ix3 0 0 i) = B.lse (ix3 0 1 (at_ i))) (s : Fin 512) (i : Fin 1024) :
    k0_pay84 xk xq mk xc xd xl (ix2 s i) = B.prob 2 1 s (at_ i) := by
  unfold k0_pay84
  pointwise
  rw [select_iff (hmk s i)]
  simp only [hxk, hxq, hxc, hxd, hxl]; rfl

theorem dscore0 (xk : FVec Ideal S512x128 .bf16) (hxk : ∀ s d, xk (ix2 s d) = B.key 0 s d) (xv : FVec Ideal S512x128 .bf16) (hxv : ∀ s d, xv (ix2 s d) = B.val 0 s d) (xq : Vec Ideal S1024x128 .bf16) (hxq : ∀ i d, xq (ix2 i d) = B.q (ix2 (at_ i) d)) (xg : Vec Ideal S1024x128 .bf16) (hxg : ∀ i d, xg (ix2 i d) = B.go (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (xm : Vec Ideal S1x1x1024 .f32) (hxm : ∀ i, xm (ix3 0 0 i) = B.delta (ix3 0 0 (at_ i))) (s : Fin 512) (i : Fin 1024) :
    k0_pay76 xk xv xq xg mk z xc xd xl xm (ix2 s i) = B.dscore 2 0 s (at_ i) := by
  unfold k0_pay76 Blocks.dscore
  pointwise
  rw [prob0 B xk hxk xq hxq mk hmk z hz xc hxc xd hxd xl hxl]
  simp only [hxv, hxg, hxm]

theorem dscore0' (xk : FVec Ideal S512x128 .bf16) (hxk : ∀ s d, xk (ix2 s d) = B.key 0 s d) (xv : FVec Ideal S512x128 .bf16) (hxv : ∀ s d, xv (ix2 s d) = B.val 0 s d) (xq : Vec Ideal S1024x128 .bf16) (hxq : ∀ i d, xq (ix2 i d) = B.q (ix2 (at_ i) d)) (xg : Vec Ideal S1024x128 .bf16) (hxg : ∀ i d, xg (ix2 i d) = B.go (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (xm : Vec Ideal S1x1x1024 .f32) (hxm : ∀ i, xm (ix3 0 0 i) = B.delta (ix3 0 0 (at_ i))) (s : Fin 512) (i : Fin 1024) :
    k0_pay77 xk xv xq xg mk z xc xd xl xm (ix2 s i) = B.dscore 2 0 s (at_ i) := by
  unfold k0_pay77
  pointwise
  exact dscore0 B xk hxk xv hxv xq hxq xg hxg mk hmk z hz xc hxc xd hxd xl hxl xm hxm s i

theorem inner1 (xv : FVec Ideal S512x128 .bf16) (hxv : ∀ s d, xv (ix2 s d) = B.val 1 s d) (xg : Vec Ideal S1024x128 .bf16) (hxg : ∀ i d, xg (ix2 i d) = B.go (ix2 (at_ i) d)) (xm : Vec Ideal S1x1x1024 .f32) (hxm : ∀ i, xm (ix3 0 0 i) = B.delta (ix3 0 1 (at_ i))) (s : Fin 512) (i : Fin 1024) :
    k0_pay85 xv xg xm (ix2 s i) = (∑ d : Fin 128, B.val 1 s d * B.go (ix2 (at_ i) d)) - B.delta (ix3 0 1 (at_ i)) := by
  unfold k0_pay85
  pointwise
  simp only [hxv, hxg, hxm]

theorem dscore1 (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (s : Fin 512) (i : Fin 1024) :
    k0_pay86 p w (ix2 s i) = B.dscore 2 1 s (at_ i) := by
  unfold k0_pay86 Blocks.dscore
  pointwise
  rw [hp, hw]

theorem dscore1' (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (s : Fin 512) (i : Fin 1024) :
    k0_pay87 p w (ix2 s i) = B.dscore 2 1 s (at_ i) := by
  unfold k0_pay87
  pointwise
  exact dscore1 B p hp w hw s i

theorem dval_lower (xk : FVec Ideal S512x128 .bf16) (hxk : ∀ s d, xk (ix2 s d) = B.key 0 s d) (xq : Vec Ideal S1024x128 .bf16) (hxq : ∀ i d, xq (ix2 i d) = B.q (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (xg : Vec Ideal S1024x128 .bf16) (hxg : ∀ i d, xg (ix2 i d) = B.go (ix2 (at_ i) d)) (s : Fin 512) (d : Fin 128) :
    k0_pay78 k0_pay1 xk xq xg mk z xc xd xl (ix2 s d) = if lane 0 d then ∑ t, B.prob 2 0 s t * B.go (ix2 t d) else 0 := by
  unfold k0_pay78
  pointwise
  rw [select_iff (lower d)]
  simp only [prob0 B xk hxk xq hxq mk hmk z hz xc hxc xd hxd xl hxl, hxg]
  rw [sum_at (fun t => B.prob 2 0 s t * B.go (ix2 t d)) fun t ht => by rw [prob_before B 0 s t ht, zero_mul]]

theorem dkey_lower (xk : FVec Ideal S512x128 .bf16) (hxk : ∀ s d, xk (ix2 s d) = B.key 0 s d) (xv : FVec Ideal S512x128 .bf16) (hxv : ∀ s d, xv (ix2 s d) = B.val 0 s d) (xq : Vec Ideal S1024x128 .bf16) (hxq : ∀ i d, xq (ix2 i d) = B.q (ix2 (at_ i) d)) (xg : Vec Ideal S1024x128 .bf16) (hxg : ∀ i d, xg (ix2 i d) = B.go (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (xm : Vec Ideal S1x1x1024 .f32) (hxm : ∀ i, xm (ix3 0 0 i) = B.delta (ix3 0 0 (at_ i))) (s : Fin 512) (d : Fin 128) :
    k0_pay79 k0_pay1 xk xv xq xg mk z xc xd xl xm (ix2 s d) = if lane 0 d then (∑ t, B.dscore 2 0 s t * B.q (ix2 t d)) * eighth else 0 := by
  unfold k0_pay79
  pointwise
  rw [select_iff (lower d)]
  simp only [dscore0' B xk hxk xv hxv xq hxq xg hxg mk hmk z hz xc hxc xd hxd xl hxl xm hxm, hxq]
  rw [sum_at (fun t => B.dscore 2 0 s t * B.q (ix2 t d)) fun t ht => by rw [dscore_before B 0 s t ht, zero_mul]]
  rfl

/-- The stored value gradient. -/
theorem dval_eq (xg : Vec Ideal S1024x128 .bf16) (hxg : ∀ i d, xg (ix2 i d) = B.go (ix2 (at_ i) d)) (y : FVec Ideal S512x128 .f32) (hy : ∀ s d, y (ix2 s d) = if lane 0 d then ∑ t, B.prob 2 0 s t * B.go (ix2 t d) else 0) (p : FVec Ideal S512x1024 .f32) (hp : ∀ s i, p (ix2 s i) = B.prob 2 1 s (at_ i)) (s : Fin 512) (d : Fin 128) :
    k0_pay88 k0_pay2 xg y p (ix2 s d) = B.dval 2 s d := by
  unfold k0_pay88 Blocks.dval
  pointwise
  rw [select_iff (upper d), hy]
  simp only [hp, hxg]
  rw [sum_at (fun t => B.prob 2 1 s t * B.go (ix2 t d)) fun t ht => by rw [prob_before B 1 s t ht, zero_mul]]
  exact by_head (fun h => ∑ t, B.prob 2 h s t * B.go (ix2 t d)) d

/-- The stored key gradient. -/
theorem dkey_eq (xq : Vec Ideal S1024x128 .bf16) (hxq : ∀ i d, xq (ix2 i d) = B.q (ix2 (at_ i) d)) (y : FVec Ideal S512x128 .f32) (hy : ∀ s d, y (ix2 s d) = if lane 0 d then (∑ t, B.dscore 2 0 s t * B.q (ix2 t d)) * eighth else 0) (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (s : Fin 512) (d : Fin 128) :
    k0_pay89 k0_pay2 xq y p w (ix2 s d) = B.dkey 2 s d := by
  unfold k0_pay89 Blocks.dkey
  pointwise
  rw [select_iff (upper d), hy]
  simp only [dscore1' B p hp w hw, hxq]
  rw [sum_at (fun t => B.dscore 2 1 s t * B.q (ix2 t d)) fun t ht => by rw [dscore_before B 1 s t ht, zero_mul]]
  exact by_head (fun h => (∑ t, B.dscore 2 h s t * B.q (ix2 t d)) * eighth) d

/-- The stored gradient of the first head's decay at the keys. -/
theorem decayK0 (xk : FVec Ideal S512x128 .bf16) (hxk : ∀ s d, xk (ix2 s d) = B.key 0 s d) (xv : FVec Ideal S512x128 .bf16) (hxv : ∀ s d, xv (ix2 s d) = B.val 0 s d) (xq : Vec Ideal S1024x128 .bf16) (hxq : ∀ i d, xq (ix2 i d) = B.q (ix2 (at_ i) d)) (xg : Vec Ideal S1024x128 .bf16) (hxg : ∀ i d, xg (ix2 i d) = B.go (ix2 (at_ i) d)) (mk : IVec S512x1024 1) (hmk : ∀ s i, (mk (ix2 s i) = 1#1) ↔ 512 * 2 + s.val ≤ (at_ i).val) (z : FVec Ideal S512x1024 .f32) (hz : ∀ s i, z (ix2 s i) = 0) (xc : Vec Ideal S1x1x1024 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x1024 .f32) (hxl : ∀ i, xl (ix3 0 0 i) = B.lse (ix3 0 0 (at_ i))) (xm : Vec Ideal S1x1x1024 .f32) (hxm : ∀ i, xm (ix3 0 0 i) = B.delta (ix3 0 0 (at_ i))) (s : Fin 512) :
    k0_pay82 (k0_pay80 xk xv xq xg mk z xc xd xl xm) k0_pay81 (ix3 0 s 0) = B.ddecayK 2 s 0 := by
  unfold k0_pay82 k0_pay81 k0_pay80 Blocks.ddecayK
  pointwise
  simp only [dscore0 B xk hxk xv hxv xq hxq xg hxg mk hmk z hz xc hxc xd hxd xl hxl xm hxm]
  rw [sum_at (B.dscore 2 0 s) (dscore_before B 0 s)]

/-- The stored gradient of the second head's decay at the keys. -/
theorem decayK1 (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (s : Fin 512) :
    k0_pay90 p w (ix3 0 s 0) = B.ddecayK 2 s 1 := by
  unfold k0_pay90 Blocks.ddecayK
  pointwise
  simp only [dscore1 B p hp w hw]
  rw [sum_at (B.dscore 2 1 s) (dscore_before B 1 s)]

/-- The stored gradient of the first head's decay at the queries. -/
theorem decayQ0 (x : FVec Ideal S512x1024 .f32) (hx : ∀ s i, x (ix2 s i) = B.dscore 2 0 s (at_ i)) (o : Vec Ideal S1x1x1024 .f32) (i : Fin 1024) :
    k0_pay83 x o (ix3 0 0 i) = o (ix3 0 0 i) + B.ddecayQ 2 0 (at_ i) := by
  unfold k0_pay83 Blocks.ddecayQ
  pointwise
  simp only [hx]

/-- The stored gradient of the second head's decay at the queries. -/
theorem decayQ1 (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (o : Vec Ideal S1x1x1024 .f32) (i : Fin 1024) :
    k0_pay91 p w o (ix3 0 0 i) = o (ix3 0 0 i) + B.ddecayQ 2 1 (at_ i) := by
  unfold k0_pay91 Blocks.ddecayQ
  pointwise
  simp only [dscore1 B p hp w hw]

/-- The running sum of the query gradient. -/
theorem dquery_eq (k0 k1 : FVec Ideal S512x128 .bf16) (hk0 : ∀ s d, k0 (ix2 s d) = B.key 0 s d) (hk1 : ∀ s d, k1 (ix2 s d) = B.key 1 s d)
    (x : FVec Ideal S512x1024 .bf16) (hx : ∀ s i, x (ix2 s i) = B.dscore 2 0 s (at_ i)) (p : FVec Ideal S512x1024 .f32) (hp : ∀ s i, p (ix2 s i) = B.prob 2 1 s (at_ i)) (w : FVec Ideal S512x1024 .f32) (hw : ∀ s i, w (ix2 s i) = (∑ d : Fin 128, B.val 1 s d * B.go (ix2 (at_ i) d)) - B.delta (ix3 0 1 (at_ i))) (o : Vec Ideal S128x1024 .f32) (d : Fin 128) (i : Fin 1024) :
    k0_pay92 k0 k1 x p w o (ix2 d i) = o (ix2 d i) + B.dquery 2 d (at_ i) := by
  unfold k0_pay92 Blocks.dquery
  pointwise
  simp only [dscore1' B p hp w hw, hk0, hk1, hx]

end Cert.AttnBwd.StepC

end
-- ==== Proof.ResultC.lean ====
/-
  What the third step over the keys leaves in each buffer, read off the stores it makes.
-/
module

public import proofs.«01_k».proof.Proof.BodyC
public import proofs.«01_k».proof.Proof.ValueC

@[expose] public section

set_option maxRecDepth 16384

noncomputable section

namespace Cert.AttnBwd.StepC

open Cert.KernelIdeal Cert.KernelIdeal.Gen Cert.AttnBwd
open Idealize.ShloMosaic Idealize.ShloMosaic.TcCoe Idealize.ShloMosaic.Tactic

variable (B : Blocks)

/-- The first row of the step's keys, as the kernel computes it. -/
theorem row_off (i : grid0.Coords) (hi : (i 1).val = 2) :
    ![(Scalar.indexCast (Scalar.muli (Scalar.muli (BitVec.ofNat 32 (i 1).val) 4#32) 128#32)).toNat, 0] = (![512 * 2, 0] : Fin 2 → ℕ) := by
  rw [hi]; rfl

/-- Every query is before the step's first row or at one of its rows. -/
theorem before_or_at (t : Fin 2048) : t.val < 1024 ∨ ∃ i, t = at_ i := by
  by_cases h : t.val < 1024
  · exact .inl h
  · exact .inr ⟨⟨t.val - 1024, by omega⟩, Fin.ext (show t.val = 1024 + (t.val - 1024) by omega)⟩

/-- Nothing is added to the decay gradient of a query before the step's first row. -/
theorem decayQ_before (h : Fin 2) (t : Fin 2048) (ht : t.val < 1024) : B.ddecayQ 2 h t = 0 :=
  Finset.sum_eq_zero fun s _ => dscore_before B h s t ht

/-- Nothing is added to the gradient of a query before the step's first row. -/
theorem dquery_before (d : Fin 128) (t : Fin 2048) (ht : t.val < 1024) : B.dquery 2 d t = 0 := by
  unfold Blocks.dquery
  simp only [dscore_before B _ _ t ht, mul_zero, Finset.sum_const_zero, add_zero]

-- many loads are resolved
set_option maxHeartbeats 1000000 in
/-- The third step leaves what its specification says. -/
theorem step (c : Dev nD) (i : grid0.Coords) (hi : (i 1).val = 2) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) :
    Step 2 B x11 x12 x14 x15 (arg11.view.read (Elt Ideal) (arg11.view.writes (Elt Ideal) (harg11.unread x11) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.1)) (arg12.view.read (Elt Ideal) (arg12.view.writes (Elt Ideal) (harg12.unread x12) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.1)) (arg13.view.read (Elt Ideal) (arg13.view.writes (Elt Ideal) (harg13.unread x13) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.1)) (arg14.view.read (Elt Ideal) (arg14.view.writes (Elt Ideal) (harg14.unread x14) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.1)) (arg15.view.read (Elt Ideal) (arg15.view.writes (Elt Ideal) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2)) := by
  constructor
  case dk =>
    intro s d r hr
    unfold runC
    sl_unfold_words
    dsimp only
    refine (hit2 arg11.view _ (![512 * 2, 0]) _ _ _ s d r d (row_off i hi) hr (Nat.zero_add _).symm).trans ?_
    exact (cast_dk _ _).trans (dkey_eq B _ (fun j d => load2 harg2 B.q _ _ j d (at_ j) d rfl (Nat.zero_add _).symm) _ (dkey_lower B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s d)
  case dk_else =>
    intro r d hr
    unfold runC
    sl_unfold_words
    dsimp only
    refine (View.read_writes_cons_unit_of_not_mem arg11.view _ _ _ _ (ix2 r d) (off' := ![512 * 2, 0]) (row_off i hi) 0 (by exact hr)).trans ?_
    exact congrFun (harg11.read_unread x11) _
  case dv =>
    intro s d r hr
    unfold runC
    sl_unfold_words
    dsimp only
    refine (hit2 arg12.view _ (![512 * 2, 0]) _ _ _ s d r d (row_off i hi) hr (Nat.zero_add _).symm).trans ?_
    exact (cast_dv _ _).trans (dval_eq B _ (fun j d => load2 harg5 B.go _ _ j d (at_ j) d rfl (Nat.zero_add _).symm) _ (dval_lower B _ (key0 B _ (fun s d => load2 harg3 B.k _ _ s d s d (Nat.zero_add _).symm (Nat.zero_add _).symm)) _ (fun j d => load2 harg2 B.q _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j d => load2 harg5 B.go _ _ j d (at_ j) d rfl (Nat.zero_add _).symm)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) s d)
  case dv_else =>
    intro r d hr
    unfold runC
    sl_unfold_words
    dsimp only
    refine (View.read_writes_cons_unit_of_not_mem arg12.view _ _ _ _ (ix2 r d) (off' := ![512 * 2, 0]) (row_off i hi) 0 (by exact hr)).trans ?_
    exact congrFun (harg12.read_unread x12) _
  case decayK =>
    intro s h
    unfold runC
    sl_unfold_words
    dsimp only
    match h with
    | ⟨0, _⟩ =>
      refine (View.read_writes_cons_unit_of_not_mem arg13.view _ _ _ _ (ix3 0 s 0) rfl 2 (.inl Nat.zero_lt_one)).trans ?_
      refine (hit3 arg13.view _ ![0, 0, 0] _ _ _ 0 s 0 0 s 0 rfl rfl (Nat.zero_add _).symm rfl).trans ?_
      exact decayK0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl) s
    | ⟨1, _⟩ =>
      refine (hit3 arg13.view _ ![0, 0, 1] _ _ _ 0 s 0 0 s 1 rfl rfl (Nat.zero_add _).symm rfl).trans ?_
      exact decayK1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s
  case decayQ =>
    intro h t
    unfold runC
    sl_unfold_words
    dsimp only
    obtain rfl | rfl : h = 0 ∨ h = 1 := by
      match h with
      | ⟨0, _⟩ => exact .inl rfl
      | ⟨1, _⟩ => exact .inr rfl
    all_goals obtain ht | ⟨j, rfl⟩ := before_or_at t
    · rw [decayQ_before B 0 t ht, add_zero]
      refine (View.read_writes_cons_unit_of_not_mem arg14.view _ _ _ _ (ix3 0 0 t) rfl 2 (.inl ht)).trans ?_
      refine (View.read_writes_cons_unit_of_not_mem arg14.view _ _ _ _ (ix3 0 0 t) rfl 2 (.inl ht)).trans ?_
      exact congrFun (harg14.read_unread x14) _
    · refine (View.read_writes_cons_unit_of_not_mem arg14.view _ _ _ _ (ix3 0 0 (at_ j)) rfl 1 (.inl Nat.zero_lt_one)).trans ?_
      refine (hit3 arg14.view _ ![0, 0, 1024] _ _ _ 0 0 j 0 0 (at_ j) rfl rfl rfl rfl).trans ?_
      refine (decayQ0 B _ (dscore0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ j).trans (congrArg (· + B.ddecayQ 2 0 (at_ j)) ?_)
      exact load3 harg14 x14 _ _ 0 0 j 0 0 (at_ j) rfl rfl rfl
    · rw [decayQ_before B 1 t ht, add_zero]
      refine (View.read_writes_cons_unit_of_not_mem arg14.view _ _ _ _ (ix3 0 1 t) rfl 2 (.inl ht)).trans ?_
      refine (View.read_writes_cons_unit_of_not_mem arg14.view _ _ _ _ (ix3 0 1 t) rfl 2 (.inl ht)).trans ?_
      exact congrFun (harg14.read_unread x14) _
    · refine (hit3 arg14.view _ ![0, 1, 1024] _ _ _ 0 0 j 0 1 (at_ j) rfl rfl rfl rfl).trans ?_
      refine (decayQ1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ j).trans (congrArg (· + B.ddecayQ 2 1 (at_ j)) ?_)
      exact load3 harg14 x14 _ _ 0 0 j 0 1 (at_ j) rfl rfl rfl
  case dq =>
    intro d t
    unfold runC
    sl_unfold_words
    dsimp only
    obtain ht | ⟨j, rfl⟩ := before_or_at t
    · rw [dquery_before B d t ht, add_zero]
      refine (View.read_writes_cons_unit_of_not_mem arg15.view _ _ _ _ (ix2 d t) rfl 1 (.inl ht)).trans ?_
      exact congrFun (harg15.read_unread x15) _
    · refine (hit2 arg15.view _ ![0, 1024] _ _ _ d j d (at_ j) rfl (Nat.zero_add _).symm rfl).trans ?_
      refine (cast_dq _ _).trans ((dquery_eq B _ _ (key0 B _ (fun s d => load2 harg3 B.k _ _ s d s d (Nat.zero_add _).symm (Nat.zero_add _).symm)) (key1 B _ (fun s d => load2 harg3 B.k _ _ s d s d (Nat.zero_add _).symm (Nat.zero_add _).symm)) _ (dscore0' B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ d j).trans (congrArg (· + B.dquery 2 d (at_ j)) ?_))
      exact load2 harg15 x15 _ _ d j d (at_ j) (Nat.zero_add _).symm rfl

end Cert.AttnBwd.StepC

end
-- ==== Proof.BodyD.lean ====
/-
  The body of the attention gradient at the last of the four steps over the keys: what its stores leave in each buffer, as a list of pieces.
-/
module

public import proofs.«01_k».proof.Proof.Gen.KernelIdeal.Frame
public import proofs.«01_k».proof.Proof.Gen.KernelIdeal.Skeleton

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the run's proof term is large
set_option maxHeartbeats 2000000 in
/-- At the last step of a head pair, on whole buffers at any contents, the body runs to the end, leaves the eight inputs as they were and
    writes the listed pieces over what each output and the running sum for the query gradient held. -/
def runD (c : Dev nD) (i : grid0.Coords) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1) (x2 : Vec F S2048x128 .bf16) (x3 : Vec F S512x128 .bf16) (x4 : Vec F S512x128 .bf16) (x5 : Vec F S2048x128 .bf16) (x6 : Vec F S1x2x2048 .f32) (x7 : Vec F S1x2x2048 .f32) (x8 : Vec F S1x2x2048 .f32) (x9 : Vec F S1x512x2 .f32) (x10 : Vec F S2048x128 .bf16) (x11 : Vec F S2048x128 .bf16) (x12 : Vec F S2048x128 .bf16) (x13 : Vec F S1x512x2 .f32) (x14 : Vec F S1x2x2048 .f32) (x15 : Vec F S128x2048 .f32) :
    { L : List (View.Piece (Elt F) S2048x128 .bf16) × List (View.Piece (Elt F) S2048x128 .bf16) × List (View.Piece (Elt F) S2048x128 .bf16) × List (View.Piece (Elt F) S1x512x2 .f32) × List (View.Piece (Elt F) S1x2x2048 .f32) × List (View.Piece (Elt F) S128x2048 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (arg10.view.loc (c : Thread nD τ) ↦[arg10.view.set]{fullShare} arg10.view.writes (Elt F) (harg10.unread x10) L.1) ∗ (arg11.view.loc (c : Thread nD τ) ↦[arg11.view.set]{fullShare} arg11.view.writes (Elt F) (harg11.unread x11) L.2.1) ∗ (arg12.view.loc (c : Thread nD τ) ↦[arg12.view.set]{fullShare} arg12.view.writes (Elt F) (harg12.unread x12) L.2.2.1) ∗ (arg13.view.loc (c : Thread nD τ) ↦[arg13.view.set]{fullShare} arg13.view.writes (Elt F) (harg13.unread x13) L.2.2.2.1) ∗ (arg14.view.loc (c : Thread nD τ) ↦[arg14.view.set]{fullShare} arg14.view.writes (Elt F) (harg14.unread x14) L.2.2.2.2.1) ∗ (arg15.view.loc (c : Thread nD τ) ↦[arg15.view.set]{fullShare} arg15.view.writes (Elt F) (harg15.unread x15) L.2.2.2.2.2)) -∗ K ⟨⟩))
          ⊢ wp frame (wpE (defs₀ (F := F)) Variants.none c none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_, ?_, ?_, ?_), fun E K => ?run⟩
  case run =>
    simp only [cc0_attn_b_bwd_eq_skeleton]; unfold cc0_attn_b_bwd_skel
    simp only [k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5 | sl_exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    isplitl [H12]; · iexact H12
    isplitl [H13]; · iexact H13
    isplitl [H14]; · iexact H14
    iexact H15

end Cert.AttnBwd

end
-- ==== Proof.ValueD.lean ====
/-
  The values of the last step over the keys: each stored vector at an index, in terms of the blocks read.
-/
module

public import proofs.«01_k».proof.Proof.Spec

@[expose] public section

set_option maxRecDepth 16384

noncomputable section

namespace Cert.AttnBwd.StepD

open Cert.KernelIdeal Cert.KernelIdeal.Gen Cert.AttnBwd
open Idealize.ShloMosaic
open scoped BigOperators

/-- The query that position `i` of the step's rows is. -/
def at_ (i : Fin 512) : Fin 2048 := ⟨1536 + i.val, by omega⟩

/-- A sum over all queries of a function that vanishes before the step's first row is the sum over the step's rows. -/
theorem sum_at (f : Fin 2048 → EReal) (hf : ∀ t : Fin 2048, t.val < 1536 → f t = 0) : ∑ i : Fin 512, f (at_ i) = ∑ t, f t :=
  (FinSumWindow.sum_window 1536 (by decide) f fun t ht => hf t (by omega)).symm

variable (B : Blocks)

/-- A query before the step's first row has probability zero. -/
theorem prob_before (h : Fin 2) (s : Fin 512) (t : Fin 2048) (ht : t.val < 1536) : B.prob 3 h s t = 0 :=
  if_neg (by omega)

/-- A query before the step's first row has score gradient zero. -/
theorem dscore_before (h : Fin 2) (s : Fin 512) (t : Fin 2048) (ht : t.val < 1536) : B.dscore 3 h s t = 0 := by
  unfold Blocks.dscore; rw [prob_before B h s t ht, zero_mul]

theorem key0 (x : Vec Ideal S512x128 .bf16) (hx : ∀ s d, x (ix2 s d) = B.k (ix2 s d)) (s : Fin 512) (d : Fin 128) :
    k0_pay95 k0_pay1 x (ix2 s d) = B.key 0 s d := by
  unfold k0_pay95 k0_pay93 Blocks.key
  pointwise
  rw [select_iff (lower d), hx]; rfl

theorem val0 (x : Vec Ideal S512x128 .bf16) (hx : ∀ s d, x (ix2 s d) = B.v (ix2 s d)) (s : Fin 512) (d : Fin 128) :
    k0_pay97 k0_pay1 x (ix2 s d) = B.val 0 s d := by
  unfold k0_pay97 k0_pay94 Blocks.val
  pointwise
  rw [select_iff (lower d), hx]

theorem key1 (x : Vec Ideal S512x128 .bf16) (hx : ∀ s d, x (ix2 s d) = B.k (ix2 s d)) (s : Fin 512) (d : Fin 128) :
    k0_pay96 k0_pay2 x (ix2 s d) = B.key 1 s d := by
  unfold k0_pay96 k0_pay93 Blocks.key
  pointwise
  rw [select_iff (upper d), hx]; rfl

theorem val1 (x : Vec Ideal S512x128 .bf16) (hx : ∀ s d, x (ix2 s d) = B.v (ix2 s d)) (s : Fin 512) (d : Fin 128) :
    k0_pay98 k0_pay2 x (ix2 s d) = B.val 1 s d := by
  unfold k0_pay98 k0_pay94 Blocks.val
  pointwise
  rw [select_iff (upper d), hx]

/-- The step's mask keeps a query at or after the key. -/
theorem mask (s : Fin 512) (i : Fin 512) :
    (k0_pay99 (Scalar.muli (BitVec.ofNat 32 3) 4#32) (ix2 s i) = 1#1) ↔ 512 * 3 + s.val ≤ (at_ i).val := by
  unfold k0_pay99 at_; pointwise
  rw [show Scalar.muli (Scalar.muli 3#32 4#32) 128#32 = BitVec.ofNat 32 1536 by decide]
  simp only [show (1536#32 : BitVec 32) = BitVec.ofNat 32 1536 from rfl, WordCmp.addi_ofNat]; word_cmp

/-- The same over the grid coordinate. -/
theorem mask_of (i : grid0.Coords) (hi : (i 1).val = 3) (s : Fin 512) (j : Fin 512) :
    (k0_pay99 (Scalar.muli (BitVec.ofNat 32 (i 1).val) 4#32) (ix2 s j) = 1#1) ↔ 512 * 3 + s.val ≤ (at_ j).val := by
  rw [hi]; exact mask s j

theorem zero_at (s : Fin 512) (j : Fin 512) : constant (F := Ideal) S512x512 .f32 0#32 (ix2 s j) = 0 := by
  pointwise

/-- The casts before the stores change no value. -/
theorem cast_dk (x : FVec Ideal S512x128 .f32) (j : S512x128.Idx) : k0_pay15 x j = x j := rfl
theorem cast_dv (x : FVec Ideal S512x128 .f32) (j : S512x128.Idx) : k0_pay16 x j = x j := rfl
theorem cast_dq (x : FVec Ideal S128x512 .f32) (j : (⟨2, ![128, 512]⟩ : Shape).Idx) : k0_pay14 x j = x j := shapeCast_at _ _ _

theorem prob0 (xk : FVec Ideal S512x128 .bf16) (hxk : ∀ s d, xk (ix2 s d) = B.key 0 s d) (xq : Vec Ideal S512x128 .bf16) (hxq : ∀ i d, xq (ix2 i d) = B.q (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (s : Fin 512) (i : Fin 512) :
    k0_pay100 xk xq mk z xc xd xl (ix2 s i) = B.prob 3 0 s (at_ i) := by
  unfold k0_pay100
  pointwise
  rw [select_iff (hmk s i)]
  simp only [hz, zero_add, hxk, hxq, hxc, hxd, hxl]; rfl

theorem prob1 (xk : FVec Ideal S512x128 .bf16) (hxk : ∀ s d, xk (ix2 s d) = B.key 1 s d) (xq : Vec Ideal S512x128 .bf16) (hxq : ∀ i d, xq (ix2 i d) = B.q (ix2 (at_ i) d)) (mk : IVec S512x512 1) (hmk : ∀ s i, (mk (ix2 s i) = 1#1) ↔ 512 * 3 + s.val ≤ (at_ i).val) (xc : Vec Ideal S1x1x512 .f32) (hxc : ∀ i, xc (ix3 0 0 i) = B.cq (ix3 0 1 (at_ i))) (xd : Vec Ideal S1x512x1 .f32) (hxd : ∀ s, xd (ix3 0 s 0) = B.ck (ix3 0 s 1)) (xl : Vec Ideal S1x1x512 .f32) (hxl : ∀ i, xl (ix3 0 0 i) = B.lse (ix3 0 1 (at_ i))) (s : Fin 512) (i : Fin 512) :
    k0_pay109 xk xq mk xc xd xl (ix2 s i) = B.prob 3 1 s (at_ i) := by
  unfold k0_pay109
  pointwise
  rw [select_iff (hmk s i)]
  simp only [hxk, hxq, hxc, hxd, hxl]; rfl

theorem dscore0 (xk : FVec Ideal S512x128 .bf16) (hxk : ∀ s d, xk (ix2 s d) = B.key 0 s d) (xv : FVec Ideal S512x128 .bf16) (hxv : ∀ s d, xv (ix2 s d) = B.val 0 s d) (xq : Vec Ideal S512x128 .bf16) (hxq : ∀ i d, xq (ix2 i d) = B.q (ix2 (at_ i) d)) (xg : Vec Ideal S512x128 .bf16) (hxg : ∀ i d, xg (ix2 i d) = B.go (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (xm : Vec Ideal S1x1x512 .f32) (hxm : ∀ i, xm (ix3 0 0 i) = B.delta (ix3 0 0 (at_ i))) (s : Fin 512) (i : Fin 512) :
    k0_pay101 xk xv xq xg mk z xc xd xl xm (ix2 s i) = B.dscore 3 0 s (at_ i) := by
  unfold k0_pay101 Blocks.dscore
  pointwise
  rw [prob0 B xk hxk xq hxq mk hmk z hz xc hxc xd hxd xl hxl]
  simp only [hxv, hxg, hxm]

theorem dscore0' (xk : FVec Ideal S512x128 .bf16) (hxk : ∀ s d, xk (ix2 s d) = B.key 0 s d) (xv : FVec Ideal S512x128 .bf16) (hxv : ∀ s d, xv (ix2 s d) = B.val 0 s d) (xq : Vec Ideal S512x128 .bf16) (hxq : ∀ i d, xq (ix2 i d) = B.q (ix2 (at_ i) d)) (xg : Vec Ideal S512x128 .bf16) (hxg : ∀ i d, xg (ix2 i d) = B.go (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (xm : Vec Ideal S1x1x512 .f32) (hxm : ∀ i, xm (ix3 0 0 i) = B.delta (ix3 0 0 (at_ i))) (s : Fin 512) (i : Fin 512) :
    k0_pay102 xk xv xq xg mk z xc xd xl xm (ix2 s i) = B.dscore 3 0 s (at_ i) := by
  unfold k0_pay102
  pointwise
  exact dscore0 B xk hxk xv hxv xq hxq xg hxg mk hmk z hz xc hxc xd hxd xl hxl xm hxm s i

theorem inner1 (xv : FVec Ideal S512x128 .bf16) (hxv : ∀ s d, xv (ix2 s d) = B.val 1 s d) (xg : Vec Ideal S512x128 .bf16) (hxg : ∀ i d, xg (ix2 i d) = B.go (ix2 (at_ i) d)) (xm : Vec Ideal S1x1x512 .f32) (hxm : ∀ i, xm (ix3 0 0 i) = B.delta (ix3 0 1 (at_ i))) (s : Fin 512) (i : Fin 512) :
    k0_pay110 xv xg xm (ix2 s i) = (∑ d : Fin 128, B.val 1 s d * B.go (ix2 (at_ i) d)) - B.delta (ix3 0 1 (at_ i)) := by
  unfold k0_pay110
  pointwise
  simp only [hxv, hxg, hxm]

theorem dscore1 (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (s : Fin 512) (i : Fin 512) :
    k0_pay111 p w (ix2 s i) = B.dscore 3 1 s (at_ i) := by
  unfold k0_pay111 Blocks.dscore
  pointwise
  rw [hp, hw]

theorem dscore1' (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (s : Fin 512) (i : Fin 512) :
    k0_pay112 p w (ix2 s i) = B.dscore 3 1 s (at_ i) := by
  unfold k0_pay112
  pointwise
  exact dscore1 B p hp w hw s i

theorem dval_lower (xk : FVec Ideal S512x128 .bf16) (hxk : ∀ s d, xk (ix2 s d) = B.key 0 s d) (xq : Vec Ideal S512x128 .bf16) (hxq : ∀ i d, xq (ix2 i d) = B.q (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (xg : Vec Ideal S512x128 .bf16) (hxg : ∀ i d, xg (ix2 i d) = B.go (ix2 (at_ i) d)) (s : Fin 512) (d : Fin 128) :
    k0_pay103 k0_pay1 xk xq xg mk z xc xd xl (ix2 s d) = if lane 0 d then ∑ t, B.prob 3 0 s t * B.go (ix2 t d) else 0 := by
  unfold k0_pay103
  pointwise
  rw [select_iff (lower d)]
  simp only [prob0 B xk hxk xq hxq mk hmk z hz xc hxc xd hxd xl hxl, hxg]
  rw [sum_at (fun t => B.prob 3 0 s t * B.go (ix2 t d)) fun t ht => by rw [prob_before B 0 s t ht, zero_mul]]

theorem dkey_lower (xk : FVec Ideal S512x128 .bf16) (hxk : ∀ s d, xk (ix2 s d) = B.key 0 s d) (xv : FVec Ideal S512x128 .bf16) (hxv : ∀ s d, xv (ix2 s d) = B.val 0 s d) (xq : Vec Ideal S512x128 .bf16) (hxq : ∀ i d, xq (ix2 i d) = B.q (ix2 (at_ i) d)) (xg : Vec Ideal S512x128 .bf16) (hxg : ∀ i d, xg (ix2 i d) = B.go (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (xm : Vec Ideal S1x1x512 .f32) (hxm : ∀ i, xm (ix3 0 0 i) = B.delta (ix3 0 0 (at_ i))) (s : Fin 512) (d : Fin 128) :
    k0_pay104 k0_pay1 xk xv xq xg mk z xc xd xl xm (ix2 s d) = if lane 0 d then (∑ t, B.dscore 3 0 s t * B.q (ix2 t d)) * eighth else 0 := by
  unfold k0_pay104
  pointwise
  rw [select_iff (lower d)]
  simp only [dscore0' B xk hxk xv hxv xq hxq xg hxg mk hmk z hz xc hxc xd hxd xl hxl xm hxm, hxq]
  rw [sum_at (fun t => B.dscore 3 0 s t * B.q (ix2 t d)) fun t ht => by rw [dscore_before B 0 s t ht, zero_mul]]
  rfl

/-- The stored value gradient. -/
theorem dval_eq (xg : Vec Ideal S512x128 .bf16) (hxg : ∀ i d, xg (ix2 i d) = B.go (ix2 (at_ i) d)) (y : FVec Ideal S512x128 .f32) (hy : ∀ s d, y (ix2 s d) = if lane 0 d then ∑ t, B.prob 3 0 s t * B.go (ix2 t d) else 0) (p : FVec Ideal S512x512 .f32) (hp : ∀ s i, p (ix2 s i) = B.prob 3 1 s (at_ i)) (s : Fin 512) (d : Fin 128) :
    k0_pay113 k0_pay2 xg y p (ix2 s d) = B.dval 3 s d := by
  unfold k0_pay113 Blocks.dval
  pointwise
  rw [select_iff (upper d), hy]
  simp only [hp, hxg]
  rw [sum_at (fun t => B.prob 3 1 s t * B.go (ix2 t d)) fun t ht => by rw [prob_before B 1 s t ht, zero_mul]]
  exact by_head (fun h => ∑ t, B.prob 3 h s t * B.go (ix2 t d)) d

/-- The stored key gradient. -/
theorem dkey_eq (xq : Vec Ideal S512x128 .bf16) (hxq : ∀ i d, xq (ix2 i d) = B.q (ix2 (at_ i) d)) (y : FVec Ideal S512x128 .f32) (hy : ∀ s d, y (ix2 s d) = if lane 0 d then (∑ t, B.dscore 3 0 s t * B.q (ix2 t d)) * eighth else 0) (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (s : Fin 512) (d : Fin 128) :
    k0_pay114 k0_pay2 xq y p w (ix2 s d) = B.dkey 3 s d := by
  unfold k0_pay114 Blocks.dkey
  pointwise
  rw [select_iff (upper d), hy]
  simp only [dscore1' B p hp w hw, hxq]
  rw [sum_at (fun t => B.dscore 3 1 s t * B.q (ix2 t d)) fun t ht => by rw [dscore_before B 1 s t ht, zero_mul]]
  exact by_head (fun h => (∑ t, B.dscore 3 h s t * B.q (ix2 t d)) * eighth) d

/-- The stored gradient of the first head's decay at the keys. -/
theorem decayK0 (xk : FVec Ideal S512x128 .bf16) (hxk : ∀ s d, xk (ix2 s d) = B.key 0 s d) (xv : FVec Ideal S512x128 .bf16) (hxv : ∀ s d, xv (ix2 s d) = B.val 0 s d) (xq : Vec Ideal S512x128 .bf16) (hxq : ∀ i d, xq (ix2 i d) = B.q (ix2 (at_ i) d)) (xg : Vec Ideal S512x128 .bf16) (hxg : ∀ i d, xg (ix2 i d) = B.go (ix2 (at_ i) d)) (mk : IVec S512x512 1) (hmk : ∀ s i, (mk (ix2 s i) = 1#1) ↔ 512 * 3 + s.val ≤ (at_ i).val) (z : FVec Ideal S512x512 .f32) (hz : ∀ s i, z (ix2 s i) = 0) (xc : Vec Ideal S1x1x512 .f32) (hxc : ∀ i, xc (ix3 0 0 i) = B.cq (ix3 0 0 (at_ i))) (xd : Vec Ideal S1x512x1 .f32) (hxd : ∀ s, xd (ix3 0 s 0) = B.ck (ix3 0 s 0)) (xl : Vec Ideal S1x1x512 .f32) (hxl : ∀ i, xl (ix3 0 0 i) = B.lse (ix3 0 0 (at_ i))) (xm : Vec Ideal S1x1x512 .f32) (hxm : ∀ i, xm (ix3 0 0 i) = B.delta (ix3 0 0 (at_ i))) (s : Fin 512) :
    k0_pay107 (k0_pay105 xk xv xq xg mk z xc xd xl xm) k0_pay106 (ix3 0 s 0) = B.ddecayK 3 s 0 := by
  unfold k0_pay107 k0_pay106 k0_pay105 Blocks.ddecayK
  pointwise
  simp only [dscore0 B xk hxk xv hxv xq hxq xg hxg mk hmk z hz xc hxc xd hxd xl hxl xm hxm]
  rw [sum_at (B.dscore 3 0 s) (dscore_before B 0 s)]

/-- The stored gradient of the second head's decay at the keys. -/
theorem decayK1 (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (s : Fin 512) :
    k0_pay115 p w (ix3 0 s 0) = B.ddecayK 3 s 1 := by
  unfold k0_pay115 Blocks.ddecayK
  pointwise
  simp only [dscore1 B p hp w hw]
  rw [sum_at (B.dscore 3 1 s) (dscore_before B 1 s)]

/-- The stored gradient of the first head's decay at the queries. -/
theorem decayQ0 (x : FVec Ideal S512x512 .f32) (hx : ∀ s i, x (ix2 s i) = B.dscore 3 0 s (at_ i)) (o : Vec Ideal S1x1x512 .f32) (i : Fin 512) :
    k0_pay108 x o (ix3 0 0 i) = o (ix3 0 0 i) + B.ddecayQ 3 0 (at_ i) := by
  unfold k0_pay108 Blocks.ddecayQ
  pointwise
  simp only [hx]

/-- The stored gradient of the second head's decay at the queries. -/
theorem decayQ1 (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (o : Vec Ideal S1x1x512 .f32) (i : Fin 512) :
    k0_pay116 p w o (ix3 0 0 i) = o (ix3 0 0 i) + B.ddecayQ 3 1 (at_ i) := by
  unfold k0_pay116 Blocks.ddecayQ
  pointwise
  simp only [dscore1 B p hp w hw]

/-- The running sum of the query gradient. -/
theorem dquery_eq (k0 k1 : FVec Ideal S512x128 .bf16) (hk0 : ∀ s d, k0 (ix2 s d) = B.key 0 s d) (hk1 : ∀ s d, k1 (ix2 s d) = B.key 1 s d)
    (x : FVec Ideal S512x512 .bf16) (hx : ∀ s i, x (ix2 s i) = B.dscore 3 0 s (at_ i)) (p : FVec Ideal S512x512 .f32) (hp : ∀ s i, p (ix2 s i) = B.prob 3 1 s (at_ i)) (w : FVec Ideal S512x512 .f32) (hw : ∀ s i, w (ix2 s i) = (∑ d : Fin 128, B.val 1 s d * B.go (ix2 (at_ i) d)) - B.delta (ix3 0 1 (at_ i))) (o : Vec Ideal S128x512 .f32) (d : Fin 128) (i : Fin 512) :
    k0_pay117 k0 k1 x p w o (ix2 d i) = o (ix2 d i) + B.dquery 3 d (at_ i) := by
  unfold k0_pay117 Blocks.dquery
  pointwise
  simp only [dscore1' B p hp w hw, hk0, hk1, hx]

end Cert.AttnBwd.StepD

end
-- ==== Proof.ResultD.lean ====
/-
  What the last step over the keys leaves in each buffer, read off the stores it makes.
-/
module

public import proofs.«01_k».proof.Proof.BodyD
public import proofs.«01_k».proof.Proof.ValueD

@[expose] public section

set_option maxRecDepth 16384

noncomputable section

namespace Cert.AttnBwd.StepD

open Cert.KernelIdeal Cert.KernelIdeal.Gen Cert.AttnBwd
open Idealize.ShloMosaic Idealize.ShloMosaic.TcCoe Idealize.ShloMosaic.Tactic

variable (B : Blocks)

/-- The first row of the step's keys, as the kernel computes it. -/
theorem row_off (i : grid0.Coords) (hi : (i 1).val = 3) :
    ![(Scalar.indexCast (Scalar.muli (Scalar.muli (BitVec.ofNat 32 (i 1).val) 4#32) 128#32)).toNat, 0] = (![512 * 3, 0] : Fin 2 → ℕ) := by
  rw [hi]; rfl

/-- Every query is before the step's first row or at one of its rows. -/
theorem before_or_at (t : Fin 2048) : t.val < 1536 ∨ ∃ i, t = at_ i := by
  by_cases h : t.val < 1536
  · exact .inl h
  · exact .inr ⟨⟨t.val - 1536, by omega⟩, Fin.ext (show t.val = 1536 + (t.val - 1536) by omega)⟩

/-- Nothing is added to the decay gradient of a query before the step's first row. -/
theorem decayQ_before (h : Fin 2) (t : Fin 2048) (ht : t.val < 1536) : B.ddecayQ 3 h t = 0 :=
  Finset.sum_eq_zero fun s _ => dscore_before B h s t ht

/-- Nothing is added to the gradient of a query before the step's first row. -/
theorem dquery_before (d : Fin 128) (t : Fin 2048) (ht : t.val < 1536) : B.dquery 3 d t = 0 := by
  unfold Blocks.dquery
  simp only [dscore_before B _ _ t ht, mul_zero, Finset.sum_const_zero, add_zero]

-- many loads are resolved
set_option maxHeartbeats 1000000 in
/-- The last step leaves what its specification says. -/
theorem step (c : Dev nD) (i : grid0.Coords) (hi : (i 1).val = 3) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) :
    Step 3 B x11 x12 x14 x15 (arg11.view.read (Elt Ideal) (arg11.view.writes (Elt Ideal) (harg11.unread x11) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.1)) (arg12.view.read (Elt Ideal) (arg12.view.writes (Elt Ideal) (harg12.unread x12) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.1)) (arg13.view.read (Elt Ideal) (arg13.view.writes (Elt Ideal) (harg13.unread x13) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.1)) (arg14.view.read (Elt Ideal) (arg14.view.writes (Elt Ideal) (harg14.unread x14) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2.1)) (arg15.view.read (Elt Ideal) (arg15.view.writes (Elt Ideal) (harg15.unread x15) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2.2)) := by
  constructor
  case dk =>
    intro s d r hr
    unfold runD
    sl_unfold_words
    dsimp only
    refine (hit2 arg11.view _ (![512 * 3, 0]) _ _ _ s d r d (row_off i hi) hr (Nat.zero_add _).symm).trans ?_
    exact (cast_dk _ _).trans (dkey_eq B _ (fun j d => load2 harg2 B.q _ _ j d (at_ j) d rfl (Nat.zero_add _).symm) _ (dkey_lower B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s d)
  case dk_else =>
    intro r d hr
    unfold runD
    sl_unfold_words
    dsimp only
    refine (View.read_writes_cons_unit_of_not_mem arg11.view _ _ _ _ (ix2 r d) (off' := ![512 * 3, 0]) (row_off i hi) 0 (by exact hr)).trans ?_
    exact congrFun (harg11.read_unread x11) _
  case dv =>
    intro s d r hr
    unfold runD
    sl_unfold_words
    dsimp only
    refine (hit2 arg12.view _ (![512 * 3, 0]) _ _ _ s d r d (row_off i hi) hr (Nat.zero_add _).symm).trans ?_
    exact (cast_dv _ _).trans (dval_eq B _ (fun j d => load2 harg5 B.go _ _ j d (at_ j) d rfl (Nat.zero_add _).symm) _ (dval_lower B _ (key0 B _ (fun s d => load2 harg3 B.k _ _ s d s d (Nat.zero_add _).symm (Nat.zero_add _).symm)) _ (fun j d => load2 harg2 B.q _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j d => load2 harg5 B.go _ _ j d (at_ j) d rfl (Nat.zero_add _).symm)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) s d)
  case dv_else =>
    intro r d hr
    unfold runD
    sl_unfold_words
    dsimp only
    refine (View.read_writes_cons_unit_of_not_mem arg12.view _ _ _ _ (ix2 r d) (off' := ![512 * 3, 0]) (row_off i hi) 0 (by exact hr)).trans ?_
    exact congrFun (harg12.read_unread x12) _
  case decayK =>
    intro s h
    unfold runD
    sl_unfold_words
    dsimp only
    match h with
    | ⟨0, _⟩ =>
      refine (View.read_writes_cons_unit_of_not_mem arg13.view _ _ _ _ (ix3 0 s 0) rfl 2 (.inl Nat.zero_lt_one)).trans ?_
      refine (hit3 arg13.view _ ![0, 0, 0] _ _ _ 0 s 0 0 s 0 rfl rfl (Nat.zero_add _).symm rfl).trans ?_
      exact decayK0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl) s
    | ⟨1, _⟩ =>
      refine (hit3 arg13.view _ ![0, 0, 1] _ _ _ 0 s 0 0 s 1 rfl rfl (Nat.zero_add _).symm rfl).trans ?_
      exact decayK1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) s
  case decayQ =>
    intro h t
    unfold runD
    sl_unfold_words
    dsimp only
    obtain rfl | rfl : h = 0 ∨ h = 1 := by
      match h with
      | ⟨0, _⟩ => exact .inl rfl
      | ⟨1, _⟩ => exact .inr rfl
    all_goals obtain ht | ⟨j, rfl⟩ := before_or_at t
    · rw [decayQ_before B 0 t ht, add_zero]
      refine (View.read_writes_cons_unit_of_not_mem arg14.view _ _ _ _ (ix3 0 0 t) rfl 2 (.inl ht)).trans ?_
      refine (View.read_writes_cons_unit_of_not_mem arg14.view _ _ _ _ (ix3 0 0 t) rfl 2 (.inl ht)).trans ?_
      exact congrFun (harg14.read_unread x14) _
    · refine (View.read_writes_cons_unit_of_not_mem arg14.view _ _ _ _ (ix3 0 0 (at_ j)) rfl 1 (.inl Nat.zero_lt_one)).trans ?_
      refine (hit3 arg14.view _ ![0, 0, 1536] _ _ _ 0 0 j 0 0 (at_ j) rfl rfl rfl rfl).trans ?_
      refine (decayQ0 B _ (dscore0 B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ j).trans (congrArg (· + B.ddecayQ 3 0 (at_ j)) ?_)
      exact load3 harg14 x14 _ _ 0 0 j 0 0 (at_ j) rfl rfl rfl
    · rw [decayQ_before B 1 t ht, add_zero]
      refine (View.read_writes_cons_unit_of_not_mem arg14.view _ _ _ _ (ix3 0 1 t) rfl 2 (.inl ht)).trans ?_
      refine (View.read_writes_cons_unit_of_not_mem arg14.view _ _ _ _ (ix3 0 1 t) rfl 2 (.inl ht)).trans ?_
      exact congrFun (harg14.read_unread x14) _
    · refine (hit3 arg14.view _ ![0, 1, 1536] _ _ _ 0 0 j 0 1 (at_ j) rfl rfl rfl rfl).trans ?_
      refine (decayQ1 B _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ j).trans (congrArg (· + B.ddecayQ 3 1 (at_ j)) ?_)
      exact load3 harg14 x14 _ _ 0 0 j 0 1 (at_ j) rfl rfl rfl
  case dq =>
    intro d t
    unfold runD
    sl_unfold_words
    dsimp only
    obtain ht | ⟨j, rfl⟩ := before_or_at t
    · rw [dquery_before B d t ht, add_zero]
      refine (View.read_writes_cons_unit_of_not_mem arg15.view _ _ _ _ (ix2 d t) rfl 1 (.inl ht)).trans ?_
      exact congrFun (harg15.read_unread x15) _
    · refine (hit2 arg15.view _ ![0, 1536] _ _ _ d j d (at_ j) rfl (Nat.zero_add _).symm rfl).trans ?_
      refine (cast_dq _ _).trans ((dquery_eq B _ _ (key0 B _ (fun s d => load2 harg3 B.k _ _ s d s d (Nat.zero_add _).symm (Nat.zero_add _).symm)) (key1 B _ (fun s d => load2 harg3 B.k _ _ s d s d (Nat.zero_add _).symm (Nat.zero_add _).symm)) _ (dscore0' B _ (key0 B _ (fun s d => load2 harg3 B.k _ _ s d s d (Nat.zero_add _).symm (Nat.zero_add _).symm)) _ (val0 B _ (fun s d => load2 harg4 B.v _ _ s d s d (Nat.zero_add _).symm (Nat.zero_add _).symm)) _ (fun j d => load2 harg2 B.q _ _ j d (at_ j) d rfl (Nat.zero_add _).symm) _ (fun j d => load2 harg5 B.go _ _ j d (at_ j) d rfl (Nat.zero_add _).symm) _ (mask_of i hi) _ zero_at _ (fun j => load3 harg8 B.cq _ _ 0 0 j 0 0 (at_ j) rfl rfl rfl) _ (fun s => load3 harg9 B.ck _ _ 0 s 0 0 s 0 rfl (Nat.zero_add _).symm rfl) _ (fun j => load3 harg6 B.lse _ _ 0 0 j 0 0 (at_ j) rfl rfl rfl) _ (fun j => load3 harg7 B.delta _ _ 0 0 j 0 0 (at_ j) rfl rfl rfl)) _ (prob1 B _ (key1 B _ (fun s d => load2 harg3 B.k _ _ s d s d (Nat.zero_add _).symm (Nat.zero_add _).symm)) _ (fun j d => load2 harg2 B.q _ _ j d (at_ j) d rfl (Nat.zero_add _).symm) _ (mask_of i hi) _ (fun j => load3 harg8 B.cq _ _ 0 0 j 0 1 (at_ j) rfl rfl rfl) _ (fun s => load3 harg9 B.ck _ _ 0 s 0 0 s 1 rfl (Nat.zero_add _).symm rfl) _ (fun j => load3 harg6 B.lse _ _ 0 0 j 0 1 (at_ j) rfl rfl rfl)) _ (inner1 B _ (val1 B _ (fun s d => load2 harg4 B.v _ _ s d s d (Nat.zero_add _).symm (Nat.zero_add _).symm)) _ (fun j d => load2 harg5 B.go _ _ j d (at_ j) d rfl (Nat.zero_add _).symm) _ (fun j => load3 harg7 B.delta _ _ 0 0 j 0 1 (at_ j) rfl rfl rfl)) _ d j).trans (congrArg (· + B.dquery 3 d (at_ j)) ?_))
      exact load2 harg15 x15 _ _ d j d (at_ j) (Nat.zero_add _).symm rfl

/-- The last step stores the finished query gradient, the running sum transposed. -/
theorem dq_out (c : Dev nD) (i : grid0.Coords) (hi : (i 1).val = 3) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) (t : Fin 2048) (d : Fin 128) :
    (arg10.view.read (Elt Ideal) (arg10.view.writes (Elt Ideal) (harg10.unread x10) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.1)) (ix2 t d) = (arg15.view.read (Elt Ideal) (arg15.view.writes (Elt Ideal) (harg15.unread x15) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 B.q B.k B.v B.go B.lse B.delta B.cq B.ck x10 x11 x12 x13 x14 x15).1.2.2.2.2.2)) (ix2 d t) := by
  unfold runD
  sl_unfold_words
  dsimp only
  refine (hit2 arg10.view _ ![0, 0] _ _ _ t d t d rfl (Nat.zero_add _).symm (Nat.zero_add _).symm).trans ?_
  unfold k0_pay17
  pointwise
  exact readAt2 arg15.view _ _ _ d t d t (Nat.zero_add _).symm (Nat.zero_add _).symm

end Cert.AttnBwd.StepD

end
-- ==== Proof.Steps.lean ====
/-
  The body of the attention gradient at any step over the keys, run on whole buffers: what it leaves, and, over the reals, that this is what
  `Step` says.
-/
module

public import proofs.«01_k».proof.Proof.ResultA
public import proofs.«01_k».proof.Proof.ResultB
public import proofs.«01_k».proof.Proof.ResultC
public import proofs.«01_k».proof.Proof.ResultD
public import Idealize.ShloMosaic.Lib.WordCmp

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- What a buffer starts the step from: zero at a head pair's first step, what it held at the others. -/
def start {S : Shape} (g : ℕ) (x : Vec Ideal S .f32) : Vec Ideal S .f32 := if g = 0 then fun _ => 0 else x

/-- What step `g` leaves in the five outputs and the running sum, from what they held: `Step`, and at the last step the query gradient
    written out. -/
structure Leaves (g : ℕ) (B : Blocks) (x₁₁ x₁₂ : Vec Ideal S2048x128 .bf16) (x₁₄ : Vec Ideal S1x2x2048 .f32) (x₁₅ : Vec Ideal S128x2048 .f32)
    (y₁₀ y₁₁ y₁₂ : Vec Ideal S2048x128 .bf16) (y₁₃ : Vec Ideal S1x512x2 .f32) (y₁₄ : Vec Ideal S1x2x2048 .f32) (y₁₅ : Vec Ideal S128x2048 .f32) : Prop where
  step : Step g B x₁₁ x₁₂ (start g x₁₄) (start g x₁₅) y₁₁ y₁₂ y₁₃ y₁₄ y₁₅
  out : g = 3 → ∀ (t : Fin 2048) (d : Fin 128), y₁₀ (ix2 t d) = y₁₅ (ix2 d t)

/-- The body's six conditions on the step number. -/
theorem cond1_iff (i : grid0.Coords) : k0_cond1 i = 1#1 ↔ (i 1).val = 0 := by
  have h : (i 1).val < 4 := (i 1).isLt
  generalize hg : (i 1).val = g at h ⊢
  simp only [k0_cond1, hg]
  word_cmp

/-- The same for condition 2. -/
theorem cond2_iff (i : grid0.Coords) : k0_cond2 i = 1#1 ↔ (i 1).val = 0 := by
  have h : (i 1).val < 4 := (i 1).isLt
  generalize hg : (i 1).val = g at h ⊢
  simp only [k0_cond2, hg]
  word_cmp

/-- The same for condition 3. -/
theorem cond3_iff (i : grid0.Coords) : k0_cond3 i = 1#1 ↔ (i 1).val = 1 := by
  have h : (i 1).val < 4 := (i 1).isLt
  generalize hg : (i 1).val = g at h ⊢
  simp only [k0_cond3, hg]
  word_cmp

/-- The same for condition 4. -/
theorem cond4_iff (i : grid0.Coords) : k0_cond4 i = 1#1 ↔ (i 1).val = 2 := by
  have h : (i 1).val < 4 := (i 1).isLt
  generalize hg : (i 1).val = g at h ⊢
  simp only [k0_cond4, hg]
  word_cmp

/-- The same for condition 5. -/
theorem cond5_iff (i : grid0.Coords) : k0_cond5 i = 1#1 ↔ (i 1).val = 3 := by
  have h : (i 1).val < 4 := (i 1).isLt
  generalize hg : (i 1).val = g at h ⊢
  simp only [k0_cond5, hg]
  word_cmp

/-- The same for condition 6. -/
theorem cond6_iff (i : grid0.Coords) : k0_cond6 i = 1#1 ↔ (i 1).val = 3 := by
  have h : (i 1).val < 4 := (i 1).isLt
  generalize hg : (i 1).val = g at h ⊢
  simp only [k0_cond6, hg]
  word_cmp

variable (c : Dev nD) (i : grid0.Coords)
  (arg2 : Memref sig .tc .vmem S2048x128 .bf16) (harg2 : arg2.IsWhole)
  (arg3 : Memref sig .tc .vmem S512x128 .bf16) (harg3 : arg3.IsWhole)
  (arg4 : Memref sig .tc .vmem S512x128 .bf16) (harg4 : arg4.IsWhole)
  (arg5 : Memref sig .tc .vmem S2048x128 .bf16) (harg5 : arg5.IsWhole)
  (arg6 : Memref sig .tc .vmem S1x2x2048 .f32) (harg6 : arg6.IsWhole)
  (arg7 : Memref sig .tc .vmem S1x2x2048 .f32) (harg7 : arg7.IsWhole)
  (arg8 : Memref sig .tc .vmem S1x2x2048 .f32) (harg8 : arg8.IsWhole)
  (arg9 : Memref sig .tc .vmem S1x512x2 .f32) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x512x2 .f32) (harg13 : arg13.IsWhole)
  (arg14 : Memref sig .tc .vmem S1x2x2048 .f32) (harg14 : arg14.IsWhole)
  (arg15 : Memref sig .tc .vmem S128x2048 .f32) (harg15 : arg15.IsWhole)

section Any

variable {F : FTy → Type} [FloatOps F]

local notation "𝕄" => MT nD τ sig Unit (Elt F) ℕ (UR sig nD τ) ℕ

variable (x2 : Vec F S2048x128 .bf16) (x3 : Vec F S512x128 .bf16) (x4 : Vec F S512x128 .bf16) (x5 : Vec F S2048x128 .bf16) (x6 : Vec F S1x2x2048 .f32) (x7 : Vec F S1x2x2048 .f32) (x8 : Vec F S1x2x2048 .f32) (x9 : Vec F S1x512x2 .f32) (x10 : Vec F S2048x128 .bf16) (x11 : Vec F S2048x128 .bf16) (x12 : Vec F S2048x128 .bf16) (x13 : Vec F S1x512x2 .f32) (x14 : Vec F S1x2x2048 .f32) (x15 : Vec F S128x2048 .f32)

/-- What the body leaves: in every buffer that it writes, the stores of the step that its coordinates select, over what the buffer held. -/
def After (y10 : Vec F S2048x128 .bf16) (y11 : Vec F S2048x128 .bf16) (y12 : Vec F S2048x128 .bf16) (y13 : Vec F S1x512x2 .f32) (y14 : Vec F S1x2x2048 .f32) (y15 : Vec F S128x2048 .f32) : Prop :=
  (∃ (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1), y10 = x10 ∧ y11 = arg11.view.read (Elt F) (arg11.view.writes (Elt F) (harg11.unread x11) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.1) ∧ y12 = arg12.view.read (Elt F) (arg12.view.writes (Elt F) (harg12.unread x12) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.1) ∧ y13 = arg13.view.read (Elt F) (arg13.view.writes (Elt F) (harg13.unread x13) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.1) ∧ y14 = arg14.view.read (Elt F) (arg14.view.writes (Elt F) (harg14.unread x14) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.1) ∧ y15 = arg15.view.read (Elt F) (arg15.view.writes (Elt F) (harg15.unread x15) (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.2))
  ∨ (∃ (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1), y10 = x10 ∧ y11 = arg11.view.read (Elt F) (arg11.view.writes (Elt F) (harg11.unread x11) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.1) ∧ y12 = arg12.view.read (Elt F) (arg12.view.writes (Elt F) (harg12.unread x12) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.1) ∧ y13 = arg13.view.read (Elt F) (arg13.view.writes (Elt F) (harg13.unread x13) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.1) ∧ y14 = arg14.view.read (Elt F) (arg14.view.writes (Elt F) (harg14.unread x14) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.1) ∧ y15 = arg15.view.read (Elt F) (arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.2))
  ∨ (∃ (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1), y10 = x10 ∧ y11 = arg11.view.read (Elt F) (arg11.view.writes (Elt F) (harg11.unread x11) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.1) ∧ y12 = arg12.view.read (Elt F) (arg12.view.writes (Elt F) (harg12.unread x12) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.1) ∧ y13 = arg13.view.read (Elt F) (arg13.view.writes (Elt F) (harg13.unread x13) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.1) ∧ y14 = arg14.view.read (Elt F) (arg14.view.writes (Elt F) (harg14.unread x14) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.1) ∧ y15 = arg15.view.read (Elt F) (arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.2))
  ∨ (∃ (hc1 : ¬k0_cond1 i = 1#1) (hc2 : ¬k0_cond2 i = 1#1) (hc3 : ¬k0_cond3 i = 1#1) (hc4 : ¬k0_cond4 i = 1#1) (hc5 : k0_cond5 i = 1#1) (hc6 : k0_cond6 i = 1#1), y10 = arg10.view.read (Elt F) (arg10.view.writes (Elt F) (harg10.unread x10) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.1) ∧ y11 = arg11.view.read (Elt F) (arg11.view.writes (Elt F) (harg11.unread x11) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.1) ∧ y12 = arg12.view.read (Elt F) (arg12.view.writes (Elt F) (harg12.unread x12) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.1) ∧ y13 = arg13.view.read (Elt F) (arg13.view.writes (Elt F) (harg13.unread x13) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.1) ∧ y14 = arg14.view.read (Elt F) (arg14.view.writes (Elt F) (harg14.unread x14) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.2.1) ∧ y15 = arg15.view.read (Elt F) (arg15.view.writes (Elt F) (harg15.unread x15) (runD c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x2 x3 x4 x5 x6 x7 x8 x9 x10 x11 x12 x13 x14 x15).1.2.2.2.2.2))

/-- The body's triple, as every step has it. -/
def Walks : Prop := ∀ (E : Set ℕ) (K : PUnit → sProp 𝕄),
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (iprop(∃ y10 y11 y12 y13 y14 y15, ⌜After c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 y10 y11 y12 y13 y14 y15⌝ ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15) -∗ K ⟨⟩))
    ⊢ wp frame (wpE (defs₀ (F := F)) Variants.none c none) E (cc0_attn_b_bwd i arg2 harg2 arg3 harg3 arg4 harg4 arg5 harg5 arg6 harg6 arg7 harg7 arg8 harg8 arg9 harg9 arg10 harg10 arg11 harg11 arg12 harg12 arg13 harg13 arg14 harg14 arg15 harg15) K

-- the run's statement is large
set_option maxHeartbeats 1000000 in
/-- The first step. -/
theorem walkA (hi : (i 1).val = 0) : Walks c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 := by
  intro E K
  iintro ⟨H2, H3, H4, H5, H6, H7, H8, H9, H10, H11, H12, H13, H14, H15, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply Hk
  iexists x10
  iexists (arg11.view.read (Elt F) (arg11.view.writes (Elt F) (harg11.unread x11) (runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.1))
  iexists (arg12.view.read (Elt F) (arg12.view.writes (Elt F) (harg12.unread x12) (runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.1))
  iexists (arg13.view.read (Elt F) (arg13.view.writes (Elt F) (harg13.unread x13) (runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.1))
  iexists (arg14.view.read (Elt F) (arg14.view.writes (Elt F) (harg14.unread x14) (runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.2.1))
  iexists (arg15.view.read (Elt F) (arg15.view.writes (Elt F) (harg15.unread x15) (runA c i arg2 harg2 arg3 harg3 arg4 harg4 arg5 harg5 arg6 harg6 arg7 harg7 arg8 harg8 arg9 harg9 arg10 harg10 arg11 harg11 arg12 harg12 arg13 harg13 arg14 harg14 arg15 harg15 ((cond1_iff i).mpr hi) ((cond2_iff i).mpr hi) (fun h => absurd ((cond3_iff i).mp h) (by omega)) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.2.2))
  isplitr; · ipureintro; exact .inl ⟨(cond1_iff i).mpr hi, (cond2_iff i).mpr hi, fun h => absurd ((cond3_iff i).mp h) (by omega), fun h => absurd ((cond4_iff i).mp h) (by omega), fun h => absurd ((cond5_iff i).mp h) (by omega), fun h => absurd ((cond6_iff i).mp h) (by omega), rfl, rfl, rfl, rfl, rfl, rfl⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  isplitl [H14]
  · unfold owns; iexists _; isplitr
    swap; · iexact H14
    ipureintro; rfl
  unfold owns; iexists _; isplitr
  swap; · iexact H15
  ipureintro; rfl

-- the run's statement is large
set_option maxHeartbeats 1000000 in
/-- The second step. -/
theorem walkB (hi : (i 1).val = 1) : Walks c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 := by
  intro E K
  iintro ⟨H2, H3, H4, H5, H6, H7, H8, H9, H10, H11, H12, H13, H14, H15, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply Hk
  iexists x10
  iexists (arg11.view.read (Elt F) (arg11.view.writes (Elt F) (harg11.unread x11) (runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.1))
  iexists (arg12.view.read (Elt F) (arg12.view.writes (Elt F) (harg12.unread x12) (runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.1))
  iexists (arg13.view.read (Elt F) (arg13.view.writes (Elt F) (harg13.unread x13) (runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.1))
  iexists (arg14.view.read (Elt F) (arg14.view.writes (Elt F) (harg14.unread x14) (runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.2.1))
  iexists (arg15.view.read (Elt F) (arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) ((cond3_iff i).mpr hi) (fun h => absurd ((cond4_iff i).mp h) (by omega)) (fun h => absurd ((cond5_iff i).mp h) (by omega)) (fun h => absurd ((cond6_iff i).mp h) (by omega)) x2 x3 x4 x5 x6 x7 x8 x9 x10 x11 x12 x13 x14 x15).1.2.2.2.2))
  isplitr; · ipureintro; exact .inr <| .inl ⟨fun h => absurd ((cond1_iff i).mp h) (by omega), fun h => absurd ((cond2_iff i).mp h) (by omega), (cond3_iff i).mpr hi, fun h => absurd ((cond4_iff i).mp h) (by omega), fun h => absurd ((cond5_iff i).mp h) (by omega), fun h => absurd ((cond6_iff i).mp h) (by omega), rfl, rfl, rfl, rfl, rfl, rfl⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  isplitl [H14]
  · unfold owns; iexists _; isplitr
    swap; · iexact H14
    ipureintro; rfl
  unfold owns; iexists _; isplitr
  swap; · iexact H15
  ipureintro; rfl

-- the run's statement is large
set_option maxHeartbeats 1000000 in
/-- The third step. -/
theorem walkC (hi : (i 1).val = 2) : Walks c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 := by
  intro E K
  iintro ⟨H2, H3, H4, H5, H6, H7, H8, H9, H10, H11, H12, H13, H14, H15, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply Hk
  iexists x10
  iexists (arg11.view.read (Elt F) (arg11.view.writes (Elt F) (harg11.unread x11) (runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).1.1))
  iexists (arg12.view.read (Elt F) (arg12.view.writes (Elt F) (harg12.unread x12) (runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).1.2.1))
  iexists (arg13.view.read (Elt F) (arg13.view.writes (Elt F) (harg13.unread x13) (runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).1.2.2.1))
  iexists (arg14.view.read (Elt F) (arg14.view.writes (Elt F) (harg14.unread x14) (runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).1.2.2.2.1))
  iexists (arg15.view.read (Elt F) (arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) ((cond4_iff i).mpr hi) (fun h => absurd ((cond5_iff i).mp h) (by omega)) (fun h => absurd ((cond6_iff i).mp h) (by omega)) x2 x3 x4 x5 x6 x7 x8 x9 x10 x11 x12 x13 x14 x15).1.2.2.2.2))
  isplitr; · ipureintro; exact .inr <| .inr <| .inl ⟨fun h => absurd ((cond1_iff i).mp h) (by omega), fun h => absurd ((cond2_iff i).mp h) (by omega), fun h => absurd ((cond3_iff i).mp h) (by omega), (cond4_iff i).mpr hi, fun h => absurd ((cond5_iff i).mp h) (by omega), fun h => absurd ((cond6_iff i).mp h) (by omega), rfl, rfl, rfl, rfl, rfl, rfl⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  isplitl [H14]
  · unfold owns; iexists _; isplitr
    swap; · iexact H14
    ipureintro; rfl
  unfold owns; iexists _; isplitr
  swap; · iexact H15
  ipureintro; rfl

-- the run's statement is large
set_option maxHeartbeats 1000000 in
/-- The last step. -/
theorem walkD (hi : (i 1).val = 3) : Walks c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 := by
  intro E K
  iintro ⟨H2, H3, H4, H5, H6, H7, H8, H9, H10, H11, H12, H13, H14, H15, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, H13, H14, H15⟩
  iapply Hk
  iexists (arg10.view.read (Elt F) (arg10.view.writes (Elt F) (harg10.unread x10) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.1))
  iexists (arg11.view.read (Elt F) (arg11.view.writes (Elt F) (harg11.unread x11) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.2.1))
  iexists (arg12.view.read (Elt F) (arg12.view.writes (Elt F) (harg12.unread x12) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.2.2.1))
  iexists (arg13.view.read (Elt F) (arg13.view.writes (Elt F) (harg13.unread x13) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.2.2.2.1))
  iexists (arg14.view.read (Elt F) (arg14.view.writes (Elt F) (harg14.unread x14) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.2.2.2.2.1))
  iexists (arg15.view.read (Elt F) (arg15.view.writes (Elt F) (harg15.unread x15) (runD c i arg2 harg2 arg3 harg3 arg4 harg4 arg5 harg5 arg6 harg6 arg7 harg7 arg8 harg8 arg9 harg9 arg10 harg10 arg11 harg11 arg12 harg12 arg13 harg13 arg14 harg14 arg15 harg15 (fun h => absurd ((cond1_iff i).mp h) (by omega)) (fun h => absurd ((cond2_iff i).mp h) (by omega)) (fun h => absurd ((cond3_iff i).mp h) (by omega)) (fun h => absurd ((cond4_iff i).mp h) (by omega)) ((cond5_iff i).mpr hi) ((cond6_iff i).mpr hi) x2 x3 x4 x5 x6 x7 x8 x9 x10 x11 x12 x13 x14 x15).1.2.2.2.2.2))
  isplitr; · ipureintro; exact .inr <| .inr <| .inr ⟨fun h => absurd ((cond1_iff i).mp h) (by omega), fun h => absurd ((cond2_iff i).mp h) (by omega), fun h => absurd ((cond3_iff i).mp h) (by omega), fun h => absurd ((cond4_iff i).mp h) (by omega), (cond5_iff i).mpr hi, (cond6_iff i).mpr hi, rfl, rfl, rfl, rfl, rfl, rfl⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rfl
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  isplitl [H14]
  · unfold owns; iexists _; isplitr
    swap; · iexact H14
    ipureintro; rfl
  unfold owns; iexists _; isplitr
  swap; · iexact H15
  ipureintro; rfl

/-- Any step. -/
theorem walk : Walks c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 := by
  have h : (i 1).val = 0 ∨ (i 1).val = 1 ∨ (i 1).val = 2 ∨ (i 1).val = 3 := by have : (i 1).val < 4 := (i 1).isLt; omega
  rcases h with h | h | h | h
  · exact walkA c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 h
  · exact walkB c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 h
  · exact walkC c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 h
  · exact walkD c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 h

end Any

/-- Over the reals, what the body leaves is what the step's mathematics says. -/
theorem After.leaves (B : Blocks) (x10 : Vec Ideal S2048x128 .bf16) (x11 : Vec Ideal S2048x128 .bf16) (x12 : Vec Ideal S2048x128 .bf16) (x13 : Vec Ideal S1x512x2 .f32) (x14 : Vec Ideal S1x2x2048 .f32) (x15 : Vec Ideal S128x2048 .f32) (y10 : Vec Ideal S2048x128 .bf16) (y11 : Vec Ideal S2048x128 .bf16) (y12 : Vec Ideal S2048x128 .bf16) (y13 : Vec Ideal S1x512x2 .f32) (y14 : Vec Ideal S1x2x2048 .f32) (y15 : Vec Ideal S128x2048 .f32)
    (h : After c i arg2 harg2 arg3 harg3 arg4 harg4 arg5 harg5 arg6 harg6 arg7 harg7 arg8 harg8 arg9 harg9 arg10 harg10 arg11 harg11 arg12 harg12 arg13 harg13 arg14 harg14 arg15 harg15 B.q B.k B.v B.go B.lse B.delta B.cq B.ck x10 x11 x12 x13 x14 x15 y10 y11 y12 y13 y14 y15) : Leaves (i 1).val B x11 x12 x14 x15 y10 y11 y12 y13 y14 y15 := by
  rcases h with h | h | h | h <;> obtain ⟨hc1, hc2, hc3, hc4, hc5, hc6, rfl, rfl, rfl, rfl, rfl, rfl⟩ := h
  · have hi := (cond1_iff i).mp hc1
    rw [hi]
    exact ⟨StepA.step B c i hi arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 y10 x11 x12 x13 x14 x15, fun h => absurd h (by decide)⟩
  · have hi := (cond3_iff i).mp hc3
    rw [hi]
    exact ⟨StepB.step B c i hi arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 y10 x11 x12 x13 x14 x15, fun h => absurd h (by decide)⟩
  · have hi := (cond4_iff i).mp hc4
    rw [hi]
    exact ⟨StepC.step B c i hi arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 y10 x11 x12 x13 x14 x15, fun h => absurd h (by decide)⟩
  · have hi := (cond5_iff i).mp hc5
    rw [hi]
    exact ⟨StepD.step B c i hi arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x10 x11 x12 x13 x14 x15, fun _ t d => StepD.dq_out B c i hi arg2 harg2 arg3 harg3 arg4 harg4 arg5 harg5 arg6 harg6 arg7 harg7 arg8 harg8 arg9 harg9 arg10 harg10 arg11 harg11 arg12 harg12 arg13 harg13 arg14 harg14 arg15 harg15 hc1 hc2 hc3 hc4 hc5 hc6 x10 x11 x12 x13 x14 x15 t d⟩

variable {c i arg2 harg2 arg3 harg3 arg4 harg4 arg5 harg5 arg6 harg6 arg7 harg7 arg8 harg8 arg9 harg9 arg10 harg10 arg11 harg11 arg12 harg12 arg13 harg13 arg14 harg14 arg15 harg15} in
/-- The same with the blocks named one by one. -/
theorem After.leaves' {x2 : Vec Ideal S2048x128 .bf16} {x3 : Vec Ideal S512x128 .bf16} {x4 : Vec Ideal S512x128 .bf16} {x5 : Vec Ideal S2048x128 .bf16} {x6 : Vec Ideal S1x2x2048 .f32} {x7 : Vec Ideal S1x2x2048 .f32} {x8 : Vec Ideal S1x2x2048 .f32} {x9 : Vec Ideal S1x512x2 .f32} {x10 : Vec Ideal S2048x128 .bf16} {x11 : Vec Ideal S2048x128 .bf16} {x12 : Vec Ideal S2048x128 .bf16} {x13 : Vec Ideal S1x512x2 .f32} {x14 : Vec Ideal S1x2x2048 .f32} {x15 : Vec Ideal S128x2048 .f32} {y10 : Vec Ideal S2048x128 .bf16} {y11 : Vec Ideal S2048x128 .bf16} {y12 : Vec Ideal S2048x128 .bf16} {y13 : Vec Ideal S1x512x2 .f32} {y14 : Vec Ideal S1x2x2048 .f32} {y15 : Vec Ideal S128x2048 .f32}
    (h : After c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x13 x14 x15 y10 y11 y12 y13 y14 y15) : Leaves (i 1).val ⟨x2, x3, x4, x5, x6, x7, x8, x9⟩ x11 x12 x14 x15 y10 y11 y12 y13 y14 y15 :=
  After.leaves c i arg2 harg2 arg3 harg3 arg4 harg4 arg5 harg5 arg6 harg6 arg7 harg7 arg8 harg8 arg9 harg9 arg10 harg10 arg11 harg11 arg12 harg12 arg13 harg13 arg14 harg14 arg15 harg15 ⟨x2, x3, x4, x5, x6, x7, x8, x9⟩ x10 x11 x12 x13 x14 x15 y10 y11 y12 y13 y14 y15 h

end Cert.AttnBwd

end
-- ==== Proof.Run.lean ====
/-
  The whole run of the attention gradient, over any float values: every property of the outputs that the body passes on from grid point to
  grid point holds of them at the end.
-/
module

public import proofs.«01_k».proof.Proof.Steps
public import Idealize.ShloMosaic.Lib.Pipeline.DatRel
public import Idealize.ShloMosaic.Lib.Pipeline.FrameBody

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running sum as the body is handed it. -/
abbrev acc : Memref sig .tc .vmem S128x2048 .f32 := Memref.whole cc0_scratch0

/-- What the launch hands the region besides the windows: the running sum at anything, and the generator's register. -/
theorem launched (c : Dev nD) : (Pipeline.ΦA spec0 c : sProp 𝕄) = iprop((∃ d, owns (c : Thread nD τ) acc fullShare d) ∗ (∃ r, prngReg c r)) := by
  unfold Pipeline.ΦA; rw [scopedRest0_eq]; simp only [acc, owns_whole]; rfl

/-- A property of what each window's buffer holds after each point. -/
abbrev Prps (F : FTy → Type) : Type := (w : Fin cfg0.W) → Fin cfg0.N → ((cfg0.win w).block.Idx → Elt F (cfg0.win w).elt) → Prop

/-- The point before. -/
abbrev pred (t : Fin cfg0.N) : Fin cfg0.N := ⟨t.val - 1, Nat.lt_of_le_of_lt (Nat.sub_le _ _) t.isLt⟩

variable (Rl : Dev nD → Prps F) (Rs : Dev nD → ℕ → Vec F S128x2048 .f32 → Prop)

/-- The properties `Rl` of the outputs and `Rs` of the running sum pass from point to point: where a point is not a head pair's first, the
    body finds what the point before left; and what it leaves has them. -/
def Passes : Prop :=
  ∀ (c : Dev nD) (t : Fin cfg0.N) (arg2 : Memref sig .tc .vmem S2048x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S2048x128 .bf16) (harg5 : arg5.IsWhole) (arg6 : Memref sig .tc .vmem S1x2x2048 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S1x512x2 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x512x2 .f32) (harg13 : arg13.IsWhole) (arg14 : Memref sig .tc .vmem S1x2x2048 .f32) (harg14 : arg14.IsWhole) (arg15 : Memref sig .tc .vmem S128x2048 .f32) (harg15 : arg15.IsWhole) (x10 : Vec F S2048x128 .bf16) (x11 : Vec F S2048x128 .bf16) (x12 : Vec F S2048x128 .bf16) (x13 : Vec F S1x512x2 .f32) (x14 : Vec F S1x2x2048 .f32) (x15 : Vec F S128x2048 .f32) (y10 : Vec F S2048x128 .bf16) (y11 : Vec F S2048x128 .bf16) (y12 : Vec F S2048x128 .bf16) (y13 : Vec F S1x512x2 .f32) (y14 : Vec F S1x2x2048 .f32) (y15 : Vec F S128x2048 .f32),
    After c (grid0.coords t) arg2 harg2 arg3 harg3 arg4 harg4 arg5 harg5 arg6 harg6 arg7 harg7 arg8 harg8 arg9 harg9 arg10 harg10 arg11 harg11 arg12 harg12 arg13 harg13 arg14 harg14 arg15 harg15 (iblk m c 0 t) (iblk m c 1 t) (iblk m c 2 t) (iblk m c 3 t) (iblk m c 4 t) (iblk m c 5 t) (iblk m c 6 t) (iblk m c 7 t) x10 x11 x12 x13 x14 x15 y10 y11 y12 y13 y14 y15 →
    (t.val % 4 ≠ 0 → Rl c 9 (pred t) x11) → (t.val % 4 ≠ 0 → Rl c 10 (pred t) x12) → (t.val % 4 ≠ 0 → Rl c 12 (pred t) x14) →
    (t.val % 4 ≠ 0 → Rs c (t.val - 1) x15) →
    Rl c 8 t y10 ∧ Rl c 9 t y11 ∧ Rl c 10 t y12 ∧ Rl c 11 t y13 ∧ Rl c 12 t y14 ∧ Rs c t.val y15

/-- Before point `n`: the running sum holds what the point before left in it. -/
def Inv (c : Dev nD) (n : ℕ) : sProp 𝕄 :=
  iprop((∃ X, ⌜n % 4 ≠ 0 → Rs c (n - 1) X⌝ ∗ owns (c : Thread nD τ) acc fullShare X) ∗ (∃ r, prngReg c r))

/-- The windows whose contents are held to a relation: the five outputs. -/
def rel : Fin 13 → Bool := fun w => decide (8 ≤ w.val)

/-- The data of the pipeline: the arrays as the region finds them, the inputs left as found, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed (cfg := cfg0) ⟨8, h⟩ t
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
  Φ t := Inv Rs c t.val
  q w := Pipeline.shareOf spec0 w
  owed _ := 0

/-- The same data with the outputs held to their relations. -/
abbrev rdat (c : Dev nD) : RDat τ (Elt F) Unit ℕ (UR sig nD τ) ℕ cfg0 c := (dat m Rs c).toRRel rel (Rl c)

theorem dat_A (c : Dev nD) (w : Fin cfg0.W) : (dat m Rs c).A w = V m c (Pipeline.arrRef spec0 w) := by dsimp only [dat]

theorem found0 (c : Dev nD) (t : Fin cfg0.N) (d) : (dat m Rs c).before 0 t d = iblk m c 0 t :=
  before0_0_of m (dat m Rs c) (dat_A m Rs c 0) (fun t => by dsimp only [dat]) t d
theorem found1 (c : Dev nD) (t : Fin cfg0.N) (d) : (dat m Rs c).before 1 t d = iblk m c 1 t :=
  before0_1_of m (dat m Rs c) (dat_A m Rs c 1) (fun t => by dsimp only [dat]) t d
theorem found2 (c : Dev nD) (t : Fin cfg0.N) (d) : (dat m Rs c).before 2 t d = iblk m c 2 t :=
  before0_2_of m (dat m Rs c) (dat_A m Rs c 2) (fun t => by dsimp only [dat]) t d
theorem found3 (c : Dev nD) (t : Fin cfg0.N) (d) : (dat m Rs c).before 3 t d = iblk m c 3 t :=
  before0_3_of m (dat m Rs c) (dat_A m Rs c 3) (fun t => by dsimp only [dat]) t d
theorem found4 (c : Dev nD) (t : Fin cfg0.N) (d) : (dat m Rs c).before 4 t d = iblk m c 4 t :=
  before0_4_of m (dat m Rs c) (dat_A m Rs c 4) (fun t => by dsimp only [dat]) t d
theorem found5 (c : Dev nD) (t : Fin cfg0.N) (d) : (dat m Rs c).before 5 t d = iblk m c 5 t :=
  before0_5_of m (dat m Rs c) (dat_A m Rs c 5) (fun t => by dsimp only [dat]) t d
theorem found6 (c : Dev nD) (t : Fin cfg0.N) (d) : (dat m Rs c).before 6 t d = iblk m c 6 t :=
  before0_6_of m (dat m Rs c) (dat_A m Rs c 6) (fun t => by dsimp only [dat]) t d
theorem found7 (c : Dev nD) (t : Fin cfg0.N) (d) : (dat m Rs c).before 7 t d = iblk m c 7 t :=
  before0_7_of m (dat m Rs c) (dat_A m Rs c 7) (fun t => by dsimp only [dat]) t d

/-- What a related output holds when the body finds it, past the first step of a head pair: what the point before left. -/
theorem found_rel (c : Dev nD) (w : Fin cfg0.W) (hw : rel w = true) (hf : ∀ t, (cfg0.win w).fetch t = false)
    (hfl : ∀ t, (cfg0.win w).flush t = true ↔ t.val % 4 = 3) (t : Fin cfg0.N) (X) (hX : (rdat m Rl Rs c).Finds w t X) (h : t.val % 4 ≠ 0) :
    Rl c w ⟨t.val - 1, Nat.lt_of_le_of_lt (Nat.sub_le _ _) t.isLt⟩ X := by
  rcases ((rdat m Rl Rs c).finds_of_pos (hf t) (by omega) X).mp hX with h' | h'
  · have := (hfl _).mp h'; dsimp only at this; omega
  · exact Dat.toRRel_leaves _ hw h'

/-- The launch's resources are the invariant before the first point. -/
theorem enter (c : Dev nD) : Pipeline.ΦA spec0 c ⊢ (dat m Rs c).Φ 0 := by
  rw [show (dat m Rs c).Φ 0 = Inv Rs c 0 from rfl, launched]
  unfold Inv
  iintro ⟨⟨%X, HS⟩, Hg⟩
  isplitl [HS]
  · iexists X; isplitr
    · ipureintro; exact fun h => absurd rfl h
    iexact HS
  iexact Hg

/-- After the last point the invariant gives the launch's resources back. -/
theorem leave (c : Dev nD) : (dat m Rs c).Φ (Fin.last cfg0.N) ⊢ Pipeline.ΦA spec0 c := by
  rw [show (dat m Rs c).Φ (Fin.last cfg0.N) = Inv Rs c cfg0.N from rfl, launched]
  unfold Inv
  iintro ⟨⟨%X, -, HS⟩, Hg⟩
  isplitl [HS]
  · iexists X; iexact HS
  iexact Hg

variable {m Rl Rs} (hP : Passes m Rl Rs)
include hP

-- the body's statement is large
set_option maxHeartbeats 1000000 in
/-- The body at a point, from what the pipeline hands it to what it takes back. -/
theorem point (c : Dev nD) (t : Fin cfg0.N) :
    iprop((dat m Rs c).Φ t.castSucc ∗ (dat m Rs c).owesAt () t.castSucc
        ∗ (∃ d, owns (c : Thread nD τ) (win0_0.stage (cfg0.slots t 0)) fullShare ((dat m Rs c).before 0 t d))
        ∗ (∃ d, owns (c : Thread nD τ) (win0_1.stage (cfg0.slots t 1)) fullShare ((dat m Rs c).before 1 t d))
        ∗ (∃ d, owns (c : Thread nD τ) (win0_2.stage (cfg0.slots t 2)) fullShare ((dat m Rs c).before 2 t d))
        ∗ (∃ d, owns (c : Thread nD τ) (win0_3.stage (cfg0.slots t 3)) fullShare ((dat m Rs c).before 3 t d))
        ∗ (∃ d, owns (c : Thread nD τ) (win0_4.stage (cfg0.slots t 4)) fullShare ((dat m Rs c).before 4 t d))
        ∗ (∃ d, owns (c : Thread nD τ) (win0_5.stage (cfg0.slots t 5)) fullShare ((dat m Rs c).before 5 t d))
        ∗ (∃ d, owns (c : Thread nD τ) (win0_6.stage (cfg0.slots t 6)) fullShare ((dat m Rs c).before 6 t d))
        ∗ (∃ d, owns (c : Thread nD τ) (win0_7.stage (cfg0.slots t 7)) fullShare ((dat m Rs c).before 7 t d))
        ∗ (∃ Y, ⌜(rdat m Rl Rs c).Finds 8 t Y⌝ ∗ owns (c : Thread nD τ) (win0_8.stage (cfg0.slots t 8)) fullShare Y)
        ∗ (∃ Y, ⌜(rdat m Rl Rs c).Finds 9 t Y⌝ ∗ owns (c : Thread nD τ) (win0_9.stage (cfg0.slots t 9)) fullShare Y)
        ∗ (∃ Y, ⌜(rdat m Rl Rs c).Finds 10 t Y⌝ ∗ owns (c : Thread nD τ) (win0_10.stage (cfg0.slots t 10)) fullShare Y)
        ∗ (∃ Y, ⌜(rdat m Rl Rs c).Finds 11 t Y⌝ ∗ owns (c : Thread nD τ) (win0_11.stage (cfg0.slots t 11)) fullShare Y)
        ∗ (∃ Y, ⌜(rdat m Rl Rs c).Finds 12 t Y⌝ ∗ owns (c : Thread nD τ) (win0_12.stage (cfg0.slots t 12)) fullShare Y))
      ⊢ wp frame (wpE (defs₀ (F := F)) Variants.none c none) Set.univ (bodyAt0 t) fun _ =>
        iprop((dat m Rs c).Φ t.succ ∗ (dat m Rs c).owesAt () t.succ
          ∗ owns (c : Thread nD τ) (win0_0.stage (cfg0.slots t 0)) fullShare ((dat m Rs c).after 0 t)
          ∗ owns (c : Thread nD τ) (win0_1.stage (cfg0.slots t 1)) fullShare ((dat m Rs c).after 1 t)
          ∗ owns (c : Thread nD τ) (win0_2.stage (cfg0.slots t 2)) fullShare ((dat m Rs c).after 2 t)
          ∗ owns (c : Thread nD τ) (win0_3.stage (cfg0.slots t 3)) fullShare ((dat m Rs c).after 3 t)
          ∗ owns (c : Thread nD τ) (win0_4.stage (cfg0.slots t 4)) fullShare ((dat m Rs c).after 4 t)
          ∗ owns (c : Thread nD τ) (win0_5.stage (cfg0.slots t 5)) fullShare ((dat m Rs c).after 5 t)
          ∗ owns (c : Thread nD τ) (win0_6.stage (cfg0.slots t 6)) fullShare ((dat m Rs c).after 6 t)
          ∗ owns (c : Thread nD τ) (win0_7.stage (cfg0.slots t 7)) fullShare ((dat m Rs c).after 7 t)
          ∗ (∃ X, ⌜Rl c 8 t X⌝ ∗ owns (c : Thread nD τ) (win0_8.stage (cfg0.slots t 8)) fullShare X)
          ∗ (∃ X, ⌜Rl c 9 t X⌝ ∗ owns (c : Thread nD τ) (win0_9.stage (cfg0.slots t 9)) fullShare X)
          ∗ (∃ X, ⌜Rl c 10 t X⌝ ∗ owns (c : Thread nD τ) (win0_10.stage (cfg0.slots t 10)) fullShare X)
          ∗ (∃ X, ⌜Rl c 11 t X⌝ ∗ owns (c : Thread nD τ) (win0_11.stage (cfg0.slots t 11)) fullShare X)
          ∗ (∃ X, ⌜Rl c 12 t X⌝ ∗ owns (c : Thread nD τ) (win0_12.stage (cfg0.slots t 12)) fullShare X)) := by
  simp only [found0, found1, found2, found3, found4, found5, found6, found7]
  rw [show (dat m Rs c).owesAt () t.succ = (dat m Rs c).owesAt () t.castSucc from rfl]
  rw [show (dat m Rs c).Φ t.succ = Inv Rs c (t.val + 1) from rfl, show (dat m Rs c).Φ t.castSucc = Inv Rs c t.val from rfl]
  unfold Inv
  iintro ⟨⟨⟨%x15, %h15, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%x10, %h10, H8⟩, ⟨%x11, %h11, H9⟩, ⟨%x12, %h12, H10⟩, ⟨%x13, %h13, H11⟩, ⟨%x14, %h14, H12⟩⟩
  iapply (walk c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x10 x11 x12 x13 x14 x15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨%y10, %y11, %y12, %y13, %y14, %y15, %L, H0, H1, H2, H3, H4, H5, H6, H7, H8, H9, H10, H11, H12, HS⟩
  obtain ⟨r8, r9, r10, r11, r12, rs⟩ := hP c t _ _ _ _ _ _ _ _ _ _ _ _ _ _ _ _ _ _ _ _ _ _ _ _ _ _ _ _ _ _ _ _ _ _ _ _ _ _ _ _ L
    (found_rel m Rl Rs c 9 rfl (fun _ => rfl) flush0_9 t x11 h11) (found_rel m Rl Rs c 10 rfl (fun _ => rfl) flush0_10 t x12 h12)
    (found_rel m Rl Rs c 12 rfl (fun _ => rfl) flush0_12 t x14 h14) h15
  isplitl [HS Hg]
  · isplitl [HS]
    · iexists y15; isplitr
      · ipureintro; exact fun _ => rs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists y10; isplitr
    · ipureintro; exact r8
    iexact H8
  isplitl [H9]
  · iexists y11; isplitr
    · ipureintro; exact r9
    iexact H9
  isplitl [H10]
  · iexists y12; isplitr
    · ipureintro; exact r10
    iexact H10
  isplitl [H11]
  · iexists y13; isplitr
    · ipureintro; exact r11
    iexact H11
  iexists y14; isplitr
  · ipureintro; exact r12
  iexact H12

omit hP in
/-- The table's row for the body is the body. -/
theorem row (t : Fin cfg0.N) : defs₀ (F := F) .tc cfg0.body (cfg0.bodyArgs t (cfg0.slots t)) = bodyAt0 t := by
  unfold defs₀; rw [Defs.onTc_tc]

/-- The body at every point, as the library asks for it. -/
theorem points (c : Dev nD) : Pipeline.BodyObligationRel (dat m Rs c) (defs₀ (F := F)) Variants.none () Set.univ rel (Rl c) := fun t => by
  rw [bigSep_W0, bigSep_W0, row]
  exact triple_restated (point hP c t) rfl .rfl fun _ => .rfl

-- the launch theorem's implicit arguments are found by unfolding plain definitions
set_option backward.isDefEq.respectTransparency.types false in
/-- The run: it ends, every counter is zero, and every array holds what the relations allow. -/
theorem run : θ_run defs (onTc (τ := τ) (main (F := F))) (s₀ m ρ)
    (fun r => RDat.FramePost (cfgs 0) (fun c => rdat m Rl Rs c) (V m) r ∧ r.2.sem = fun _ => 0) :=
  RDat.θ_run_frame_track_shared (Q' := _) cfgs (0 : Fin 1) launch₀0 defs₀ Variants.none (fun c => rdat m Rl Rs c) m ρ main
    (hbody := fun c => (points hP c).toRRel) (hq := fun _ _ _ => rfl) (howed := fun _ _ => rfl) (V := V m) (hmain := hmain m Variants.none)
    (hA := dat_A m Rs) (hin := enter m Rs) (hout := leave m Rs)

omit hP in
/-- A run whose outputs are held to anything leaves the arguments as they were. -/
theorem args_kept {r : PUnit × MemSt nD τ sig (Elt F)} (h : RDat.FramePost (cfgs 0) (fun c => rdat m Rl Rs c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((congrFun ((rdat m Rl Rs c).ArrAt_in 2 rfl _) _).mp ((h c).1 2)).trans (V_main_arg0 m c),
    ((congrFun ((rdat m Rl Rs c).ArrAt_in 3 rfl _) _).mp ((h c).1 3)).trans (V_main_arg1 m c),
    ((h c).2 main_arg2 (Pipeline.mem_restRefs_of main_arg2 (by decide) (by decide))).trans (V_main_arg2 m c)⟩

end Cert.AttnBwd

end
-- ==== Proof.Frames.lean ====
/-
  Both printed kernels run to the end and leave their arguments as they were: one run, read at each kind of float value.
-/
module

public import proofs.«01_k».proof.Defs
public import proofs.«01_k».proof.Proof.Gen.Kernel
public import proofs.«01_k».proof.Proof.Run

@[expose] public section

set_option maxRecDepth 16384

noncomputable section

namespace Cert.AttnBwd

open Cert.KernelIdeal Cert.KernelIdeal.Gen
open Idealize.ShloMosaic Idealize.ShloMosaic.TcCoe
open Idealize.SL.Sem

/-- The run, of which only the arguments and the counters are kept. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_kept h.1 c, h.2⟩)
    (run (m := m) (Rl := fun _ _ _ _ => True) (Rs := fun _ _ _ => True) ρ (by unfold Passes; intros; exact ⟨trivial, trivial, trivial, trivial, trivial, trivial⟩))

set_option maxHeartbeats 2000000 in
/-- The two kernels' bodies are the same. -/
theorem bodies_same : Cert.Kernel.defs₀ (F := Bits) = Cert.KernelIdeal.defs₀ (F := Bits) :=
  congrArg Defs.onTc (funext fun l => funext fun x => match l, x with
    | ⟨0, _⟩, (_, _) => rfl
    | ⟨_ + 1, h⟩, _ => absurd h (Nat.not_lt.2 (Nat.le_add_left _ _)))

set_option maxHeartbeats 2000000 in
theorem defs_same : Cert.Kernel.defs (F := Bits) = Cert.KernelIdeal.defs (F := Bits) := congrArg (Pipeline.defs Cert.KernelIdeal.pcfgs) bodies_same

set_option maxHeartbeats 2000000 in
theorem frame_kernel : Cert.quiescent_Kernel (hKernel := Cert.Kernel.Gen.facts) := fun m ρ _ => by
  rw [defs_same]; exact frame_any (F := Bits) m ρ

theorem frame_kernelIdeal : Cert.quiescent_KernelIdeal (hKernelIdeal := Cert.KernelIdeal.Gen.facts) := fun m ρ _ => frame_any m ρ

end Cert.AttnBwd

end
-- ==== Proof.Points.lean ====
/-
  What the outputs of the attention gradient hold after every grid point, over the reals.
-/
module

public import proofs.«01_k».proof.Proof.Run

@[expose] public section

set_option maxRecDepth 16384

noncomputable section

namespace Cert.AttnBwd

open Cert.KernelIdeal Cert.KernelIdeal.Gen
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat RDat Cfg Window)

/-! ## What the buffers hold after point `n`, from the blocks `Bs` of all points -/

section Points

variable (Bs : ℕ → Blocks)

/-- The blocks of step `g` of the head pair that point `n` works on. -/
def mate (n g : ℕ) : Blocks := Bs (4 * (n / 4) + g)

/-- The query gradient is complete when the last step is done. -/
def QueryAt (n : ℕ) (X : Vec Ideal S2048x128 .bf16) : Prop :=
  n % 4 = 3 → ∀ (t : Fin 2048) (d : Fin 128), X (ix2 t d) = ∑ g ∈ Finset.range 4, (mate Bs n g).dquery g d t

/-- The key gradient holds the rows of the steps done. -/
def KeyAt (n : ℕ) (X : Vec Ideal S2048x128 .bf16) : Prop :=
  ∀ g ≤ n % 4, ∀ (s : Fin 512) (d : Fin 128) (r : Fin 2048), r.val = 512 * g + s.val → X (ix2 r d) = (mate Bs n g).dkey g s d

/-- The value gradient holds the rows of the steps done. -/
def ValueAt (n : ℕ) (X : Vec Ideal S2048x128 .bf16) : Prop :=
  ∀ g ≤ n % 4, ∀ (s : Fin 512) (d : Fin 128) (r : Fin 2048), r.val = 512 * g + s.val → X (ix2 r d) = (mate Bs n g).dval g s d

/-- The decay gradient at the step's own keys. -/
def DecayKAt (n : ℕ) (X : Vec Ideal S1x512x2 .f32) : Prop :=
  ∀ (s : Fin 512) (h : Fin 2), X (ix3 0 s h) = (mate Bs n (n % 4)).ddecayK (n % 4) s h

/-- The decay gradient at the queries, summed over the steps done. -/
def DecayQAt (n : ℕ) (X : Vec Ideal S1x2x2048 .f32) : Prop :=
  ∀ (h : Fin 2) (t : Fin 2048), X (ix3 0 h t) = ∑ g ∈ Finset.range (n % 4 + 1), (mate Bs n g).ddecayQ g h t

/-- The running sum for the query gradient, over the steps done. -/
def SumAt (n : ℕ) (X : Vec Ideal S128x2048 .f32) : Prop :=
  ∀ (d : Fin 128) (t : Fin 2048), X (ix2 d t) = ∑ g ∈ Finset.range (n % 4 + 1), (mate Bs n g).dquery g d t

/-- The step before, of the same head pair. -/
theorem mate_pred {n : ℕ} (h : n % 4 ≠ 0) (g : ℕ) : mate Bs (n - 1) g = mate Bs n g := by
  unfold mate; congr 2; omega

theorem mate_self (n : ℕ) : mate Bs n (n % 4) = Bs n := by
  unfold mate; congr 1; omega

variable {Bs}
variable {n : ℕ} {x₁₁ x₁₂ : Vec Ideal S2048x128 .bf16} {x₁₄ : Vec Ideal S1x2x2048 .f32} {x₁₅ : Vec Ideal S128x2048 .f32}
  {y₁₀ y₁₁ y₁₂ : Vec Ideal S2048x128 .bf16} {y₁₃ : Vec Ideal S1x512x2 .f32} {y₁₄ : Vec Ideal S1x2x2048 .f32} {y₁₅ : Vec Ideal S128x2048 .f32}
  (L : Leaves (n % 4) (Bs n) x₁₁ x₁₂ x₁₄ x₁₅ y₁₀ y₁₁ y₁₂ y₁₃ y₁₄ y₁₅)
include L

theorem Leaves.keyAt (hx : n % 4 ≠ 0 → KeyAt Bs (n - 1) x₁₁) : KeyAt Bs n y₁₁ := by
  intro g hg s d r hr
  rcases Nat.lt_or_ge g (n % 4) with h | h
  · rw [L.step.dk_else r d (.inl (by omega)), hx (by omega) g (by omega) s d r hr, mate_pred Bs (by omega)]
  · obtain rfl : g = n % 4 := by omega
    rw [mate_self]; exact L.step.dk s d r hr

theorem Leaves.valueAt (hx : n % 4 ≠ 0 → ValueAt Bs (n - 1) x₁₂) : ValueAt Bs n y₁₂ := by
  intro g hg s d r hr
  rcases Nat.lt_or_ge g (n % 4) with h | h
  · rw [L.step.dv_else r d (.inl (by omega)), hx (by omega) g (by omega) s d r hr, mate_pred Bs (by omega)]
  · obtain rfl : g = n % 4 := by omega
    rw [mate_self]; exact L.step.dv s d r hr

theorem Leaves.decayKAt : DecayKAt Bs n y₁₃ := fun s h => by rw [mate_self]; exact L.step.decayK s h

theorem Leaves.decayQAt (hx : n % 4 ≠ 0 → DecayQAt Bs (n - 1) x₁₄) : DecayQAt Bs n y₁₄ := by
  intro h t
  rw [L.step.decayQ h t, Finset.sum_range_succ, mate_self]
  by_cases h0 : n % 4 = 0
  · rw [start, if_pos h0, h0, Finset.range_zero, Finset.sum_empty]
  · have e : (n - 1) % 4 + 1 = n % 4 := by omega
    rw [start, if_neg h0, hx h0 h t, e]
    simp only [mate_pred Bs h0]

theorem Leaves.sumAt (hx : n % 4 ≠ 0 → SumAt Bs (n - 1) x₁₅) : SumAt Bs n y₁₅ := by
  intro d t
  rw [L.step.dq d t, Finset.sum_range_succ, mate_self]
  by_cases h0 : n % 4 = 0
  · rw [start, if_pos h0, h0, Finset.range_zero, Finset.sum_empty]
  · have e : (n - 1) % 4 + 1 = n % 4 := by omega
    rw [start, if_neg h0, hx h0 d t, e]
    simp only [mate_pred Bs h0]

theorem Leaves.queryAt (hx : n % 4 ≠ 0 → SumAt Bs (n - 1) x₁₅) : QueryAt Bs n y₁₀ := by
  intro h3 t d
  rw [L.out h3 t d, L.sumAt hx d t, h3]

end Points

/-! ## The properties, passed from point to point -/

variable (m : (ℓ : Loc nD τ sig) → Buf (Elt Ideal) ℓ)

/-- The blocks at a grid point. -/
def blk (c : Dev nD) (t : Fin cfg0.N) : Blocks :=
  ⟨iblk m c 0 t, iblk m c 1 t, iblk m c 2 t, iblk m c 3 t, iblk m c 4 t, iblk m c 5 t, iblk m c 6 t, iblk m c 7 t⟩

/-- The blocks at the grid point of a number, the points numbered in order. -/
def blkN (c : Dev nD) (n : ℕ) : Blocks := blk m c ⟨n % cfg0.N, Nat.mod_lt _ (by rw [show cfg0.N = 16 from N_0]; decide)⟩

theorem blkN_val (c : Dev nD) (t : Fin cfg0.N) : blkN m c t.val = blk m c t := by
  unfold blkN; congr 1; exact Fin.ext (Nat.mod_eq_of_lt t.isLt)

/-- The step a point works on. -/
theorem step_val (t : Fin cfg0.N) : ((grid0.coords t) 1).val = t.val % 4 := by
  have e : ((grid0.coords t) 1).val = t.val / 1 % 4 := Pipeline.Grid.coords_val t 1 (by decide) rfl
  rw [e, Nat.div_one]

/-- What each output is held to. -/
def Held (c : Dev nD) : Prps Ideal := fun w t =>
  match w with
  | ⟨8, _⟩ => fun X => QueryAt (blkN m c) t.val X
  | ⟨9, _⟩ => fun X => KeyAt (blkN m c) t.val X
  | ⟨10, _⟩ => fun X => ValueAt (blkN m c) t.val X
  | ⟨11, _⟩ => fun X => DecayKAt (blkN m c) t.val X
  | ⟨12, _⟩ => fun X => DecayQAt (blkN m c) t.val X
  | _ => fun _ => True

theorem held_of_leaves (c : Dev nD) (t : Fin cfg0.N) {x11 x12 : Vec Ideal S2048x128 .bf16} {x14 : Vec Ideal S1x2x2048 .f32} {x15 : Vec Ideal S128x2048 .f32}
    {y10 y11 y12 : Vec Ideal S2048x128 .bf16} {y13 : Vec Ideal S1x512x2 .f32} {y14 : Vec Ideal S1x2x2048 .f32} {y15 : Vec Ideal S128x2048 .f32}
    (L : Leaves (t.val % 4) (blkN m c t.val) x11 x12 x14 x15 y10 y11 y12 y13 y14 y15)
    (h11 : t.val % 4 ≠ 0 → Held m c 9 (pred t) x11) (h12 : t.val % 4 ≠ 0 → Held m c 10 (pred t) x12) (h14 : t.val % 4 ≠ 0 → Held m c 12 (pred t) x14)
    (h15 : t.val % 4 ≠ 0 → SumAt (blkN m c) (t.val - 1) x15) :
    Held m c 8 t y10 ∧ Held m c 9 t y11 ∧ Held m c 10 t y12 ∧ Held m c 11 t y13 ∧ Held m c 12 t y14 ∧ SumAt (blkN m c) t.val y15 :=
  ⟨L.queryAt h15, L.keyAt h11, L.valueAt h12, L.decayKAt, L.decayQAt h14, L.sumAt h15⟩

theorem held_passes : Passes m (Held m) (fun c n => SumAt (blkN m c) n) := by
  unfold Passes
  intro c t _ _ _ _ _ _ _ _ _ _ _ _ _ _ _ _ _ _ _ _ _ _ _ _ _ _ _ _ x10 x11 x12 x13 x14 x15 y10 y11 y12 y13 y14 y15 A h11 h12 h14 h15
  have L := A.leaves'
  rw [step_val, ← blk, ← blkN_val] at L
  exact held_of_leaves m c t L h11 h12 h14 h15

end Cert.AttnBwd

end
-- ==== Proof.Out.lean ====
/-
  What the attention gradient's run leaves in its five outputs, in terms of the blocks that the grid points read.
-/
module

public import proofs.«01_k».proof.Proof.Points
public import Idealize.ShloMosaic.Lib.Pipeline.ArrRel
public import Idealize.ShloMosaic.Lib.Pipeline.ValueKit.Geometry

@[expose] public section

set_option maxRecDepth 16384

noncomputable section

namespace Cert.AttnBwd

open Cert.KernelIdeal Cert.KernelIdeal.Gen
open Idealize.ShloMosaic Idealize.ShloMosaic.TcCoe
open Idealize.SL Idealize.SL.RA Idealize.SL.BI Idealize.SL.Sem
open Idealize.ShloMosaic.Rounds
open scoped BigOperators
open Idealize.ShloMosaic.Pipeline (Dat RDat Cfg Window)

/-! ## The outputs, from the blocks `Bs` of all points -/

variable (Bs : ℕ → Blocks)

/-- Row `a` of column `b` of a head pair's lanes. -/
def outQ : Vec Ideal S2048x512 .bf16 := fun i =>
  ∑ g ∈ Finset.range 4, (Bs (4 * ((i 1).val / 128) + g)).dquery g ⟨(i 1).val % 128, Nat.mod_lt _ (by decide)⟩ (i 0)

def outK : Vec Ideal S2048x512 .bf16 := fun i =>
  (Bs (4 * ((i 1).val / 128) + (i 0).val / 512)).dkey ((i 0).val / 512) ⟨(i 0).val % 512, Nat.mod_lt _ (by decide)⟩ ⟨(i 1).val % 128, Nat.mod_lt _ (by decide)⟩

def outV : Vec Ideal S2048x512 .bf16 := fun i =>
  (Bs (4 * ((i 1).val / 128) + (i 0).val / 512)).dval ((i 0).val / 512) ⟨(i 0).val % 512, Nat.mod_lt _ (by decide)⟩ ⟨(i 1).val % 128, Nat.mod_lt _ (by decide)⟩

def outDK : Vec Ideal S4x2048x2 .f32 := fun i =>
  (Bs (4 * (i 0).val + (i 1).val / 512)).ddecayK ((i 1).val / 512) ⟨(i 1).val % 512, Nat.mod_lt _ (by decide)⟩ (i 2)

def outDQ : Vec Ideal S4x2x2048 .f32 := fun i =>
  ∑ g ∈ Finset.range 4, (Bs (4 * (i 0).val + g)).ddecayQ g (i 1) (i 2)

/-! ## Where the outputs' blocks lie -/

theorem at8 : ∀ t : Fin cfg0.N, win0_8.index t = ![0, t.val / 4] := by decide +kernel
theorem at9 : ∀ t : Fin cfg0.N, win0_9.index t = ![0, t.val / 4] := by decide +kernel
theorem at10 : ∀ t : Fin cfg0.N, win0_10.index t = ![0, t.val / 4] := by decide +kernel
theorem at11 : ∀ t : Fin cfg0.N, win0_11.index t = ![t.val / 4, t.val % 4, 0] := by decide +kernel
theorem at12 : ∀ t : Fin cfg0.N, win0_12.index t = ![t.val / 4, 0, 0] := by decide +kernel

variable (m : (ℓ : Loc nD τ sig) → Buf (Elt Ideal) ℓ) (c : Dev nD)

variable (D : Dat τ (Elt Ideal) Unit ℕ (UR sig nD τ) ℕ cfg0 c)

theorem arrQ (h : ∀ t : Fin cfg0.N, (cfg0.win 8).flush t = true → QueryAt Bs t.val (D.after 8 t)) : D.arrAt 8 cfg0.N = outQ Bs := by
  refine D.arrAt_eq_of_covers 8 _ (by decide +kernel) fun t hf y => ?_
  have h3 : t.val % 4 = 3 := (flush0_8 t).mp hf
  have hy : (y 1).val < 128 := (y 1).isLt
  refine Eq.trans ?_ ((h t hf h3 (y 0) (y 1)).trans ?_)
  · blk_simp; congr 1; idx_ext
  unfold outQ
  blk_simp [at8]
  refine Finset.sum_congr rfl fun g _ => ?_
  unfold mate
  congr 1
  · congr 2; omega
  · exact Fin.ext (by show (y 1).val = (t.val / 4 * 128 + (y 1).val) % 128; omega)
  · refine Fin.ext ?_; blk_simp [at8]

theorem arrK (h : ∀ t : Fin cfg0.N, (cfg0.win 9).flush t = true → KeyAt Bs t.val (D.after 9 t)) : D.arrAt 9 cfg0.N = outK Bs := by
  refine D.arrAt_eq_of_covers 9 _ (by decide +kernel) fun t hf y => ?_
  have h3 : t.val % 4 = 3 := (flush0_9 t).mp hf
  have hy : (y 1).val < 128 := (y 1).isLt
  have hy0 : (y 0).val < 2048 := (y 0).isLt
  refine Eq.trans ?_ ((h t hf ((y 0).val / 512) (by omega) ⟨(y 0).val % 512, Nat.mod_lt _ (by decide)⟩ (y 1) (y 0) (Nat.div_add_mod _ _).symm).trans ?_)
  · blk_simp; congr 1; idx_ext
  unfold outK mate
  blk_simp [at9]
  congr 1
  · congr 2; omega
  · exact Fin.ext (by show (y 1).val = (t.val / 4 * 128 + (y 1).val) % 128; omega)

theorem arrV (h : ∀ t : Fin cfg0.N, (cfg0.win 10).flush t = true → ValueAt Bs t.val (D.after 10 t)) : D.arrAt 10 cfg0.N = outV Bs := by
  refine D.arrAt_eq_of_covers 10 _ (by decide +kernel) fun t hf y => ?_
  have h3 : t.val % 4 = 3 := (flush0_10 t).mp hf
  have hy : (y 1).val < 128 := (y 1).isLt
  have hy0 : (y 0).val < 2048 := (y 0).isLt
  refine Eq.trans ?_ ((h t hf ((y 0).val / 512) (by omega) ⟨(y 0).val % 512, Nat.mod_lt _ (by decide)⟩ (y 1) (y 0) (Nat.div_add_mod _ _).symm).trans ?_)
  · blk_simp; congr 1; idx_ext
  unfold outV mate
  blk_simp [at10]
  congr 1
  · congr 2; omega
  · exact Fin.ext (by show (y 1).val = (t.val / 4 * 128 + (y 1).val) % 128; omega)

theorem arrDK (h : ∀ t : Fin cfg0.N, (cfg0.win 11).flush t = true → DecayKAt Bs t.val (D.after 11 t)) : D.arrAt 11 cfg0.N = outDK Bs := by
  refine D.arrAt_eq_of_covers 11 _ (by decide +kernel) fun t hf y => ?_
  have hy0 : (y 0).val < 1 := (y 0).isLt
  have hy1 : (y 1).val < 512 := (y 1).isLt
  refine Eq.trans ?_ ((h t hf (y 1) (y 2)).trans ?_)
  · blk_simp; congr 1; idx_ext
  unfold outDK mate
  blk_simp [at11]
  congr 1
  · congr 2; omega
  · omega
  · exact Fin.ext (by show (y 1).val = (t.val % 4 * 512 + (y 1).val) % 512; omega)
  · refine Fin.ext ?_; blk_simp [at11]

theorem arrDQ (h : ∀ t : Fin cfg0.N, (cfg0.win 12).flush t = true → DecayQAt Bs t.val (D.after 12 t)) : D.arrAt 12 cfg0.N = outDQ Bs := by
  refine D.arrAt_eq_of_covers 12 _ (by decide +kernel) fun t hf y => ?_
  have h3 : t.val % 4 = 3 := (flush0_12 t).mp hf
  have hy0 : (y 0).val < 1 := (y 0).isLt
  refine Eq.trans ?_ ((h t hf (y 1) (y 2)).trans ?_)
  · blk_simp; congr 1; idx_ext
  unfold outDQ mate
  blk_simp [at12]
  rw [h3]
  refine Finset.sum_congr rfl fun g _ => ?_
  congr 1
  all_goals refine Fin.ext ?_; blk_simp [at12]

/-! ## The run -/

variable (m : (ℓ : Loc nD τ sig) → Buf (Elt Ideal) ℓ) (ρ : Dev nD → PrngReg)

/-- The run's outputs, the arguments as they were. -/
theorem run_out : θ_run defs (onTc (τ := τ) (main (F := Ideal))) ⟨m, fun _ => 0, ρ⟩ (fun r => ∀ c : Dev nD,
      r.2.mem ((c.tc : Thread nD τ).loc main_v50_0) = outQ (blkN m c)
      ∧ r.2.mem ((c.tc : Thread nD τ).loc main_v50_1) = outK (blkN m c)
      ∧ r.2.mem ((c.tc : Thread nD τ).loc main_v50_2) = outV (blkN m c)
      ∧ r.2.mem ((c.tc : Thread nD τ).loc main_v50_3) = outDK (blkN m c)
      ∧ r.2.mem ((c.tc : Thread nD τ).loc main_v50_4) = outDQ (blkN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run ρ (held_passes m))
  obtain ⟨after, hL, hA⟩ := RDat.FramePost.exists_exact h.1 c
  have L : ∀ (w : Fin cfg0.W), rel w = true → ∀ t : Fin cfg0.N, (cfg0.win w).flush t = true → Held m c w t (after w t) := fun w hw t hf =>
    Dat.toRRel_leaves _ hw (hL w t hf)
  refine ⟨(hA 8).trans (arrQ _ _ _ fun t hf => L 8 rfl t hf), (hA 9).trans (arrK _ _ _ fun t hf => L 9 rfl t hf), (hA 10).trans (arrV _ _ _ fun t hf => L 10 rfl t hf),
    (hA 11).trans (arrDK _ _ _ fun t hf => L 11 rfl t hf), (hA 12).trans (arrDQ _ _ _ fun t hf => L 12 rfl t hf), args_kept h.1 c⟩

end Cert.AttnBwd

end
-- ==== Proof.Stages.lean ====
/-
  The attention and its gradient as the host programs compute them, stage by stage: queries, keys and values by head, the masked scores, the
  exponentials of the scores less a row's `M`, their sums, and the five gradients. The kernel's host part and the reference share the first.
-/
module

public import proofs.«01_k».proof.Proof.Gen.ReferenceIdeal
public import Idealize.ShloMosaic.Lib.Pointwise
public import Idealize.ShloMosaic.Lib.WordCmp

@[expose] public section

set_option maxRecDepth 16384

noncomputable section

namespace Cert.AttnBwd.Stages

open Cert.ReferenceIdeal Cert.ReferenceIdeal.Facts₀
open Idealize.ShloMosaic
open scoped BigOperators

variable (x : FVec Ideal S2048x3840 .bf16) (y : FVec Ideal S2048x512 .bf16) (c : FVec Ideal S2048x8 .f32) (M : FVec Ideal S8x2048 .f32)

/-! ## The stages -/

def queries : FVec Ideal S2048x8x64 .f32 :=
  shapeCast _ (extractStridedSlice S2048x512 ![0, 768] (extf .f32 x bitsLt_bf16_f32) slices_S2048x3840_S2048x512_0_768) shapeCasts_S2048x512_S2048x8x64

def keys : FVec Ideal S2048x8x64 .f32 :=
  shapeCast _ (extractStridedSlice S2048x512 ![0, 1280] (extf .f32 x bitsLt_bf16_f32) slices_S2048x3840_S2048x512_0_1280) shapeCasts_S2048x512_S2048x8x64

def vals : FVec Ideal S2048x8x64 .f32 :=
  shapeCast _ (extractStridedSlice S2048x512 ![0, 1792] (extf .f32 x bitsLt_bf16_f32) slices_S2048x3840_S2048x512_0_1792) shapeCasts_S2048x512_S2048x8x64

/-- The upstream gradient by head. -/
def ups : FVec Ideal S2048x8x64 .f32 := shapeCast _ (extf .f32 y bitsLt_bf16_f32) shapeCasts_S2048x512_S2048x8x64

/-- Key `s` is seen from query `t`. -/
def seen : IVec S8x2048x2048 1 :=
  broadcastInDim S8x2048x2048 ![1, 2] bcast_S2048x2048_S8x2048x2048_1_2
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def scores : FVec Ideal S8x2048x2048 .f32 :=
  select seen
    (subf (addf (mulf (Host.dotGeneral dot_S2048x8x64_S2048x8x64_S8x2048x2048_2_2_0_0_1_1 none (queries x) (keys x))
            (broadcastInDim S8x2048x2048 ![] bcast_S_S8x2048x2048 (constant S_ .f32 0x3E000000#32)))
          (broadcastInDim S8x2048x2048 ![0, 1, 2] bcast_S8x2048x1_S8x2048x2048_0_1_2 (broadcastInDim S8x2048x1 ![0, 1] bcast_S8x2048_S8x2048x1_0_1
            (transpose S8x2048 [1, 0] c transposes_S2048x8_S8x2048_1_0))))
      (broadcastInDim S8x2048x2048 ![0, 1, 2] bcast_S8x1x2048_S8x2048x2048_0_1_2 (broadcastInDim S8x1x2048 ![0, 2] bcast_S8x2048_S8x1x2048_0_2
        (transpose S8x2048 [1, 0] c transposes_S2048x8_S8x2048_1_0))))
    (broadcastInDim S8x2048x2048 ![] bcast_S_S8x2048x2048 (constant S_ .f32 0xFF800000#32))

/-- The greatest score of each row. -/
def tops : FVec Ideal S8x2048 .f32 := Host.reduce FloatOps.maximumf (scores x c) (constant S_ .f32 0xFF800000#32) reducesTo_S8x2048x2048_S8x2048_d2 h_S_

/-- The same, with a bound below that binds nothing. -/
def tops' : FVec Ideal S8x2048 .f32 := maximumf (broadcastInDim S8x2048 ![] bcast_S_S8x2048 (constant S_ .f32 0xFF800000#32)) (tops x c)

def exps : FVec Ideal S8x2048x2048 .f32 :=
  Host.exp (subf (scores x c) (broadcastInDim S8x2048x2048 ![0, 1, 2] bcast_S8x2048x1_S8x2048x2048_0_1_2 (broadcastInDim S8x2048x1 ![0, 1] bcast_S8x2048_S8x2048x1_0_1 M)))

/-- The sum of each row's exponentials, as a column. -/
def sums : FVec Ideal S8x2048x1 .f32 :=
  broadcastInDim S8x2048x1 ![0, 1] bcast_S8x2048_S8x2048x1_0_1 (Host.reduceAdd (exps x c M) (constant S_ .f32 0x00000000#32) reducesTo_S8x2048x2048_S8x2048_d2 h_S_)

/-- A column repeated along the keys. -/
def wide (v : FVec Ideal S8x2048x1 .f32) : FVec Ideal S8x2048x2048 .f32 := broadcastInDim S8x2048x2048 ![0, 1, 2] bcast_S8x2048x1_S8x2048x2048_0_1_2 v

/-- The probabilities. -/
def probs : FVec Ideal S8x2048x2048 .f32 := Host.divf (exps x c M) (wide (sums x c M))

/-- The upstream gradient by head, queries last. -/
def upsT : FVec Ideal S8x64x2048 .f32 := transpose S8x64x2048 [1, 2, 0] (ups y) transposes_S2048x8x64_S8x64x2048_1_2_0

/-- The gradient of the probabilities. -/
def dprobs : FVec Ideal S8x2048x2048 .f32 := Host.dotGeneral dot_S8x64x2048_S2048x8x64_S8x2048x2048_1_2_2_0_0_1 none (upsT y) (vals x)

/-- The part of the scores' gradient that comes from the rows' sums, as a column. -/
def drow : FVec Ideal S8x2048x1 .f32 :=
  Host.negf (shapeCast _ (Host.reduceAdd (mulf (mulf (dprobs x y)
      (wide (Host.divf (broadcastInDim S8x2048x1 ![] bcast_S_S8x2048x1 (constant S_ .f32 0x3F800000#32)) (mulf (sums x c M) (sums x c M))))) (exps x c M))
    (constant S_ .f32 0x00000000#32) reducesTo_S8x2048x2048_S8x2048_d2 h_S_) shapeCasts_S8x2048_S8x2048x1)

/-- The gradient of the scores. -/
def dscores : FVec Ideal S8x2048x2048 .f32 :=
  select seen
    (mulf (addf (Host.divf (dprobs x y) (wide (sums x c M)))
        (broadcastInDim S8x2048x2048 ![0, 1] bcast_S8x2048_S8x2048x2048_0_1
          (Host.reduceAdd (drow x y c M) (constant S_ .f32 0x00000000#32) reducesTo_S8x2048x1_S8x2048_d2 h_S_)))
      (exps x c M))
    (broadcastInDim S8x2048x2048 ![] bcast_S_S8x2048x2048 (constant S_ .f32 0x00000000#32))

/-- The gradient of the scores before their scale. -/
def scaled : FVec Ideal S8x2048x2048 .f32 := mulf (dscores x y c M) (broadcastInDim S8x2048x2048 ![] bcast_S_S8x2048x2048 (constant S_ .f32 0x3E000000#32))

def gradQ : FVec Ideal S2048x512 .bf16 :=
  truncf .bf16 (shapeCast _ (transpose S2048x8x64 [1, 0, 2] (Host.dotGeneral dot_S8x2048x2048_S2048x8x64_S8x2048x64_2_0_1_2_0_1 none (scaled x y c M) (keys x))
    transposes_S8x2048x64_S2048x8x64_1_0_2) shapeCasts_S2048x8x64_S2048x512) bitsLt_bf16_f32

def gradK : FVec Ideal S2048x512 .bf16 :=
  truncf .bf16 (shapeCast _ (transpose S2048x8x64 [1, 0, 2] (Host.dotGeneral dot_S8x2048x2048_S2048x8x64_S8x2048x64_1_0_2_2_0_1 none (scaled x y c M) (queries x))
    transposes_S8x2048x64_S2048x8x64_1_0_2) shapeCasts_S2048x8x64_S2048x512) bitsLt_bf16_f32

def gradV : FVec Ideal S2048x512 .bf16 :=
  truncf .bf16 (shapeCast _ (transpose S2048x8x64 [2, 0, 1] (Host.dotGeneral dot_S8x64x2048_S8x2048x2048_S8x64x2048_2_1_1_2_0_0 none (upsT y) (probs x c M))
    transposes_S8x64x2048_S2048x8x64_2_0_1) shapeCasts_S2048x8x64_S2048x512) bitsLt_bf16_f32

def gradDK : FVec Ideal S4x2048x2 .f32 :=
  transpose S4x2048x2 [1, 0, 2] (shapeCast _ (transpose S2048x8 [1, 0] (Host.reduceAdd (shapeCast _
      (Host.reduceAdd (Host.negf (dscores x y c M)) (constant S_ .f32 0x00000000#32) reducesTo_S8x2048x2048_S8x2048_d1 h_S_) shapeCasts_S8x2048_S8x1x2048)
    (constant S_ .f32 0x00000000#32) reducesTo_S8x1x2048_S8x2048_d1 h_S_) transposes_S8x2048_S2048x8_1_0) shapeCasts_S2048x8_S2048x4x2) transposes_S2048x4x2_S4x2048x2_1_0_2

def gradDQ : FVec Ideal S4x2x2048 .f32 :=
  transpose S4x2x2048 [1, 2, 0] (shapeCast _ (transpose S2048x8 [1, 0] (Host.reduceAdd (shapeCast _
      (Host.reduceAdd (dscores x y c M) (constant S_ .f32 0x00000000#32) reducesTo_S8x2048x2048_S8x2048_d2 h_S_) shapeCasts_S8x2048_S8x2048x1)
    (constant S_ .f32 0x00000000#32) reducesTo_S8x2048x1_S8x2048_d2 h_S_) transposes_S8x2048_S2048x8_1_0) shapeCasts_S2048x8_S2048x4x2) transposes_S2048x4x2_S4x2x2048_1_2_0

/-! ## The stages at an index -/

/-- One eighth, the scale of the scores. -/
def scale : EReal := Ideal.ofBits .f32 1040187392#32

/-- Column `64 h + e`. -/
abbrev col (o : ℕ) {n : ℕ} (hn : o + 512 ≤ n) (h : Fin 8) (e : Fin 64) : Fin n := ⟨o + (h.val * 64 + e.val), by omega⟩

theorem queries_at (t : Fin 2048) (h : Fin 8) (e : Fin 64) : queries x (ix3 t h e) = x (ix2 t (col 768 (by decide) h e)) := by
  unfold queries; pointwise

theorem keys_at (t : Fin 2048) (h : Fin 8) (e : Fin 64) : keys x (ix3 t h e) = x (ix2 t (col 1280 (by decide) h e)) := by
  unfold keys; pointwise

theorem vals_at (t : Fin 2048) (h : Fin 8) (e : Fin 64) : vals x (ix3 t h e) = x (ix2 t (col 1792 (by decide) h e)) := by
  unfold vals; pointwise

theorem ups_at (t : Fin 2048) (h : Fin 8) (e : Fin 64) : ups y (ix3 t h e) = y (ix2 t (col 0 (by decide) h e)) := by
  unfold ups; pointwise
  congr 2; exact Fin.ext (Nat.zero_add _).symm

theorem least : Ideal.ofBits .f32 4286578688#32 = ⊥ := by simp [Ideal.ofBits, Ideal.ieee]

/-- A bound of minus infinity binds nothing. -/
theorem max_least (T : FVec Ideal S8x2048 .f32) :
    maximumf (broadcastInDim S8x2048 ![] bcast_S_S8x2048 (constant S_ .f32 0xFF800000#32)) T = T := by
  funext j; pointwise; rw [least]; exact max_eq_right bot_le

theorem tops'_eq : tops' x c = tops x c := max_least _

/-- The words `s` and `t` compare as the numbers do. -/
theorem seen_iff (t s : Fin 2048) : IntOp.cmpi CmpIPredicate.sle (BitVec.ofNat 32 s.val) (BitVec.ofNat 32 t.val) = 1#1 ↔ s ≤ t := by
  rw [Fin.le_def]; word_cmp

theorem select_seen {α : Type} (t s : Fin 2048) (a b : α) :
    Scalar.select (IntOp.cmpi CmpIPredicate.sle (BitVec.ofNat 32 s.val) (BitVec.ofNat 32 t.val)) a b = if s ≤ t then a else b := by
  unfold Scalar.select
  by_cases h : s ≤ t
  · rw [if_pos h]; exact if_pos ((seen_iff t s).2 h)
  · rw [if_neg h]; exact if_neg fun e => h ((seen_iff t s).1 e)

theorem scores_at (h : Fin 8) (t s : Fin 2048) : scores x c (ix3 h t s) =
    if s ≤ t then (∑ e, queries x (ix3 t h e) * keys x (ix3 s h e)) * scale + c (ix2 t h) - c (ix2 s h) else ⊥ := by
  unfold scores seen; pointwise; rw [select_seen, least, scale]

theorem tops_at (h : Fin 8) (t : Fin 2048) : tops x c (ix2 h t) = Finset.univ.fold max ⊥ fun s => scores x c (ix3 h t s) := by
  unfold tops; pointwise; rw [least]

theorem exps_at (h : Fin 8) (t s : Fin 2048) : exps x c M (ix3 h t s) = Ideal.exp (scores x c (ix3 h t s) - M (ix2 h t)) := by
  unfold exps; pointwise

theorem sums_at (h : Fin 8) (t : Fin 2048) : sums x c M (ix3 h t 0) = ∑ s, exps x c M (ix3 h t s) := by
  unfold sums; pointwise

theorem probs_at (h : Fin 8) (t s : Fin 2048) : probs x c M (ix3 h t s) = Ideal.div (exps x c M (ix3 h t s)) (sums x c M (ix3 h t 0)) := by
  unfold probs wide; pointwise

theorem dprobs_at (h : Fin 8) (t s : Fin 2048) : dprobs x y (ix3 h t s) = ∑ e, ups y (ix3 t h e) * vals x (ix3 s h e) := by
  unfold dprobs upsT; pointwise

theorem drow_at (h : Fin 8) (t : Fin 2048) : drow x y c M (ix3 h t 0) =
    -∑ s, dprobs x y (ix3 h t s) * Ideal.div 1 (sums x c M (ix3 h t 0) * sums x c M (ix3 h t 0)) * exps x c M (ix3 h t s) := by
  unfold drow wide; pointwise

theorem dscores_at (h : Fin 8) (t s : Fin 2048) : dscores x y c M (ix3 h t s) =
    if s ≤ t then (Ideal.div (dprobs x y (ix3 h t s)) (sums x c M (ix3 h t 0)) + drow x y c M (ix3 h t 0)) * exps x c M (ix3 h t s) else 0 := by
  unfold dscores wide seen; pointwise; rw [select_seen, Fin.sum_univ_one]

/-- The head and the lane of a column. -/
abbrev head (d : Fin 512) : Fin 8 := ⟨d.val / 64, by omega⟩
abbrev part (d : Fin 512) : Fin 64 := ⟨d.val % 64, by omega⟩

/-- Head `d` of pair `p`. -/
abbrev both (p : Fin 4) (d : Fin 2) : Fin 8 := ⟨p.val * 2 + d.val, by omega⟩

theorem gradQ_at (t : Fin 2048) (d : Fin 512) : gradQ x y c M (ix2 t d) =
    ∑ s, dscores x y c M (ix3 (head d) t s) * scale * keys x (ix3 s (head d) (part d)) := by
  unfold gradQ scaled; pointwise; rfl

theorem gradK_at (s : Fin 2048) (d : Fin 512) : gradK x y c M (ix2 s d) =
    ∑ t, dscores x y c M (ix3 (head d) t s) * scale * queries x (ix3 t (head d) (part d)) := by
  unfold gradK scaled; pointwise; rfl

theorem gradV_at (s : Fin 2048) (d : Fin 512) : gradV x y c M (ix2 s d) =
    ∑ t, ups y (ix3 t (head d) (part d)) * probs x c M (ix3 (head d) t s) := by
  unfold gradV upsT; pointwise

theorem gradDK_at (p : Fin 4) (s : Fin 2048) (d : Fin 2) : gradDK x y c M (ix3 p s d) = ∑ t, -dscores x y c M (ix3 (both p d) t s) := by
  unfold gradDK; pointwise; rw [Fin.sum_univ_one]

theorem gradDQ_at (p : Fin 4) (t : Fin 2048) (d : Fin 2) : gradDQ x y c M (ix3 p d t) = ∑ s, dscores x y c M (ix3 (both p d) t s) := by
  unfold gradDQ; pointwise; rw [Fin.sum_univ_one]

end Cert.AttnBwd.Stages

end
-- ==== Proof.Host.lean ====
/-
  What the kernel's host part hands to the kernel, and the blocks the grid points read, in terms of the stages.
-/
module

public import proofs.«01_k».proof.Proof.Out
public import proofs.«01_k».proof.Proof.Stages
public import Idealize.ShloMosaic.Lib.StableHlo.RunRead

@[expose] public section

set_option maxRecDepth 16384

noncomputable section

namespace Cert.AttnBwd

open Cert.KernelIdeal Cert.KernelIdeal.Gen
open Idealize.ShloMosaic Idealize.ShloMosaic.TcCoe Idealize.SL.Sem
open scoped BigOperators

section Values

variable (x : FVec Ideal S2048x3840 .bf16) (y : FVec Ideal S2048x512 .bf16) (z : FVec Ideal S2048x8 .f32)
  (M : FVec Ideal S8x2048 .f32) (L : FVec Ideal S8x2048x1 .f32) (u v : FVec Ideal S2048x8x64 .f32) (P : FVec Ideal S8x2048x2048 .f32)

/-- The logarithm of a row's sum of exponentials, from the row's top and the sum of exponentials less the top. -/
def lseOf : FVec Ideal S4x2x2048 .f32 :=
  shapeCast _ (shapeCast _ (addf (broadcastInDim S8x2048x1 ![0, 1] bcast_S8x2048_S8x2048x1_0_1 M) (Host.log L))
    shapeCasts_S8x2048x1_S8x2048 : FVec Ideal S8x2048 .f32) shapeCasts_S8x2048_S4x2x2048

/-- The product of each query's upstream gradient with its attention. -/
def deltaOf : FVec Ideal S4x2x2048 .f32 :=
  shapeCast _ (transpose S8x2048 [1, 0] (Host.reduceAdd (mulf u (transpose S2048x8x64 [2, 0, 1]
      (Host.dotGeneral dot_S2048x8x64_S8x2048x2048_S8x64x2048_0_2_2_1_1_0 none v P : FVec Ideal S8x64x2048 .f32)
      transposes_S8x64x2048_S2048x8x64_2_0_1)) (constant S_ .f32 0x00000000#32) reducesTo_S2048x8x64_S2048x8_d2 h_S_) transposes_S2048x8_S8x2048_1_0 : FVec Ideal S8x2048 .f32)
    shapeCasts_S8x2048_S4x2x2048

/-- The decays at the queries, and at the keys. -/
def decayQ : FVec Ideal S4x2x2048 .f32 := transpose S4x2x2048 [1, 2, 0] (shapeCast S2048x4x2 z shapeCasts_S2048x8_S2048x4x2) transposes_S2048x4x2_S4x2x2048_1_2_0
def decayK : FVec Ideal S4x2048x2 .f32 := transpose S4x2048x2 [1, 0, 2] (shapeCast S2048x4x2 z shapeCasts_S2048x8_S2048x4x2) transposes_S2048x4x2_S4x2048x2_1_0_2

theorem lseOf_at (p : Fin 4) (h : Fin 2) (t : Fin 2048) :
    lseOf M L (ix3 p h t) = M (ix2 (Stages.both p h) t) + Ideal.log (L (ix3 (Stages.both p h) t 0)) := by
  unfold lseOf; pointwise

theorem deltaOf_at (p : Fin 4) (h : Fin 2) (t : Fin 2048) : deltaOf u v P (ix3 p h t) =
    ∑ e, u (ix3 t (Stages.both p h) e) * ∑ s, v (ix3 s (Stages.both p h) e) * P (ix3 (Stages.both p h) t s) := by
  unfold deltaOf; pointwise

theorem decayQ_at (p : Fin 4) (h : Fin 2) (t : Fin 2048) : decayQ z (ix3 p h t) = z (ix2 t (Stages.both p h)) := by
  unfold decayQ; pointwise

theorem decayK_at (p : Fin 4) (h : Fin 2) (s : Fin 2048) : decayK z (ix3 p s h) = z (ix2 s (Stages.both p h)) := by
  unfold decayK; pointwise

end Values

variable (m : (ℓ : Loc nD τ sig) → Buf (Elt Ideal) ℓ) (c : Dev nD)

/-- The three arguments. -/
abbrev argX : FVec Ideal S2048x3840 .bf16 := m ((c.tc : Thread nD τ).loc main_arg0)
abbrev argY : FVec Ideal S2048x512 .bf16 := m ((c.tc : Thread nD τ).loc main_arg1)
abbrev argZ : FVec Ideal S2048x8 .f32 := m ((c.tc : Thread nD τ).loc main_arg2)

theorem V_lse : V m c main_v35 = lseOf (Stages.tops (argX m c) (argZ m c)) (Stages.sums (argX m c) (argZ m c) (Stages.tops (argX m c) (argZ m c))) := by
  simp only [V, hostOps0, hostOps0_1, hostOps0_2, List.flatten_cons, List.flatten_nil, List.append_nil, List.cons_append, List.nil_append]
  after_reads_simp
  rfl

theorem V_delta : V m c main_v45 = deltaOf (Stages.ups (argY m c)) (Stages.vals (argX m c))
    (Stages.probs (argX m c) (argZ m c) (Stages.tops (argX m c) (argZ m c))) := by
  simp only [V, hostOps0, hostOps0_1, hostOps0_2, List.flatten_cons, List.flatten_nil, List.append_nil, List.cons_append, List.nil_append]
  after_reads_simp
  rfl

theorem V_cq : V m c main_v47 = decayQ (argZ m c) := by
  simp only [V, hostOps0, hostOps0_1, hostOps0_2, List.flatten_cons, List.flatten_nil, List.append_nil, List.cons_append, List.nil_append]
  after_reads_simp
  rfl

theorem V_ck : V m c main_v49 = decayK (argZ m c) := by
  simp only [V, hostOps0, hostOps0_1, hostOps0_2, List.flatten_cons, List.flatten_nil, List.append_nil, List.cons_append, List.nil_append]
  after_reads_simp
  rfl

/-! ## The blocks -/

theorem at0 : ∀ t : Fin cfg0.N, win0_0.index t = ![0, 6 + t.val / 4] := by decide +kernel
theorem at1 : ∀ t : Fin cfg0.N, win0_1.index t = ![t.val % 4, 10 + t.val / 4] := by decide +kernel
theorem at2 : ∀ t : Fin cfg0.N, win0_2.index t = ![t.val % 4, 14 + t.val / 4] := by decide +kernel
theorem at3 : ∀ t : Fin cfg0.N, win0_3.index t = ![0, t.val / 4] := by decide +kernel
theorem at4 : ∀ t : Fin cfg0.N, win0_4.index t = ![t.val / 4, 0, 0] := by decide +kernel
theorem at5 : ∀ t : Fin cfg0.N, win0_5.index t = ![t.val / 4, 0, 0] := by decide +kernel
theorem at6 : ∀ t : Fin cfg0.N, win0_6.index t = ![t.val / 4, 0, 0] := by decide +kernel
theorem at7 : ∀ t : Fin cfg0.N, win0_7.index t = ![t.val / 4, t.val % 4, 0] := by decide +kernel

section Blocks

variable (p g : Fin 4)

/-- The grid point of head pair `p` and step `g`. -/
def pt : Fin cfg0.N := ⟨4 * p.val + g.val, by rw [show cfg0.N = 16 from N_0]; omega⟩

theorem pt_div : (pt p g).val / 4 = p.val := by unfold pt; show (4 * p.val + g.val) / 4 = p.val; omega
theorem pt_mod : (pt p g).val % 4 = g.val := by unfold pt; show (4 * p.val + g.val) % 4 = g.val; omega

theorem blkN_pt : blkN m c (4 * p.val + g.val) = blk m c (pt p g) := blkN_val m c (pt p g)

/-- Key `s` of step `g`. -/
abbrev keyRow (s : Fin 512) : Fin 2048 := ⟨512 * g.val + s.val, by omega⟩

/-- A lane within its head. -/
abbrev within (d : Fin 128) : Fin 64 := ⟨d.val % 64, by omega⟩

/-- Two indices of three axes that agree on each. -/
theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

/-! A block's entry is the array's at the block's place. -/

theorem read_q (A : FVec Ideal S2048x3840 .bf16) (r : Fin 2048) (d : Fin 128) :
    ((cfg0.win 0).blk (pt p g)).view.read (Elt Ideal) A (ix2 r d) = A (ix2 r (Stages.col 768 (by decide) (Stages.both p (headOf d)) (within d))) := by
  blk_simp
  refine congrArg A (Shape.idx_ext₂ ?_ ?_) <;> blk_simp [at0, pt_div]
  simp only [headOf]; omega

theorem read_k (A : FVec Ideal S2048x3840 .bf16) (s : Fin 512) (d : Fin 128) :
    ((cfg0.win 1).blk (pt p g)).view.read (Elt Ideal) A (ix2 s d) =
      A (ix2 (keyRow g s) (Stages.col 1280 (by decide) (Stages.both p (headOf d)) (within d))) := by
  blk_simp
  refine congrArg A (Shape.idx_ext₂ ?_ ?_) <;> blk_simp [at1, pt_div, pt_mod]
  all_goals simp only [headOf]; omega

theorem read_v (A : FVec Ideal S2048x3840 .bf16) (s : Fin 512) (d : Fin 128) :
    ((cfg0.win 2).blk (pt p g)).view.read (Elt Ideal) A (ix2 s d) =
      A (ix2 (keyRow g s) (Stages.col 1792 (by decide) (Stages.both p (headOf d)) (within d))) := by
  blk_simp
  refine congrArg A (Shape.idx_ext₂ ?_ ?_) <;> blk_simp [at2, pt_div, pt_mod]
  all_goals simp only [headOf]; omega

theorem read_go (A : FVec Ideal S2048x512 .bf16) (r : Fin 2048) (d : Fin 128) :
    ((cfg0.win 3).blk (pt p g)).view.read (Elt Ideal) A (ix2 r d) = A (ix2 r (Stages.col 0 (by decide) (Stages.both p (headOf d)) (within d))) := by
  blk_simp
  refine congrArg A (Shape.idx_ext₂ ?_ ?_) <;> blk_simp [at3, pt_div]
  simp only [headOf]; omega

theorem read_lse (A : FVec Ideal S4x2x2048 .f32) (h : Fin 2) (t : Fin 2048) :
    ((cfg0.win 4).blk (pt p g)).view.read (Elt Ideal) A (ix3 0 h t) = A (ix3 p h t) := by
  blk_simp
  refine congrArg A (idx_ext₃ ?_ ?_ ?_) <;> blk_simp [at4, pt_div]
  exact Nat.add_zero _

theorem read_delta (A : FVec Ideal S4x2x2048 .f32) (h : Fin 2) (t : Fin 2048) :
    ((cfg0.win 5).blk (pt p g)).view.read (Elt Ideal) A (ix3 0 h t) = A (ix3 p h t) := by
  blk_simp
  refine congrArg A (idx_ext₃ ?_ ?_ ?_) <;> blk_simp [at5, pt_div]
  exact Nat.add_zero _

theorem read_cq (A : FVec Ideal S4x2x2048 .f32) (h : Fin 2) (t : Fin 2048) :
    ((cfg0.win 6).blk (pt p g)).view.read (Elt Ideal) A (ix3 0 h t) = A (ix3 p h t) := by
  blk_simp
  refine congrArg A (idx_ext₃ ?_ ?_ ?_) <;> blk_simp [at6, pt_div]
  exact Nat.add_zero _

theorem read_ck (A : FVec Ideal S4x2048x2 .f32) (s : Fin 512) (h : Fin 2) :
    ((cfg0.win 7).blk (pt p g)).view.read (Elt Ideal) A (ix3 0 s h) = A (ix3 p (keyRow g s) h) := by
  blk_simp
  refine congrArg A (idx_ext₃ ?_ ?_ ?_) <;> blk_simp [at7, pt_div, pt_mod]
  · exact Nat.add_zero _
  · show g.val * 512 + s.val = 512 * g.val + s.val; omega

theorem blk_q (r : Fin 2048) (d : Fin 128) :
    (blk m c (pt p g)).q (ix2 r d) = Stages.queries (argX m c) (ix3 r (Stages.both p (headOf d)) (within d)) :=
  (read_q p g _ r d).trans ((congrFun (V_main_arg0 m c) _).trans (Stages.queries_at ..).symm)

theorem blk_k (s : Fin 512) (d : Fin 128) :
    (blk m c (pt p g)).k (ix2 s d) = Stages.keys (argX m c) (ix3 (keyRow g s) (Stages.both p (headOf d)) (within d)) :=
  (read_k p g _ s d).trans ((congrFun (V_main_arg0 m c) _).trans (Stages.keys_at ..).symm)

theorem blk_v (s : Fin 512) (d : Fin 128) :
    (blk m c (pt p g)).v (ix2 s d) = Stages.vals (argX m c) (ix3 (keyRow g s) (Stages.both p (headOf d)) (within d)) :=
  (read_v p g _ s d).trans ((congrFun (V_main_arg0 m c) _).trans (Stages.vals_at ..).symm)

theorem blk_go (r : Fin 2048) (d : Fin 128) :
    (blk m c (pt p g)).go (ix2 r d) = Stages.ups (argY m c) (ix3 r (Stages.both p (headOf d)) (within d)) := by
  rw [Stages.ups_at]
  exact (read_go p g (V m c main_arg1) r d).trans (congrFun (V_main_arg1 m c) _)

theorem blk_lse (h : Fin 2) (t : Fin 2048) : (blk m c (pt p g)).lse (ix3 0 h t) =
    Stages.tops (argX m c) (argZ m c) (ix2 (Stages.both p h) t)
      + Ideal.log (Stages.sums (argX m c) (argZ m c) (Stages.tops (argX m c) (argZ m c)) (ix3 (Stages.both p h) t 0)) := by
  rw [show (blk m c (pt p g)).lse (ix3 0 h t) = V m c main_v35 (ix3 p h t) from read_lse p g (V m c main_v35) h t, V_lse, lseOf_at]

theorem blk_delta (h : Fin 2) (t : Fin 2048) : (blk m c (pt p g)).delta (ix3 0 h t) =
    ∑ e, Stages.ups (argY m c) (ix3 t (Stages.both p h) e)
      * ∑ s, Stages.vals (argX m c) (ix3 s (Stages.both p h) e)
        * Stages.probs (argX m c) (argZ m c) (Stages.tops (argX m c) (argZ m c)) (ix3 (Stages.both p h) t s) := by
  rw [show (blk m c (pt p g)).delta (ix3 0 h t) = V m c main_v45 (ix3 p h t) from read_delta p g (V m c main_v45) h t, V_delta, deltaOf_at]

theorem blk_cq (h : Fin 2) (t : Fin 2048) : (blk m c (pt p g)).cq (ix3 0 h t) = argZ m c (ix2 t (Stages.both p h)) := by
  rw [show (blk m c (pt p g)).cq (ix3 0 h t) = V m c main_v47 (ix3 p h t) from read_cq p g (V m c main_v47) h t, V_cq, decayQ_at]

theorem blk_ck (h : Fin 2) (s : Fin 512) : (blk m c (pt p g)).ck (ix3 0 s h) = argZ m c (ix2 (keyRow g s) (Stages.both p h)) := by
  rw [show (blk m c (pt p g)).ck (ix3 0 s h) = V m c main_v49 (ix3 p (keyRow g s) h) from read_ck p g (V m c main_v49) s h, V_ck, decayK_at]

end Blocks

end Cert.AttnBwd

end
-- ==== Proof.Reals.lean ====
/-
  The stages of the attention gradient on real arguments: each is the real number that the formula over the reals gives.
-/
module

public import proofs.«01_k».proof.Proof.Stages

@[expose] public section

set_option maxRecDepth 16384

noncomputable section

namespace Cert.AttnBwd

open Idealize.ShloMosaic
open scoped BigOperators

/-- A sum of reals is real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real quotient. -/
theorem div_real (a : ℝ) {b : ℝ} (hb : b ≠ 0) : Ideal.div (a : EReal) (b : EReal) = ((a / b : ℝ) : EReal) := by
  rw [Ideal.div_coe hb, ← EReal.coe_mul]; congr 1; ring

namespace Stages

open Cert.ReferenceIdeal

theorem scale_real : scale = ((1 / 8 : ℝ) : EReal) := by
  unfold scale
  simp [Ideal.ofBits, Ideal.ieee, -EReal.coe_mul]; norm_num

/-- Arguments all of whose entries are real. -/
structure Real3 (x : FVec Ideal S2048x3840 .bf16) (y : FVec Ideal S2048x512 .bf16) (c : FVec Ideal S2048x8 .f32) where
  xr : S2048x3840.Idx → ℝ
  yr : S2048x512.Idx → ℝ
  cr : S2048x8.Idx → ℝ
  hx : ∀ i, x i = (xr i : EReal)
  hy : ∀ i, y i = (yr i : EReal)
  hc : ∀ i, c i = (cr i : EReal)

namespace Real3

variable {x : FVec Ideal S2048x3840 .bf16} {y : FVec Ideal S2048x512 .bf16} {c : FVec Ideal S2048x8 .f32} (R : Real3 x y c)

def q (t : Fin 2048) (h : Fin 8) (e : Fin 64) : ℝ := R.xr (ix2 t (col 768 (by decide) h e))
def k (s : Fin 2048) (h : Fin 8) (e : Fin 64) : ℝ := R.xr (ix2 s (col 1280 (by decide) h e))
def v (s : Fin 2048) (h : Fin 8) (e : Fin 64) : ℝ := R.xr (ix2 s (col 1792 (by decide) h e))
def u (t : Fin 2048) (h : Fin 8) (e : Fin 64) : ℝ := R.yr (ix2 t (col 0 (by decide) h e))
def z (t : Fin 2048) (h : Fin 8) : ℝ := R.cr (ix2 t h)

theorem queries_real (t : Fin 2048) (h : Fin 8) (e : Fin 64) : queries x (ix3 t h e) = (R.q t h e : EReal) := by rw [queries_at, R.hx]; rfl
theorem keys_real (t : Fin 2048) (h : Fin 8) (e : Fin 64) : keys x (ix3 t h e) = (R.k t h e : EReal) := by rw [keys_at, R.hx]; rfl
theorem vals_real (t : Fin 2048) (h : Fin 8) (e : Fin 64) : vals x (ix3 t h e) = (R.v t h e : EReal) := by rw [vals_at, R.hx]; rfl
theorem ups_real (t : Fin 2048) (h : Fin 8) (e : Fin 64) : ups y (ix3 t h e) = (R.u t h e : EReal) := by rw [ups_at, R.hy]; rfl
theorem decay_real (t : Fin 2048) (h : Fin 8) : c (ix2 t h) = (R.z t h : EReal) := R.hc _

/-- The score of key `s` at query `t`. -/
def sc (h : Fin 8) (t s : Fin 2048) : ℝ := (∑ e, R.q t h e * R.k s h e) * (1 / 8) + R.z t h - R.z s h

theorem scores_real (h : Fin 8) (t s : Fin 2048) : scores x c (ix3 h t s) = if s ≤ t then (R.sc h t s : EReal) else ⊥ := by
  rw [scores_at]
  simp only [R.queries_real, R.keys_real, R.decay_real, scale_real, ← EReal.coe_mul, coe_sum, ← EReal.coe_add, ← EReal.coe_sub]
  rfl

include R in
/-- A row's greatest score is real: the first key is seen from everywhere. -/
theorem tops_real (h : Fin 8) (t : Fin 2048) : ∃ r : ℝ, tops x c (ix2 h t) = (r : EReal) := by
  rw [tops_at]
  have e : (Finset.univ.fold max ⊥ fun s => scores x c (ix3 h t s)) = Finset.univ.sup fun s => scores x c (ix3 h t s) := rfl
  rw [e]
  obtain ⟨i, _, hi⟩ := Finset.exists_mem_eq_sup (Finset.univ : Finset (Fin 2048)) ⟨0, Finset.mem_univ _⟩ fun s => scores x c (ix3 h t s)
  have h0 : scores x c (ix3 h t 0) ≤ Finset.univ.sup fun s => scores x c (ix3 h t s) := Finset.le_sup (f := fun s => scores x c (ix3 h t s)) (Finset.mem_univ 0)
  rw [hi] at h0 ⊢
  simp only [R.scores_real] at h0 ⊢
  by_cases hit : i ≤ t
  · exact ⟨_, if_pos hit⟩
  · rw [if_neg hit, if_pos (Fin.zero_le t)] at h0
    exact absurd (le_bot_iff.mp h0) (EReal.coe_ne_bot _)

/-- The greatest score. -/
def top (h : Fin 8) (t : Fin 2048) : ℝ := (R.tops_real h t).choose

theorem tops_eq (h : Fin 8) (t : Fin 2048) : tops x c (ix2 h t) = (R.top h t : EReal) := (R.tops_real h t).choose_spec

/-- The exponential of a score less the top of its row, zero before the key. -/
def ex (h : Fin 8) (t s : Fin 2048) : ℝ := if s ≤ t then Real.exp (R.sc h t s - R.top h t) else 0

theorem exps_real (h : Fin 8) (t s : Fin 2048) : exps x c (tops x c) (ix3 h t s) = (R.ex h t s : EReal) := by
  rw [exps_at, R.scores_real, R.tops_eq, ex]
  by_cases hst : s ≤ t
  · rw [if_pos hst, if_pos hst, ← EReal.coe_sub, Ideal.exp_coe]
  · rw [if_neg hst, if_neg hst, EReal.bot_sub, Ideal.exp_bot, EReal.coe_zero]

/-- Their sum. -/
def l (h : Fin 8) (t : Fin 2048) : ℝ := ∑ s, R.ex h t s

theorem sums_real (h : Fin 8) (t : Fin 2048) : sums x c (tops x c) (ix3 h t 0) = (R.l h t : EReal) := by
  rw [sums_at]; simp only [R.exps_real, coe_sum]; rfl

theorem l_pos (h : Fin 8) (t : Fin 2048) : 0 < R.l h t := by
  refine Finset.sum_pos' (fun s _ => ?_) ⟨t, Finset.mem_univ _, ?_⟩
  · unfold ex; split_ifs
    · exact (Real.exp_pos _).le
    · exact le_rfl
  · unfold ex; rw [if_pos le_rfl]; exact Real.exp_pos _

/-- The probability. -/
def pr (h : Fin 8) (t s : Fin 2048) : ℝ := R.ex h t s / R.l h t

theorem probs_real (h : Fin 8) (t s : Fin 2048) : probs x c (tops x c) (ix3 h t s) = (R.pr h t s : EReal) := by
  rw [probs_at, R.exps_real, R.sums_real, div_real _ (R.l_pos h t).ne']; rfl

/-- The gradient of the probability. -/
def dp (h : Fin 8) (t s : Fin 2048) : ℝ := ∑ e, R.u t h e * R.v s h e

theorem dprobs_real (h : Fin 8) (t s : Fin 2048) : dprobs x y (ix3 h t s) = (R.dp h t s : EReal) := by
  rw [dprobs_at]; simp only [R.ups_real, R.vals_real, ← EReal.coe_mul, coe_sum]; rfl

/-- The mean of a row's gradients. -/
def mean (h : Fin 8) (t : Fin 2048) : ℝ := ∑ s, R.pr h t s * R.dp h t s

/-- The gradient of the score. -/
def ds (h : Fin 8) (t s : Fin 2048) : ℝ := R.pr h t s * (R.dp h t s - R.mean h t)

theorem drow_real (h : Fin 8) (t : Fin 2048) : drow x y c (tops x c) (ix3 h t 0) = ((-(R.mean h t / R.l h t) : ℝ) : EReal) := by
  have hl := (R.l_pos h t).ne'
  rw [drow_at]
  simp only [R.dprobs_real, R.sums_real, R.exps_real, ← EReal.coe_mul]
  simp only [← EReal.coe_one, div_real 1 (mul_ne_zero hl hl), ← EReal.coe_mul, coe_sum, ← EReal.coe_neg]
  congr 2
  unfold mean pr
  rw [Finset.sum_div]
  refine Finset.sum_congr rfl fun s _ => ?_
  field_simp

theorem dscores_real (h : Fin 8) (t s : Fin 2048) : dscores x y c (tops x c) (ix3 h t s) = (R.ds h t s : EReal) := by
  have hl := (R.l_pos h t).ne'
  rw [dscores_at, R.dprobs_real, R.sums_real, R.exps_real, R.drow_real, div_real _ hl, ← EReal.coe_add, ← EReal.coe_mul]
  unfold ds pr
  by_cases hst : s ≤ t
  · rw [if_pos hst]; congr 1; field_simp; ring
  · rw [if_neg hst, ex, if_neg hst, zero_div, zero_mul, EReal.coe_zero]

/-! ## The kernel's spelling -/

/-- The score less the logarithm of the sum is the probability's logarithm. -/
theorem exp_less_log (h : Fin 8) (t s : Fin 2048) (hst : s ≤ t) : Real.exp (R.sc h t s - (R.top h t + Real.log (R.l h t))) = R.pr h t s := by
  rw [pr, ex, if_pos hst, ← sub_sub, Real.exp_sub _ (Real.log _), Real.exp_log (R.l_pos h t)]

theorem pr_unseen (h : Fin 8) (t s : Fin 2048) (hst : ¬s ≤ t) : R.pr h t s = 0 := by rw [pr, ex, if_neg hst, zero_div]

/-- The mean is the product of the upstream gradient with the attention. -/
theorem mean_eq (h : Fin 8) (t : Fin 2048) : ∑ e, R.u t h e * ∑ s, R.v s h e * R.pr h t s = R.mean h t := by
  unfold mean dp
  simp only [Finset.mul_sum]
  rw [Finset.sum_comm]
  refine Finset.sum_congr rfl fun s _ => Finset.sum_congr rfl fun e _ => ?_
  ring

end Real3

end Stages

end Cert.AttnBwd

end
-- ==== Proof.Gradients.lean ====
/-
  The five outputs of the kernel are the five gradients, on real arguments.
-/
module

public import proofs.«01_k».proof.Proof.Host
public import proofs.«01_k».proof.Proof.Reals

@[expose] public section

set_option maxRecDepth 16384

noncomputable section

namespace Cert.AttnBwd

open Cert.KernelIdeal Cert.KernelIdeal.Gen
open Idealize.ShloMosaic Idealize.ShloMosaic.TcCoe Idealize.SL.Sem
open scoped BigOperators

/-! ## Sums over lanes and over steps -/

/-- A sum over the lanes of head `h` is a sum over a head's 64 lanes. -/
theorem lane_sum (h : Fin 2) (a b : Fin 128 → EReal) (f : Fin 64 → EReal) (hf : ∀ d, lane h d → a d * b d = f (within d)) :
    ∑ d, (if lane h d then a d else 0) * b d = ∑ e, f e := by
  have tile : ∀ j : Fin 2, (∑ e : Fin 64, (fun d : Fin 128 => (if lane h d then a d else 0) * b d) ⟨j.val * 64 + e.val, by omega⟩) = if j = h then ∑ e, f e else 0 := by
    intro j
    by_cases hj : j = h
    · rw [if_pos hj]
      refine Finset.sum_congr rfl fun e _ => ?_
      have hl : lane h ⟨j.val * 64 + e.val, by omega⟩ := by
        have e' : j.val = h.val := congrArg _ hj
        unfold lane; show (j.val * 64 + e.val) / 64 = h.val; omega
      show (if lane h _ then _ else _) * _ = _
      rw [if_pos hl, hf _ hl]
      congr 1; exact Fin.ext (show (j.val * 64 + e.val) % 64 = e.val by omega)
    · rw [if_neg hj]
      refine Finset.sum_eq_zero fun e _ => ?_
      have hl : ¬lane h ⟨j.val * 64 + e.val, by omega⟩ := by
        unfold lane; intro e'; apply hj; apply Fin.ext
        have : (j.val * 64 + e.val) / 64 = h.val := e'
        have := e.isLt
        omega
      show (if lane h _ then _ else _) * _ = _
      rw [if_neg hl, zero_mul]
  rw [Fin.sum_univ_tiles 2 64 (by rfl)]
  refine (Finset.sum_congr rfl fun j _ => tile j).trans ?_
  rw [Finset.sum_ite_eq' Finset.univ h, if_pos (Finset.mem_univ h)]

/-- A sum over the four steps of sums over their keys is a sum over all keys. -/
theorem step_sum (f : Fin 2048 → EReal) (F : ℕ → EReal) (hF : ∀ g : Fin 4, F g.val = ∑ s : Fin 512, f (keyRow g s)) :
    ∑ g ∈ Finset.range 4, F g = ∑ s, f s := by
  rw [Fin.sum_univ_tiles 4 512 (by rfl), Finset.sum_range]
  refine Finset.sum_congr rfl fun g _ => (hF g).trans (Finset.sum_congr rfl fun s _ => ?_)
  congr 1; exact Fin.ext (show 512 * g.val + s.val = g.val * 512 + s.val by omega)

theorem headOf_lane {h : Fin 2} {d : Fin 128} (hd : lane h d) : headOf d = h := Fin.ext hd

theorem eighth_real : eighth = ((1 / 8 : ℝ) : EReal) := Stages.scale_real

/-! ## One step -/

variable {m : (ℓ : Loc nD τ sig) → Buf (Elt Ideal) ℓ} {c : Dev nD} (R : Stages.Real3 (argX m c) (argY m c) (argZ m c)) (p g : Fin 4)

theorem key_sum (h : Fin 2) (s : Fin 512) (t : Fin 2048) : ∑ d, (blk m c (pt p g)).key h s d * (blk m c (pt p g)).q (ix2 t d) =
    (((∑ e, R.q t (Stages.both p h) e * R.k (keyRow g s) (Stages.both p h) e) * (1 / 8) : ℝ) : EReal) := by
  unfold Blocks.key
  rw [lane_sum h _ _ (fun e => ((R.q t (Stages.both p h) e * R.k (keyRow g s) (Stages.both p h) e * (1 / 8) : ℝ) : EReal)) ?_, coe_sum, Finset.sum_mul]
  intro d hd
  rw [blk_k, blk_q, R.keys_real, R.queries_real, headOf_lane hd, eighth_real, ← EReal.coe_mul, ← EReal.coe_mul]
  congr 1; ring

theorem val_sum (h : Fin 2) (s : Fin 512) (t : Fin 2048) : ∑ d, (blk m c (pt p g)).val h s d * (blk m c (pt p g)).go (ix2 t d) =
    (R.dp (Stages.both p h) t (keyRow g s) : EReal) := by
  unfold Blocks.val
  rw [lane_sum h _ _ (fun e => ((R.u t (Stages.both p h) e * R.v (keyRow g s) (Stages.both p h) e : ℝ) : EReal)) ?_, coe_sum]
  · rfl
  intro d hd
  rw [blk_v, blk_go, R.vals_real, R.ups_real, headOf_lane hd, ← EReal.coe_mul]
  congr 1; ring

theorem lse_real (h : Fin 2) (t : Fin 2048) : (blk m c (pt p g)).lse (ix3 0 h t) =
    ((R.top (Stages.both p h) t + Real.log (R.l (Stages.both p h) t) : ℝ) : EReal) := by
  rw [blk_lse, R.tops_eq, R.sums_real, Ideal.log_coe, if_neg (not_le.2 (R.l_pos _ _)), EReal.coe_add]

theorem delta_real (h : Fin 2) (t : Fin 2048) : (blk m c (pt p g)).delta (ix3 0 h t) = (R.mean (Stages.both p h) t : EReal) := by
  rw [blk_delta, ← R.mean_eq]
  simp only [R.ups_real, R.vals_real, R.probs_real, ← EReal.coe_mul, coe_sum]

theorem prob_real (h : Fin 2) (s : Fin 512) (t : Fin 2048) :
    (blk m c (pt p g)).prob g.val h s t = (R.pr (Stages.both p h) t (keyRow g s) : EReal) := by
  unfold Blocks.prob
  by_cases hst : keyRow g s ≤ t
  · rw [if_pos (show 512 * g.val + s.val ≤ t.val from hst), key_sum R, blk_cq, blk_ck, lse_real R, R.decay_real, R.decay_real,
      ← EReal.coe_add, ← EReal.coe_sub, ← EReal.coe_sub, Ideal.exp_coe, ← R.exp_less_log _ _ _ hst]
    rfl
  · rw [if_neg (show ¬512 * g.val + s.val ≤ t.val from hst), R.pr_unseen _ _ _ hst, EReal.coe_zero]

theorem dscore_real (h : Fin 2) (s : Fin 512) (t : Fin 2048) :
    (blk m c (pt p g)).dscore g.val h s t = (R.ds (Stages.both p h) t (keyRow g s) : EReal) := by
  unfold Blocks.dscore
  rw [prob_real R, val_sum R, delta_real R, ← EReal.coe_sub, ← EReal.coe_mul]; rfl

/-! ## The outputs -/

section Outputs

/-- The head pair of a column, its lane in the pair, and the step and place of a key. -/
abbrev pairOf (d : Fin 512) : Fin 4 := ⟨d.val / 128, by omega⟩
abbrev laneOf (d : Fin 512) : Fin 128 := ⟨d.val % 128, by omega⟩
abbrev stepOf (s : Fin 2048) : Fin 4 := ⟨s.val / 512, by omega⟩
abbrev placeOf (s : Fin 2048) : Fin 512 := ⟨s.val % 512, by omega⟩

theorem keyRow_of (s : Fin 2048) : keyRow (stepOf s) (placeOf s) = s := Fin.ext (Nat.div_add_mod _ _)

theorem head_of (d : Fin 512) : Stages.both (pairOf d) (headOf (laneOf d)) = Stages.head d :=
  Fin.ext (show d.val / 128 * 2 + d.val % 128 / 64 = d.val / 64 by omega)

theorem within_of (d : Fin 512) : within (laneOf d) = Stages.part d := Fin.ext (show d.val % 128 % 64 = d.val % 64 by omega)

include R in
theorem outV_at (s : Fin 2048) (d : Fin 512) : outV (blkN m c) (ix2 s d) =
    Stages.gradV (argX m c) (argY m c) (argZ m c) (Stages.tops (argX m c) (argZ m c)) (ix2 s d) := by
  rw [Stages.gradV_at]
  show (blkN m c (4 * (pairOf d).val + (stepOf s).val)).dval (stepOf s).val (placeOf s) (laneOf d) = _
  rw [blkN_pt]; unfold Blocks.dval
  refine Finset.sum_congr rfl fun t _ => ?_
  rw [prob_real R, blk_go, head_of, within_of, keyRow_of, R.probs_real, mul_comm]

include R in
theorem outK_at (s : Fin 2048) (d : Fin 512) : outK (blkN m c) (ix2 s d) =
    Stages.gradK (argX m c) (argY m c) (argZ m c) (Stages.tops (argX m c) (argZ m c)) (ix2 s d) := by
  rw [Stages.gradK_at]
  show (blkN m c (4 * (pairOf d).val + (stepOf s).val)).dkey (stepOf s).val (placeOf s) (laneOf d) = _
  rw [blkN_pt]; unfold Blocks.dkey
  simp only [dscore_real R, blk_q, head_of, within_of, keyRow_of, R.dscores_real, R.queries_real, eighth_real, Stages.scale_real, ← EReal.coe_mul, coe_sum]
  rw [Finset.sum_mul]
  congr 1
  exact Finset.sum_congr rfl fun t _ => by ring

include R in
theorem outDK_at (p : Fin 4) (s : Fin 2048) (h : Fin 2) : outDK (blkN m c) (ix3 p s h) =
    Stages.gradDK (argX m c) (argY m c) (argZ m c) (Stages.tops (argX m c) (argZ m c)) (ix3 p s h) := by
  rw [Stages.gradDK_at]
  show (blkN m c (4 * p.val + (stepOf s).val)).ddecayK (stepOf s).val (placeOf s) h = _
  rw [blkN_pt]; unfold Blocks.ddecayK
  simp only [dscore_real R, keyRow_of, R.dscores_real, ← EReal.coe_neg, coe_sum]
  rw [← EReal.coe_zero, ← EReal.coe_sub, zero_sub, Finset.sum_neg_distrib]

include R in
theorem outDQ_at (p : Fin 4) (h : Fin 2) (t : Fin 2048) : outDQ (blkN m c) (ix3 p h t) =
    Stages.gradDQ (argX m c) (argY m c) (argZ m c) (Stages.tops (argX m c) (argZ m c)) (ix3 p h t) := by
  rw [Stages.gradDQ_at]
  refine step_sum _ (fun g => (blkN m c (4 * p.val + g)).ddecayQ g h t) fun g => ?_
  show (blkN m c (4 * p.val + g.val)).ddecayQ g.val h t = _
  rw [blkN_pt]; unfold Blocks.ddecayQ
  exact Finset.sum_congr rfl fun s _ => by rw [dscore_real R, R.dscores_real]

include R in
theorem outQ_at (t : Fin 2048) (d : Fin 512) : outQ (blkN m c) (ix2 t d) =
    Stages.gradQ (argX m c) (argY m c) (argZ m c) (Stages.tops (argX m c) (argZ m c)) (ix2 t d) := by
  rw [Stages.gradQ_at]
  refine step_sum _ (fun g => (blkN m c (4 * (pairOf d).val + g)).dquery g (laneOf d) t) fun g => ?_
  show (blkN m c (4 * (pairOf d).val + g.val)).dquery g.val (laneOf d) t = _
  rw [blkN_pt]; unfold Blocks.dquery Blocks.key
  rw [← Finset.sum_add_distrib]
  refine Finset.sum_congr rfl fun s _ => ?_
  have e := by_head (fun h => (blk m c (pt (pairOf d) g)).k (ix2 s (laneOf d)) * eighth * (blk m c (pt (pairOf d) g)).dscore g.val h s t) (laneOf d)
  simp only [ite_mul, zero_mul]
  rw [e, blk_k, dscore_real R, head_of, within_of, R.keys_real, R.dscores_real, eighth_real, Stages.scale_real]
  simp only [← EReal.coe_mul]
  congr 1; ring

end Outputs

include R

theorem outQ_eq : outQ (blkN m c) = Stages.gradQ (argX m c) (argY m c) (argZ m c) (Stages.tops (argX m c) (argZ m c)) := by
  funext i; have e : i = ix2 (i 0) (i 1) := Shape.idx_ext₂ rfl rfl
  rw [e]; exact outQ_at R _ _
theorem outK_eq : outK (blkN m c) = Stages.gradK (argX m c) (argY m c) (argZ m c) (Stages.tops (argX m c) (argZ m c)) := by
  funext i; have e : i = ix2 (i 0) (i 1) := Shape.idx_ext₂ rfl rfl
  rw [e]; exact outK_at R _ _
theorem outV_eq : outV (blkN m c) = Stages.gradV (argX m c) (argY m c) (argZ m c) (Stages.tops (argX m c) (argZ m c)) := by
  funext i; have e : i = ix2 (i 0) (i 1) := Shape.idx_ext₂ rfl rfl
  rw [e]; exact outV_at R _ _
theorem outDK_eq : outDK (blkN m c) = Stages.gradDK (argX m c) (argY m c) (argZ m c) (Stages.tops (argX m c) (argZ m c)) := by
  funext i; have e : i = ix3 (i 0) (i 1) (i 2) := idx_ext₃ rfl rfl rfl
  rw [e]; exact outDK_at R _ _ _
theorem outDQ_eq : outDQ (blkN m c) = Stages.gradDQ (argX m c) (argY m c) (argZ m c) (Stages.tops (argX m c) (argZ m c)) := by
  funext i; have e : i = ix3 (i 0) (i 1) (i 2) := idx_ext₃ rfl rfl rfl
  rw [e]; exact outDQ_at R _ _ _

end Cert.AttnBwd

end
-- ==== Proof.Reference.lean ====
/-
  The values the reference returns, named by the stages.
-/
module

public import proofs.«01_k».proof.Proof.Stages
public import proofs.«01_k».proof.Proof.Gen.ReferenceIdeal.Run

@[expose] public section

set_option maxRecDepth 16384

noncomputable section

namespace Cert.AttnBwd.Reference

open Cert.ReferenceIdeal Cert.ReferenceIdeal.Value Cert.AttnBwd.Stages
open Idealize.ShloMosaic Idealize.SL.Sem

variable (m : (ℓ : Loc nD τ sig) → Buf (Elt Ideal) ℓ) (c : Dev nD)

/-- The three arguments. -/
abbrev argX : FVec Ideal S2048x3840 .bf16 := m ((c.tc : Thread nD τ).loc main_arg0)
abbrev argY : FVec Ideal S2048x512 .bf16 := m ((c.tc : Thread nD τ).loc main_arg1)
abbrev argC : FVec Ideal S2048x8 .f32 := m ((c.tc : Thread nD τ).loc main_arg2)

theorem out0 : res_out0 m c = gradQ (argX m c) (argY m c) (argC m c) (tops (argX m c) (argC m c)) := by
  rw [← tops'_eq]; rfl

theorem out1 : res_out1 m c = gradK (argX m c) (argY m c) (argC m c) (tops (argX m c) (argC m c)) := by
  rw [← tops'_eq]; rfl

theorem out2 : res_out2 m c = gradV (argX m c) (argY m c) (argC m c) (tops (argX m c) (argC m c)) := by
  rw [← tops'_eq]; rfl

theorem out3 : res_out3 m c = gradDK (argX m c) (argY m c) (argC m c) (tops (argX m c) (argC m c)) := by
  rw [← tops'_eq]; rfl

theorem out4 : res_out4 m c = gradDQ (argX m c) (argY m c) (argC m c) (tops (argX m c) (argC m c)) := by
  rw [← tops'_eq]; rfl

end Cert.AttnBwd.Reference

end
-- ==== Proof.Finite.lean ====
/-
  The precondition says that every argument's entries are real.
-/
module

public import proofs.«01_k».proof.Defs
public import proofs.«01_k».proof.Proof.Reals

@[expose] public section

noncomputable section

namespace Cert.AttnBwd

open Idealize.ShloMosaic

instance finiteFacts : Cert.Pre_finite.Facts where
  bitsLt_bf16_f32 := by decide
  bcast_S_S2048x3840 := by decide
  bcast_S_S2048x512 := by decide
  bcast_S_S2048x8 := by decide

theorem infinity : Ideal.ofBits .f32 0x7F800000#32 = ⊤ := by simp [Ideal.ofBits, Ideal.ieee]

/-- What lies below infinity in magnitude is real. -/
theorem real_of_lt {a : EReal} (h : Ideal.cmp .olt (max a (-a)) (Ideal.ofBits .f32 0x7F800000#32) = 1#1) : ∃ r : ℝ, a = (r : EReal) := by
  rw [infinity] at h
  have h' : max a (-a) < ⊤ := by
    by_contra hn
    simp [Ideal.cmp, hn] at h
  induction a using EReal.rec with
  | bot => simp at h'
  | top => simp at h'
  | coe r => exact ⟨r, rfl⟩

theorem finite_real (x : FVec Ideal Cert.Pre_finite.S2048x3840 .bf16) (y : FVec Ideal Cert.Pre_finite.S2048x512 .bf16) (z : FVec Ideal Cert.Pre_finite.S2048x8 .f32)
    (h : (Cert.Pre_finite.fn (F := Ideal) x y z).1 = (fun _ => 1#1) ∧ (Cert.Pre_finite.fn (F := Ideal) x y z).2.1 = (fun _ => 1#1)
      ∧ (Cert.Pre_finite.fn (F := Ideal) x y z).2.2 = (fun _ => 1#1)) : Nonempty (Stages.Real3 x y z) := by
  have hx : ∀ i, ∃ r : ℝ, x i = (r : EReal) := fun i => real_of_lt (congrFun h.1 i)
  have hy : ∀ i, ∃ r : ℝ, y i = (r : EReal) := fun i => real_of_lt (congrFun h.2.1 i)
  have hz : ∀ i, ∃ r : ℝ, z i = (r : EReal) := fun i => real_of_lt (congrFun h.2.2 i)
  exact ⟨⟨fun i => (hx i).choose, fun i => (hy i).choose, fun i => (hz i).choose,
    fun i => (hx i).choose_spec, fun i => (hy i).choose_spec, fun i => (hz i).choose_spec⟩⟩

end Cert.AttnBwd

end
-- ==== Proof.FfnRun.lean ====
/-
  The launch of the feed-forward block's backward pass: the two gradients end as the last two calls leave them, over what the calls before
  them leave.
-/
module

public import proofs.«01_k».proof.Proof.Gen.Kernel2Ideal.Frame
public import Idealize.ShloMosaic.Lib.Pointwise

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resources the launch is over. -/
abbrev Mod := MT nD τ sig Unit (Elt Ideal) ℕ (UR sig nD τ) ℕ

variable (m : (ℓ : Loc nD τ sig) → Buf (Elt Ideal) ℓ) (ρ : Dev nD → PrngReg)

/-! ## What each call finds -/

section Boundaries

variable (c : Dev nD)

theorem V1_arg (a : Ref sig .tc) (h : a ∈ argRefs) : V1 m ρ c a = m ((c.tc : Thread nD τ).loc a) := W1_args m ρ c a h

theorem V3_arg (a : Ref sig .tc) (h : a ∈ argRefs) : V3 m ρ c a = m ((c.tc : Thread nD τ).loc a) := W3_args m ρ c a h

theorem V4_arg (a : Ref sig .tc) (h : a ∈ argRefs) : V4 m ρ c a = m ((c.tc : Thread nD τ).loc a) := W4_args m ρ c a h

/-- The block's product of activations, as the first call leaves it. -/
theorem V3_act : V3 m ρ c main_v0 = (dat0 (V0 m ρ) c).arrAt 3 cfg0.N :=
  (W3_of m ρ c main_v0 (by decide)).trans ((W2_of_ne m ρ c main_v0 (by decide)).trans (W1_arr m ρ c 3))

/-- The gradients of the two halves of the first projection, as the second call leaves them, side by side. -/
theorem V4_du : V4 m ρ c main_v2 = (concatenate S2048x5632 1 [⟨S2048x2816, (dat1 (V1 m ρ) c).arrAt 5 cfg1.N⟩, ⟨S2048x2816, (dat1 (V1 m ρ) c).arrAt 6 cfg1.N⟩]
    concatenates_S2048x2816_S2048x2816_S2048x5632_d1 : FVec Ideal S2048x5632 .bf16) := by
  refine (W4_of_ne m ρ c main_v2 (by decide)).trans ?_
  rw [← W2_arr m ρ c 5, ← W2_arr m ρ c 6]
  show StableHlo.after hostOps2 (W2 m ρ c) (Proc.devRef .tc main_v2) = _
  after_results_simp

theorem W5_out : W5 m ρ c (Proc.devRef .tc main_v3) = (dat2 (V3 m ρ) c).arrAt 2 cfg2.N :=
  (W5_of_ne m ρ c main_v3 (by decide)).trans (W4_arr m ρ c 2)

theorem W5_in : W5 m ρ c (Proc.devRef .tc main_v4) = (dat3 (V4 m ρ) c).arrAt 2 cfg3.N := W5_arr m ρ c 2

end Boundaries

/-! ## The launch -/

set_option backward.isDefEq.respectTransparency.types false in
/-- Every run ends with the two gradients as the last two calls leave them, and the arguments as they were. -/
theorem run : θ_run defs (onTc (τ := τ) (main (F := Ideal))) ⟨m, fun _ => 0, ρ⟩ (fun r => ∀ c : Dev nD,
      r.2.mem ((c.tc : Thread nD τ).loc main_v4) = (dat3 (V4 m ρ) c).arrAt 2 cfg3.N
      ∧ r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mod)
            ⊢ BI.own (emb₁ (initOf (Pipeline.cells cfgs cellOf_inj) (Pipeline.launchToks cfgs cellOf_inj))) from .rfl)
        iexact Hu
      iapply (show (BI.emp : sProp Mod) ⊢ bigSep Finset.univ (fun _ : Dev nD => (BI.emp : sProp Mod)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v4 (by decide))).trans (W5_in m ρ c), (h c _ (mem_uc main_v3 (by decide))).trans (W5_out m ρ c),
       (h c _ (mem_uc main_arg0 (by decide))).trans (W5_main_arg0 m ρ c), (h c _ (mem_uc main_arg1 (by decide))).trans (W5_main_arg1 m ρ c),
       (h c _ (mem_uc main_arg2 (by decide))).trans (W5_main_arg2 m ρ c), (h c _ (mem_uc main_arg3 (by decide))).trans (W5_main_arg3 m ρ c)⟩)

end Cert.Ffn

end
-- ==== Proof.FfnValue.lean ====
/-
  The values of the feed-forward block's backward pass: entry by entry, what each call leaves from the arrays it finds.
-/
module

public import proofs.«01_k».proof.Proof.FfnRun
public import Idealize.ShloMosaic.Lib.Pipeline.ValueKit.Geometry

@[expose] public section

set_option maxRecDepth 16384

noncomputable section

namespace Cert.Ffn

open Cert.Kernel2Ideal Cert.Kernel2Ideal.Gen
open Idealize.ShloMosaic Idealize.ShloMosaic.TcCoe Idealize.SL.Sem
open scoped BigOperators

/-- The two halves of the first projection's columns. -/
def lo (n : Fin 2816) : Fin 5632 := ⟨n.val, by omega⟩
def hi (n : Fin 2816) : Fin 5632 := ⟨2816 + n.val, by omega⟩

/-- A row of the input against a row of the first projection's transpose. -/
def proj (h : FVec Ideal S2048x1024 .bf16) (w : FVec Ideal S5632x1024 .bf16) (s : Fin 2048) (n : Fin 5632) : EReal :=
  ∑ k : Fin 1024, h (ix2 s k) * w (ix2 n k)

/-- A row of the output's gradient against a row of the second projection: the gradient of the activations. -/
def dact (d : FVec Ideal S2048x1024 .bf16) (w : FVec Ideal S2816x1024 .bf16) (s : Fin 2048) (n : Fin 2816) : EReal :=
  ∑ k : Fin 1024, d (ix2 s k) * w (ix2 n k)

/-- The activations: the gate through its own logistic, times the other half. -/
def actE (h : FVec Ideal S2048x1024 .bf16) (w : FVec Ideal S5632x1024 .bf16) (s : Fin 2048) (n : Fin 2816) : EReal :=
  proj h w s (lo n) * Ideal.logistic (proj h w s (lo n)) * proj h w s (hi n)

/-- The gate's gradient, in the factored form of the kernel. -/
def gateE (a u d : EReal) : EReal :=
  d * u * (Ideal.logistic a * (1 + a * (1 - Ideal.logistic a)))

/-- The other half's gradient. -/
def upE (a d : EReal) : EReal := d * (a * Ideal.logistic a)

theorem hz : (![0, 0] : Fin 2 → Nat) = fun _ => 0 := funext fun a => by fin_cases a <;> rfl

section Payloads

variable (h d : Vec Ideal S512x1024 .bf16) (g u w : Vec Ideal S1408x1024 .bf16)

/-- Rows `s` and `n` against each other, in a block. -/
def bp (h : Vec Ideal S512x1024 .bf16) (g : Vec Ideal S1408x1024 .bf16) (s : Fin 512) (n : Fin 1408) : EReal := ∑ k : Fin 1024, h (ix2 s k) * g (ix2 n k)

theorem out0_3_at (s : Fin 512) (n : Fin 1408) : out0_3 h g u (ix2 s n) = bp h g s n * Ideal.logistic (bp h g s n) * bp h u s n := by
  unfold out0_3
  rw [View.canon_unit_zero hz, View.ld_unit_zero (S := S512x1024) hz, View.ld_unit_zero (S := S1408x1024) hz, View.ld_unit_zero (S := S1408x1024) hz]
  unfold k0_pay1 bp
  pointwise

theorem out1_5_at (s : Fin 512) (n : Fin 1408) : out1_5 h d g u w (ix2 s n) = gateE (bp h g s n) (bp h u s n) (bp d w s n) := by
  unfold out1_5
  rw [View.canon_unit_zero hz, View.ld_unit_zero (S := S512x1024) hz, View.ld_unit_zero (S := S1408x1024) hz, View.ld_unit_zero (S := S1408x1024) hz,
    View.ld_unit_zero (S := S512x1024) hz, View.ld_unit_zero (S := S1408x1024) hz]
  unfold k1_pay4 k1_pay3 k1_pay2 k1_pay1 gateE bp
  pointwise

theorem out1_6_at (s : Fin 512) (n : Fin 1408) : out1_6 h d g u w (ix2 s n) = upE (bp h g s n) (bp d w s n) := by
  unfold out1_6
  rw [View.canon_unit_zero hz, View.ld_unit_zero (S := S512x1024) hz, View.ld_unit_zero (S := S1408x1024) hz,
    View.ld_unit_zero (S := S512x1024) hz, View.ld_unit_zero (S := S1408x1024) hz]
  unfold k1_pay5 k1_pay3 k1_pay2 k1_pay1 upE bp
  pointwise

end Payloads

theorem out2_eq (c : Dev nD) (i : grid2.Coords) (a3 : Memref sig .tc .vmem S2048x1408 .bf16) (h3 : a3.IsWhole) (a4 : Memref sig .tc .vmem S2048x1024 .bf16)
    (h4 : a4.IsWhole) (a5 : Memref sig .tc .vmem S1408x1024 .bf16) (h5 : a5.IsWhole) (a6 : Memref sig .tc .vmem S8x128 .f32) (h6 : a6.IsWhole)
    (x0 : Vec Ideal S2048x1408 .bf16) (x1 : Vec Ideal S2048x1024 .bf16) : out2_A_2 c i a3 h3 a4 h4 a5 h5 a6 h6 x0 x1 = k2_pay1 x0 x1 := by
  unfold out2_A_2
  rw [View.read_writes_eq_canon _ _ _ (cover2_A_2 c i a3 h3 a4 h4 a5 h5 a6 h6 x0 x1)]
  unfold kernelRun2_A
  dsimp only
  sl_unfold_words
  rw [View.canon_unit_zero hz]
  simp only [View.readAt_eq_ld, h3.read_unread, h4.read_unread, View.ld_unit_zero (S := S2048x1408) hz, View.ld_unit_zero (S := S2048x1024) hz]

theorem out3_eq (c : Dev nD) (i : grid3.Coords) (a3 : Memref sig .tc .vmem S2048x1408 .bf16) (h3 : a3.IsWhole) (a4 : Memref sig .tc .vmem S2048x1024 .bf16)
    (h4 : a4.IsWhole) (a5 : Memref sig .tc .vmem S1408x1024 .bf16) (h5 : a5.IsWhole) (a6 : Memref sig .tc .vmem S8x128 .f32) (h6 : a6.IsWhole)
    (x0 : Vec Ideal S2048x1408 .bf16) (x1 : Vec Ideal S2048x1024 .bf16) : out3_A_2 c i a3 h3 a4 h4 a5 h5 a6 h6 x0 x1 = k3_pay1 x0 x1 := by
  unfold out3_A_2
  rw [View.read_writes_eq_canon _ _ _ (cover3_A_2 c i a3 h3 a4 h4 a5 h5 a6 h6 x0 x1)]
  unfold kernelRun3_A
  dsimp only
  sl_unfold_words
  rw [View.canon_unit_zero hz]
  simp only [View.readAt_eq_ld, h3.read_unread, h4.read_unread, View.ld_unit_zero (S := S2048x1408) hz, View.ld_unit_zero (S := S2048x1024) hz]

theorem pay2_at (x : Vec Ideal S2048x1408 .bf16) (y : Vec Ideal S2048x1024 .bf16) (n : Fin 1408) (k : Fin 1024) :
    k2_pay1 x y (ix2 n k) = ∑ s : Fin 2048, x (ix2 s n) * y (ix2 s k) := by
  unfold k2_pay1; pointwise

theorem pay3_at (x : Vec Ideal S2048x1408 .bf16) (y : Vec Ideal S2048x1024 .bf16) (n : Fin 1408) (k : Fin 1024) :
    k3_pay1 x y (ix2 n k) = ∑ s : Fin 2048, x (ix2 s n) * y (ix2 s k) := by
  unfold k3_pay1; pointwise

/-! ## The blocks -/

theorem at00 : ∀ t : Fin cfg0.N, win0_0.index t = ![t.val % 4, 0] := by decide +kernel
theorem at01 : ∀ t : Fin cfg0.N, win0_1.index t = ![t.val / 4, 0] := by decide +kernel
theorem at02 : ∀ t : Fin cfg0.N, win0_2.index t = ![t.val / 4 + 2, 0] := by decide +kernel
theorem at03 : ∀ t : Fin cfg0.N, win0_3.index t = ![t.val % 4, t.val / 4] := by decide +kernel
theorem at10 : ∀ t : Fin cfg1.N, win1_0.index t = ![t.val % 4, 0] := by decide +kernel
theorem at11 : ∀ t : Fin cfg1.N, win1_1.index t = ![t.val % 4, 0] := by decide +kernel
theorem at12 : ∀ t : Fin cfg1.N, win1_2.index t = ![t.val / 4, 0] := by decide +kernel
theorem at13 : ∀ t : Fin cfg1.N, win1_3.index t = ![t.val / 4 + 2, 0] := by decide +kernel
theorem at14 : ∀ t : Fin cfg1.N, win1_4.index t = ![t.val / 4, 0] := by decide +kernel
theorem at15 : ∀ t : Fin cfg1.N, win1_5.index t = ![t.val % 4, t.val / 4] := by decide +kernel
theorem at16 : ∀ t : Fin cfg1.N, win1_6.index t = ![t.val % 4, t.val / 4] := by decide +kernel
theorem at20 : ∀ t : Fin cfg2.N, win2_0.index t = ![0, t.val] := by decide +kernel
theorem at21 : ∀ t : Fin cfg2.N, win2_1.index t = ![0, 0] := by decide +kernel
theorem at22 : ∀ t : Fin cfg2.N, win2_2.index t = ![t.val, 0] := by decide +kernel
theorem at30 : ∀ t : Fin cfg3.N, win3_0.index t = ![0, t.val] := by decide +kernel
theorem at31 : ∀ t : Fin cfg3.N, win3_1.index t = ![0, 0] := by decide +kernel
theorem at32 : ∀ t : Fin cfg3.N, win3_2.index t = ![t.val, 0] := by decide +kernel

theorem N_lt0 (t : Fin cfg0.N) : t.val < 8 := lt_of_lt_of_eq t.isLt N_0
theorem N_lt1 (t : Fin cfg1.N) : t.val < 8 := lt_of_lt_of_eq t.isLt N_1
theorem N_lt2 (t : Fin cfg2.N) : t.val < 2 := lt_of_lt_of_eq t.isLt N_2
theorem N_lt3 (t : Fin cfg3.N) : t.val < 4 := lt_of_lt_of_eq t.isLt N_3

/-- Row `s` of the row block of point `t`, and column `n` of its column block. -/
def row (t : Nat) (s : Fin 512) : Fin 2048 := ⟨512 * (t % 4) + s.val, by omega⟩
def col (t : Nat) (ht : t < 8) (n : Fin 1408) : Fin 2816 := ⟨1408 * (t / 4) + n.val, by omega⟩
def tile2 (t : Nat) (ht : t < 2) (n : Fin 1408) : Fin 2816 := ⟨1408 * t + n.val, by omega⟩
def tile3 (t : Nat) (ht : t < 4) (n : Fin 1408) : Fin 5632 := ⟨1408 * t + n.val, by omega⟩

variable (V : (c : Dev nD) → (b : Ref sig .tc) → Buf (Elt Ideal) ((c : Thread nD τ).loc b)) (c : Dev nD)

abbrev aH : FVec Ideal S2048x1024 .bf16 := V c main_arg0
abbrev aD : FVec Ideal S2048x1024 .bf16 := V c main_arg1
abbrev aW : FVec Ideal S5632x1024 .bf16 := V c main_arg2
abbrev aO : FVec Ideal S2816x1024 .bf16 := V c main_arg3
abbrev aA : FVec Ideal S2048x2816 .bf16 := V c main_v0
abbrev aU : FVec Ideal S2048x5632 .bf16 := V c main_v2

section First

variable (t : Fin cfg0.N)

theorem blk00 (s : Fin 512) (k : Fin 1024) : (iblk0 V c 0 t : Vec Ideal S512x1024 .bf16) (ix2 s k) = aH V c (ix2 (row t.val s) k) := by
  show V c main_arg0 _ = V c main_arg0 _
  congr 1; refine Shape.idx_ext₂ ?_ ?_ <;> unfold row <;> blk_simp [at00] <;> dsimp only <;> omega

theorem blk01 (n : Fin 1408) (k : Fin 1024) : (iblk0 V c 1 t : Vec Ideal S1408x1024 .bf16) (ix2 n k) = aW V c (ix2 (lo (col t.val (N_lt0 t) n)) k) := by
  show V c main_arg2 _ = V c main_arg2 _
  congr 1; refine Shape.idx_ext₂ ?_ ?_ <;> unfold lo col <;> blk_simp [at01] <;> dsimp only <;> omega

theorem blk02 (n : Fin 1408) (k : Fin 1024) : (iblk0 V c 2 t : Vec Ideal S1408x1024 .bf16) (ix2 n k) = aW V c (ix2 (hi (col t.val (N_lt0 t) n)) k) := by
  show V c main_arg2 _ = V c main_arg2 _
  congr 1; refine Shape.idx_ext₂ ?_ ?_ <;> unfold hi col <;> blk_simp [at02] <;> dsimp only <;> omega

theorem after0_at (s : Fin 512) (n : Fin 1408) :
    ((dat0 V c).after 3 t : Vec Ideal S512x1408 .bf16) (ix2 s n) = actE (aH V c) (aW V c) (row t.val s) (col t.val (N_lt0 t) n) := by
  rw [after0_3, out0_3_at]
  unfold actE proj bp
  simp only [blk00, blk01, blk02]

/-- The activations, after the first call. -/
theorem arr0 : (dat0 V c).arrAt 3 cfg0.N = (fun i => actE (aH V c) (aW V c) (i 0) (i 1) : FVec Ideal S2048x2816 .bf16) := by
  refine (dat0 V c).arrAt_eq_of_covers 3 _ (by decide +kernel) fun t hf y => ?_
  have h0 : (y 0).val < 512 := (y 0).isLt
  have h1 : (y 1).val < 1408 := (y 1).isLt
  refine Eq.trans ?_ ((after0_at V c t (y 0) (y 1)).trans ?_)
  · blk_simp; congr 1; idx_ext
  congr 1
  · refine Fin.ext ?_; unfold row; blk_simp [at03]; dsimp only; omega
  · refine Fin.ext ?_; unfold col; blk_simp [at03]; dsimp only; omega

end First

section Second

variable (t : Fin cfg1.N)

theorem blk10 (s : Fin 512) (k : Fin 1024) : (iblk1 V c 0 t : Vec Ideal S512x1024 .bf16) (ix2 s k) = aH V c (ix2 (row t.val s) k) := by
  show V c main_arg0 _ = V c main_arg0 _
  congr 1; refine Shape.idx_ext₂ ?_ ?_ <;> unfold row <;> blk_simp [at10] <;> dsimp only <;> omega

theorem blk11 (s : Fin 512) (k : Fin 1024) : (iblk1 V c 1 t : Vec Ideal S512x1024 .bf16) (ix2 s k) = aD V c (ix2 (row t.val s) k) := by
  show V c main_arg1 _ = V c main_arg1 _
  congr 1; refine Shape.idx_ext₂ ?_ ?_ <;> unfold row <;> blk_simp [at11] <;> dsimp only <;> omega

theorem blk12 (n : Fin 1408) (k : Fin 1024) : (iblk1 V c 2 t : Vec Ideal S1408x1024 .bf16) (ix2 n k) = aW V c (ix2 (lo (col t.val (N_lt1 t) n)) k) := by
  show V c main_arg2 _ = V c main_arg2 _
  congr 1; refine Shape.idx_ext₂ ?_ ?_ <;> unfold lo col <;> blk_simp [at12] <;> dsimp only <;> omega

theorem blk13 (n : Fin 1408) (k : Fin 1024) : (iblk1 V c 3 t : Vec Ideal S1408x1024 .bf16) (ix2 n k) = aW V c (ix2 (hi (col t.val (N_lt1 t) n)) k) := by
  show V c main_arg2 _ = V c main_arg2 _
  congr 1; refine Shape.idx_ext₂ ?_ ?_ <;> unfold hi col <;> blk_simp [at13] <;> dsimp only <;> omega

theorem blk14 (n : Fin 1408) (k : Fin 1024) : (iblk1 V c 4 t : Vec Ideal S1408x1024 .bf16) (ix2 n k) = aO V c (ix2 (col t.val (N_lt1 t) n) k) := by
  show V c main_arg3 _ = V c main_arg3 _
  congr 1; refine Shape.idx_ext₂ ?_ ?_ <;> unfold col <;> blk_simp [at14] <;> dsimp only <;> omega

/-- The gradients of the two halves at a row and a column. -/
def dgate (h d : FVec Ideal S2048x1024 .bf16) (w : FVec Ideal S5632x1024 .bf16) (o : FVec Ideal S2816x1024 .bf16) (s : Fin 2048) (n : Fin 2816) : EReal :=
  gateE (proj h w s (lo n)) (proj h w s (hi n)) (dact d o s n)

def dup (h d : FVec Ideal S2048x1024 .bf16) (w : FVec Ideal S5632x1024 .bf16) (o : FVec Ideal S2816x1024 .bf16) (s : Fin 2048) (n : Fin 2816) : EReal :=
  upE (proj h w s (lo n)) (dact d o s n)

theorem after5_at (s : Fin 512) (n : Fin 1408) : ((dat1 V c).after 5 t : Vec Ideal S512x1408 .bf16) (ix2 s n)
    = dgate (aH V c) (aD V c) (aW V c) (aO V c) (row t.val s) (col t.val (N_lt1 t) n) := by
  rw [after1_5, out1_5_at]
  unfold dgate proj dact bp
  simp only [blk10, blk11, blk12, blk13, blk14]

theorem after6_at (s : Fin 512) (n : Fin 1408) : ((dat1 V c).after 6 t : Vec Ideal S512x1408 .bf16) (ix2 s n)
    = dup (aH V c) (aD V c) (aW V c) (aO V c) (row t.val s) (col t.val (N_lt1 t) n) := by
  rw [after1_6, out1_6_at]
  unfold dup proj dact bp
  simp only [blk10, blk11, blk12, blk14]

/-- The two gradients, after the second call. -/
theorem arr5 : (dat1 V c).arrAt 5 cfg1.N = (fun i => dgate (aH V c) (aD V c) (aW V c) (aO V c) (i 0) (i 1) : FVec Ideal S2048x2816 .bf16) := by
  refine (dat1 V c).arrAt_eq_of_covers 5 _ (by decide +kernel) fun t hf y => ?_
  have h0 : (y 0).val < 512 := (y 0).isLt
  have h1 : (y 1).val < 1408 := (y 1).isLt
  refine Eq.trans ?_ ((after5_at V c t (y 0) (y 1)).trans ?_)
  · blk_simp; congr 1; idx_ext
  congr 1
  · refine Fin.ext ?_; unfold row; blk_simp [at15]; dsimp only; omega
  · refine Fin.ext ?_; unfold col; blk_simp [at15]; dsimp only; omega

theorem arr6 : (dat1 V c).arrAt 6 cfg1.N = (fun i => dup (aH V c) (aD V c) (aW V c) (aO V c) (i 0) (i 1) : FVec Ideal S2048x2816 .bf16) := by
  refine (dat1 V c).arrAt_eq_of_covers 6 _ (by decide +kernel) fun t hf y => ?_
  have h0 : (y 0).val < 512 := (y 0).isLt
  have h1 : (y 1).val < 1408 := (y 1).isLt
  refine Eq.trans ?_ ((after6_at V c t (y 0) (y 1)).trans ?_)
  · blk_simp; congr 1; idx_ext
  congr 1
  · refine Fin.ext ?_; unfold row; blk_simp [at16]; dsimp only; omega
  · refine Fin.ext ?_; unfold col; blk_simp [at16]; dsimp only; omega

end Second

section Weights

/-- Over the rows: a column of the activations and a column of the output's gradient. -/
def outE (a : FVec Ideal S2048x2816 .bf16) (d : FVec Ideal S2048x1024 .bf16) (n : Fin 2816) (k : Fin 1024) : EReal := ∑ s : Fin 2048, a (ix2 s n) * d (ix2 s k)

/-- Over the rows: a column of the projection's gradient and a column of the input. -/
def inE (u : FVec Ideal S2048x5632 .bf16) (h : FVec Ideal S2048x1024 .bf16) (n : Fin 5632) (k : Fin 1024) : EReal := ∑ s : Fin 2048, u (ix2 s n) * h (ix2 s k)

theorem blk20 (t : Fin cfg2.N) (s : Fin 2048) (n : Fin 1408) : (iblk2 V c 0 t : Vec Ideal S2048x1408 .bf16) (ix2 s n) = aA V c (ix2 s (tile2 t.val (N_lt2 t) n)) := by
  show V c main_v0 _ = V c main_v0 _
  congr 1; refine Shape.idx_ext₂ ?_ ?_ <;> unfold tile2 <;> blk_simp [at20] <;> dsimp only <;> omega

theorem blk21 (t : Fin cfg2.N) (s : Fin 2048) (k : Fin 1024) : (iblk2 V c 1 t : Vec Ideal S2048x1024 .bf16) (ix2 s k) = aD V c (ix2 s k) := by
  show V c main_arg1 _ = V c main_arg1 _
  congr 1; refine Shape.idx_ext₂ ?_ ?_ <;> blk_simp [at21]

theorem blk30 (t : Fin cfg3.N) (s : Fin 2048) (n : Fin 1408) : (iblk3 V c 0 t : Vec Ideal S2048x1408 .bf16) (ix2 s n) = aU V c (ix2 s (tile3 t.val (N_lt3 t) n)) := by
  show V c main_v2 _ = V c main_v2 _
  congr 1; refine Shape.idx_ext₂ ?_ ?_ <;> unfold tile3 <;> blk_simp [at30] <;> dsimp only <;> omega

theorem blk31 (t : Fin cfg3.N) (s : Fin 2048) (k : Fin 1024) : (iblk3 V c 1 t : Vec Ideal S2048x1024 .bf16) (ix2 s k) = aH V c (ix2 s k) := by
  show V c main_arg0 _ = V c main_arg0 _
  congr 1; refine Shape.idx_ext₂ ?_ ?_ <;> blk_simp [at31]

theorem after2_at (t : Fin cfg2.N) (n : Fin 1408) (k : Fin 1024) : ((dat2 V c).after 2 t : Vec Ideal S1408x1024 .bf16) (ix2 n k)
    = outE (aA V c) (aD V c) (tile2 t.val (N_lt2 t) n) k := by
  have e : (dat2 V c).after 2 t = k2_pay1 (iblk2 V c 0 t) (iblk2 V c 1 t) := by rw [after2_2, outsAt2, out2_eq]
  exact (congrFun e _).trans ((pay2_at _ _ n k).trans (Finset.sum_congr rfl fun s _ => by rw [blk20, blk21]))

theorem after3_at (t : Fin cfg3.N) (n : Fin 1408) (k : Fin 1024) : ((dat3 V c).after 2 t : Vec Ideal S1408x1024 .bf16) (ix2 n k)
    = inE (aU V c) (aH V c) (tile3 t.val (N_lt3 t) n) k := by
  have e : (dat3 V c).after 2 t = k3_pay1 (iblk3 V c 0 t) (iblk3 V c 1 t) := by rw [after3_2, outsAt3, out3_eq]
  exact (congrFun e _).trans ((pay3_at _ _ n k).trans (Finset.sum_congr rfl fun s _ => by rw [blk30, blk31]))

/-- The second projection's gradient, after the third call. -/
theorem arr2 : (dat2 V c).arrAt 2 cfg2.N = (fun i => outE (aA V c) (aD V c) (i 0) (i 1) : FVec Ideal S2816x1024 .bf16) := by
  refine (dat2 V c).arrAt_eq_of_covers 2 _ (by decide +kernel) fun t hf y => ?_
  have h0 : (y 0).val < 1408 := (y 0).isLt
  refine Eq.trans ?_ ((after2_at V c t (y 0) (y 1)).trans ?_)
  · blk_simp; congr 1; idx_ext
  congr 1
  · refine Fin.ext ?_; unfold tile2; blk_simp [at22]; dsimp only; omega
  · refine Fin.ext ?_; blk_simp [at22]

/-- The first projection's gradient, after the fourth call. -/
theorem arr3 : (dat3 V c).arrAt 2 cfg3.N = (fun i => inE (aU V c) (aH V c) (i 0) (i 1) : FVec Ideal S5632x1024 .bf16) := by
  refine (dat3 V c).arrAt_eq_of_covers 2 _ (by decide +kernel) fun t hf y => ?_
  have h0 : (y 0).val < 1408 := (y 0).isLt
  refine Eq.trans ?_ ((after3_at V c t (y 0) (y 1)).trans ?_)
  · blk_simp; congr 1; idx_ext
  congr 1
  · refine Fin.ext ?_; unfold tile3; blk_simp [at32]; dsimp only; omega
  · refine Fin.ext ?_; blk_simp [at32]

end Weights

end Cert.Ffn

end
-- ==== Proof.FfnReference.lean ====
/-
  The feed-forward block's two weight gradients as the reference takes them, entry by entry; on real arguments they are the kernel's.
-/
module

public import proofs.«01_k».proof.Proof.FfnValue
public import proofs.«01_k».proof.Proof.Finite
public import proofs.«01_k».proof.Proof.Gen.Reference2Ideal.Run

@[expose] public section

set_option maxRecDepth 16384

noncomputable section

namespace Cert.Ffn

open Cert.Reference2Ideal Cert.Reference2Ideal.Facts₀
open Idealize.ShloMosaic Idealize.SL.Sem
open scoped BigOperators

section Terms

variable (h d : FVec Ideal S2048x1024 .bf16) (w : FVec Ideal S5632x1024 .bf16) (o : FVec Ideal S2816x1024 .bf16)

/-- The first projection. -/
def rProj : FVec Ideal S2048x5632 .f32 :=
  Host.dotGeneral dot_S2048x1024_S1024x5632_S2048x5632_1_0_0_1_n_n none (extf .f32 h bitsLt_bf16_f32)
    (transpose S1024x5632 [1, 0] (extf .f32 w bitsLt_bf16_f32) transposes_S5632x1024_S1024x5632_1_0)

/-- Its two halves. -/
def rGate : FVec Ideal S2048x2816 .f32 := extractStridedSlice S2048x2816 ![0, 0] (rProj h w) slices_S2048x5632_S2048x2816_0_0
def rUp : FVec Ideal S2048x2816 .f32 := extractStridedSlice S2048x2816 ![0, 2816] (rProj h w) slices_S2048x5632_S2048x2816_0_2816

def rOne : FVec Ideal S2048x2816 .f32 := broadcastInDim S2048x2816 ![] bcast_S_S2048x2816 (constant S_ .f32 0x3F800000#32)

/-- The gate's logistic, the gate through it, and the gradient of the activations. -/
def rSig : FVec Ideal S2048x2816 .f32 := Host.divf rOne (addf rOne (Host.exp (Host.negf (rGate h w))))
def rSilu : FVec Ideal S2048x2816 .f32 := mulf (rGate h w) (rSig h w)
def rDact : FVec Ideal S2048x2816 .f32 :=
  Host.dotGeneral dot_S2048x1024_S2816x1024_S2048x2816_1_1_0_0_n_n none (extf .f32 d bitsLt_bf16_f32) (extf .f32 o bitsLt_bf16_f32)

/-- The gradients of the two halves. -/
def rDgate : FVec Ideal S2048x2816 .f32 :=
  addf (mulf (mulf (rDact d o) (rUp h w)) (rSig h w)) (mulf (mulf (rGate h w) (mulf (rDact d o) (rUp h w))) (mulf (rSig h w) (subf rOne (rSig h w))))
def rDup : FVec Ideal S2048x2816 .f32 := mulf (rSilu h w) (rDact d o)

def rIn : FVec Ideal S5632x1024 .bf16 :=
  truncf .bf16 (transpose S5632x1024 [1, 0] (transpose S1024x5632 [1, 0] (Host.dotGeneral dot_S2048x5632_S2048x1024_S5632x1024_0_0_1_1_n_n none
    (concatenate S2048x5632 1 [⟨S2048x2816, rDgate h d w o⟩, ⟨S2048x2816, rDup h d w o⟩] concatenates_S2048x2816_S2048x2816_S2048x5632_d1)
    (extf .f32 h bitsLt_bf16_f32)) transposes_S5632x1024_S1024x5632_1_0) transposes_S1024x5632_S5632x1024_1_0) bitsLt_bf16_f32

def rOut : FVec Ideal S2816x1024 .bf16 :=
  truncf .bf16 (transpose S2816x1024 [1, 0] (Host.dotGeneral dot_S2048x1024_S2048x2816_S1024x2816_0_0_1_1_n_n none (extf .f32 d bitsLt_bf16_f32)
    (mulf (rSilu h w) (rUp h w))) transposes_S1024x2816_S2816x1024_1_0) bitsLt_bf16_f32

theorem rProj_at (s : Fin 2048) (n : Fin 5632) : rProj h w (ix2 s n) = proj h w s n := by
  unfold rProj proj; pointwise

theorem rGate_at (s : Fin 2048) (n : Fin 2816) : rGate h w (ix2 s n) = proj h w s (lo n) := by
  refine Eq.trans ?_ (rProj_at h w s (lo n))
  unfold rGate lo; pointwise

theorem rUp_at (s : Fin 2048) (n : Fin 2816) : rUp h w (ix2 s n) = proj h w s (hi n) := by
  refine Eq.trans ?_ (rProj_at h w s (hi n))
  unfold rUp hi; pointwise

theorem rOne_at (s : Fin 2048) (n : Fin 2816) : rOne (ix2 s n) = 1 := by
  unfold rOne; pointwise

theorem rSig_at (s : Fin 2048) (n : Fin 2816) : rSig h w (ix2 s n) = Ideal.logistic (proj h w s (lo n)) := by
  unfold rSig; pointwise [rOne_at, rGate_at]; rfl

theorem rDact_at (s : Fin 2048) (n : Fin 2816) : rDact d o (ix2 s n) = dact d o s n := by
  unfold rDact dact; pointwise

theorem rSilu_at (s : Fin 2048) (n : Fin 2816) : rSilu h w (ix2 s n) = proj h w s (lo n) * Ideal.logistic (proj h w s (lo n)) := by
  unfold rSilu; pointwise [rSig_at, rGate_at]

theorem rDup_at (s : Fin 2048) (n : Fin 2816) : rDup h d w o (ix2 s n) = dup h d w o s n := by
  unfold rDup dup upE; pointwise [rSilu_at, rDact_at]; exact mul_comm _ _

/-- The gate's gradient as the rule of the logistic's derivative gives it. -/
theorem rDgate_at (s : Fin 2048) (n : Fin 2816) : rDgate h d w o (ix2 s n)
    = dact d o s n * proj h w s (hi n) * Ideal.logistic (proj h w s (lo n))
      + proj h w s (lo n) * (dact d o s n * proj h w s (hi n)) * (Ideal.logistic (proj h w s (lo n)) * (1 - Ideal.logistic (proj h w s (lo n)))) := by
  unfold rDgate; pointwise [rDact_at, rUp_at, rSig_at, rGate_at, rOne_at]

theorem rOut_at (n : Fin 2816) (k : Fin 1024) : rOut h d w (ix2 n k) = outE (fun i => actE h w (i 0) (i 1)) d n k := by
  unfold rOut outE actE; pointwise [rSilu_at, rUp_at]
  exact Finset.sum_congr rfl fun s _ => mul_comm _ _

theorem rIn_at (u : FVec Ideal S2048x5632 .bf16)
    (hu : (concatenate S2048x5632 1 [⟨S2048x2816, rDgate h d w o⟩, ⟨S2048x2816, rDup h d w o⟩] concatenates_S2048x2816_S2048x2816_S2048x5632_d1
      : FVec Ideal S2048x5632 .f32) = u) (n : Fin 5632) (k : Fin 1024) : rIn h d w o (ix2 n k) = inE u h n k := by
  unfold rIn inE; rw [hu]; pointwise

end Terms

/-! ## On real arguments -/

/-- The logistic of a real number. -/
def sr (a : ℝ) : ℝ := 1 / (1 + Real.exp (-a))

theorem logistic_real (a : ℝ) : Ideal.logistic (a : EReal) = (sr a : EReal) := by
  have hp : (1 + Real.exp (-a) : ℝ) ≠ 0 := by positivity
  show Ideal.div 1 (1 + Ideal.exp (-(a : EReal))) = _
  rw [← EReal.coe_neg, Ideal.exp_coe, ← EReal.coe_one, ← EReal.coe_add, AttnBwd.div_real _ hp]
  rfl

/-- On real numbers, the rule of the logistic's derivative and the factored form agree. -/
theorem gate_real (a u d : ℝ) : (d : EReal) * u * Ideal.logistic a + a * (d * u) * (Ideal.logistic a * (1 - Ideal.logistic a)) = gateE a u d := by
  unfold gateE
  rw [logistic_real]
  simp only [← EReal.coe_one, ← EReal.coe_mul, ← EReal.coe_add, ← EReal.coe_sub]
  congr 1; ring

/-- Arguments all of whose entries are real. -/
def AllReal {S : Shape} {φ : FTy} (x : FVec Ideal S φ) : Prop := ∀ i, ∃ r : ℝ, x i = (r : EReal)

theorem sum_mul_real {N : Nat} {f g : Fin N → EReal} (hf : ∀ k, ∃ r : ℝ, f k = (r : EReal)) (hg : ∀ k, ∃ r : ℝ, g k = (r : EReal)) :
    ∃ r : ℝ, ∑ k : Fin N, f k * g k = (r : EReal) := by
  choose a ha using hf
  choose b hb using hg
  exact ⟨∑ k, a k * b k, by simp only [ha, hb, ← EReal.coe_mul]; exact AttnBwd.coe_sum _ _⟩

section Agree

variable {h d : FVec Ideal S2048x1024 .bf16} {w : FVec Ideal S5632x1024 .bf16} {o : FVec Ideal S2816x1024 .bf16}

theorem rDgate_eq (hh : AllReal h) (hd : AllReal d) (hw : AllReal w) (ho : AllReal o) :
    rDgate h d w o = fun i => dgate h d w o (i 0) (i 1) := by
  funext i
  have e : i = ix2 (i 0) (i 1) := Shape.idx_ext₂ rfl rfl
  refine (congrArg (rDgate h d w o) e).trans ((rDgate_at h d w o (i 0) (i 1)).trans ?_)
  obtain ⟨a, ha⟩ := sum_mul_real (f := fun k : Fin 1024 => h (ix2 (i 0) k)) (g := fun k => w (ix2 (lo (i 1)) k)) (fun _ => hh _) (fun _ => hw _)
  obtain ⟨u, hu⟩ := sum_mul_real (f := fun k : Fin 1024 => h (ix2 (i 0) k)) (g := fun k => w (ix2 (hi (i 1)) k)) (fun _ => hh _) (fun _ => hw _)
  obtain ⟨v, hv⟩ := sum_mul_real (f := fun k : Fin 1024 => d (ix2 (i 0) k)) (g := fun k => o (ix2 (i 1) k)) (fun _ => hd _) (fun _ => ho _)
  show _ = dgate h d w o (i 0) (i 1)
  unfold dgate proj dact
  rw [ha, hu, hv]
  exact gate_real a u v

theorem rDup_eq : rDup h d w o = fun i => dup h d w o (i 0) (i 1) := by
  funext i
  have e : i = ix2 (i 0) (i 1) := Shape.idx_ext₂ rfl rfl
  rw [e]; exact rDup_at h d w o _ _

end Agree

/-! ## The two results -/

/-- The gradients of the two halves side by side. -/
def du (h d : FVec Ideal S2048x1024 .bf16) (w : FVec Ideal S5632x1024 .bf16) (o : FVec Ideal S2816x1024 .bf16) : FVec Ideal S2048x5632 .bf16 :=
  concatenate S2048x5632 1 [⟨S2048x2816, fun i => dgate h d w o (i 0) (i 1)⟩, ⟨S2048x2816, fun i => dup h d w o (i 0) (i 1)⟩]
    concatenates_S2048x2816_S2048x2816_S2048x5632_d1

def gradIn (h d : FVec Ideal S2048x1024 .bf16) (w : FVec Ideal S5632x1024 .bf16) (o : FVec Ideal S2816x1024 .bf16) : FVec Ideal S5632x1024 .bf16 :=
  fun i => inE (du h d w o) h (i 0) (i 1)

def gradOut (h d : FVec Ideal S2048x1024 .bf16) (w : FVec Ideal S5632x1024 .bf16) : FVec Ideal S2816x1024 .bf16 :=
  fun i => outE (fun i => actE h w (i 0) (i 1)) d (i 0) (i 1)

theorem rIn_eq {h d : FVec Ideal S2048x1024 .bf16} {w : FVec Ideal S5632x1024 .bf16} {o : FVec Ideal S2816x1024 .bf16}
    (hh : AllReal h) (hd : AllReal d) (hw : AllReal w) (ho : AllReal o) : rIn h d w o = gradIn h d w o := by
  funext i
  have e : i = ix2 (i 0) (i 1) := Shape.idx_ext₂ rfl rfl
  rw [e]
  exact rIn_at h d w o (du h d w o) (by rw [rDgate_eq hh hd hw ho, rDup_eq]; rfl) _ _

theorem rOut_eq (h d : FVec Ideal S2048x1024 .bf16) (w : FVec Ideal S5632x1024 .bf16) : rOut h d w = gradOut h d w := by
  funext i
  have e : i = ix2 (i 0) (i 1) := Shape.idx_ext₂ rfl rfl
  rw [e]; exact rOut_at h d w _ _

section Launched

open Cert.Kernel2Ideal Cert.Kernel2Ideal.Gen Idealize.ShloMosaic.TcCoe

variable (m : (ℓ : Loc Kernel2Ideal.nD Kernel2Ideal.τ Kernel2Ideal.sig) → Buf (Elt Ideal) ℓ) (ρ : Dev Kernel2Ideal.nD → PrngReg) (c : Dev Kernel2Ideal.nD)

abbrev mH : FVec Ideal Kernel2Ideal.S2048x1024 .bf16 := m ((c.tc : Thread Kernel2Ideal.nD Kernel2Ideal.τ).loc Kernel2Ideal.main_arg0)
abbrev mD : FVec Ideal Kernel2Ideal.S2048x1024 .bf16 := m ((c.tc : Thread Kernel2Ideal.nD Kernel2Ideal.τ).loc Kernel2Ideal.main_arg1)
abbrev mW : FVec Ideal Kernel2Ideal.S5632x1024 .bf16 := m ((c.tc : Thread Kernel2Ideal.nD Kernel2Ideal.τ).loc Kernel2Ideal.main_arg2)
abbrev mO : FVec Ideal Kernel2Ideal.S2816x1024 .bf16 := m ((c.tc : Thread Kernel2Ideal.nD Kernel2Ideal.τ).loc Kernel2Ideal.main_arg3)

theorem kernel_out : (dat2 (V3 m ρ) c).arrAt 2 cfg2.N = gradOut (mH m c) (mD m c) (mW m c) := by
  rw [arr2]
  unfold gradOut
  rw [show aA (V3 m ρ) c = _ from V3_act m ρ c, arr0, show aD (V3 m ρ) c = mD m c from V3_arg m ρ c Kernel2Ideal.main_arg1 (by decide)]

theorem kernel_in : (dat3 (V4 m ρ) c).arrAt 2 cfg3.N = gradIn (mH m c) (mD m c) (mW m c) (mO m c) := by
  rw [arr3]
  unfold gradIn du
  rw [show aU (V4 m ρ) c = _ from V4_du m ρ c, arr5, arr6, show aH (V4 m ρ) c = mH m c from V4_arg m ρ c Kernel2Ideal.main_arg0 (by decide),
    show aH (V1 m ρ) c = mH m c from V1_arg m ρ c Kernel2Ideal.main_arg0 (by decide), show aD (V1 m ρ) c = mD m c from V1_arg m ρ c Kernel2Ideal.main_arg1 (by decide),
    show aW (V1 m ρ) c = mW m c from V1_arg m ρ c Kernel2Ideal.main_arg2 (by decide), show aO (V1 m ρ) c = mO m c from V1_arg m ρ c Kernel2Ideal.main_arg3 (by decide)]

end Launched

end Cert.Ffn

end
-- ==== Proof.Ffn.lean ====
/-
  The feed-forward block's backward pass: it runs, and on finite arguments its two results are, over the reals, the gradients that the
  reference returns.
-/
module

public import proofs.«01_k».proof.Defs
public import proofs.«01_k».proof.Proof.FfnReference
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import Idealize.ShloMosaic.Adequacy
public import Idealize.ShloMosaic.Init

@[expose] public section

noncomputable section

namespace Cert.Ffn

open Idealize.ShloMosaic Idealize.SL.Sem

instance finiteFacts : Cert.Pre_finite2.Facts where
  bitsLt_bf16_f32 := by decide
  bcast_S_S2048x1024 := by decide
  bcast_S_S5632x1024 := by decide
  bcast_S_S2816x1024 := by decide

theorem frame_kernel : Cert.quiescent_Kernel2 (hKernel2 := Cert.Kernel2.Gen.facts) := fun m g _ => Cert.Kernel2.Gen.frame m g

theorem frame_kernelIdeal : Cert.quiescent_Kernel2Ideal (hKernel2Ideal := Cert.Kernel2Ideal.Gen.facts) := fun m g _ => Cert.Kernel2Ideal.Gen.frame m g

theorem frame_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal_pre_finite2 (hKernel2Ideal := Cert.Kernel2Ideal.Gen.facts)
    (hReference2Ideal := Cert.Reference2Ideal.Gen.facts) (hPre_finite2 := finiteFacts) := by
  intro m g m' g' hpre hargs
  refine ⟨fun c => gradIn (mH m c) (mD m c) (mW m c) (mO m c), fun c => gradOut (mH m c) (mD m c) (mW m c),
    (θ_run Cert.Kernel2Ideal.defs _ _).mono (fun r h c => ⟨(h c).1.trans (kernel_in m g c), (h c).2.1.trans (kernel_out m g c), (h c).2.2⟩) (run m g),
    (θ_run Cert.Reference2Ideal.defs _ _).mono (fun r h c => ?_) (Cert.Reference2Ideal.Value.run (F := Ideal) m' g')⟩
  obtain ⟨p0, p1, p2, p3⟩ := hpre c
  have hH : AllReal (mH m c) := fun i => AttnBwd.real_of_lt (congrFun p0 i)
  have hD : AllReal (mD m c) := fun i => AttnBwd.real_of_lt (congrFun p1 i)
  have hW : AllReal (mW m c) := fun i => AttnBwd.real_of_lt (congrFun p2 i)
  have hO : AllReal (mO m c) := fun i => AttnBwd.real_of_lt (congrFun p3 i)
  obtain ⟨e0, e1, e2, e3⟩ := hargs c
  obtain ⟨h0, h1, ha⟩ := h c
  refine ⟨h0.trans ?_, h1.trans ?_, ha⟩
  · refine Eq.trans ?_ (rIn_eq hH hD hW hO)
    unfold Cert.Reference2Ideal.Value.res_main_v22
    rw [e0, e1, e2, e3]
    rfl
  · refine Eq.trans ?_ (rOut_eq (mH m c) (mD m c) (mW m c))
    rw [e0, e1, e2]
    rfl

end Cert.Ffn

end
-- ==== Proof.DgradFfn.lean ====
/-
  The gradient through the feed-forward layer's first product: over two blocks of its columns the kernel adds up each entry of the product's
  gradient times each entry of the weight, as the reference does in one sum.
-/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Geometry

@[expose] public section

noncomputable section

namespace Cert.DgradFfn

open Cert.Kernel3Ideal Cert.Kernel3Ideal.Gen
open Idealize.ShloMosaic Idealize.ShloMosaic.TcCoe Idealize.SL.Sem
open scoped BigOperators

/-- The product of a row of the product's gradient and a column of the weight. -/
def over (x : FVec Ideal S2048x5632 .bf16) (w : FVec Ideal S5632x1024 .bf16) (t : Fin 2048) (k : Fin 1024) : EReal :=
  ∑ n : Fin 5632, x (ix2 t n) * w (ix2 n k)

/-- The gradient from the product's gradient and the weight. -/
def grad (x : FVec Ideal S2048x5632 .bf16) (w : FVec Ideal S5632x1024 .bf16) : FVec Ideal S2048x1024 .f32 := fun i => over x w (i 0) (i 1)

/-! ## The body, on whole buffers -/

theorem hz : (![0, 0] : Fin 2 → Nat) = fun _ => 0 := funext fun a => by fin_cases a <;> rfl

/-- The first step over the columns leaves its product in the running sum. -/
theorem first (c : Dev nD) (i : grid0.Coords) (a3 : Memref sig .tc .vmem S1024x2816 .bf16) (w3 : a3.IsWhole) (a4 : Memref sig .tc .vmem S2816x1024 .bf16)
    (w4 : a4.IsWhole) (a5 : Memref sig .tc .vmem S1024x1024 .f32) (w5 : a5.IsWhole) (a6 : Memref sig .tc .vmem S1024x1024 .f32) (w6 : a6.IsWhole) (h0 : cond0_0 i) (h1 : ¬cond0_1 i) (h2 : ¬cond0_2 i)
    (x : Vec Ideal S1024x2816 .bf16) (w : Vec Ideal S2816x1024 .bf16) : sout0_A_0 c i a3 w3 a4 w4 a5 w5 a6 w6 h0 h1 h2 x w = k0_pay2 x w := by
  unfold sout0_A_0
  rw [View.read_writes_eq_canon _ _ _ (scover0_A_0 c i a3 w3 a4 w4 a5 w5 a6 w6 h0 h1 h2 x w)]
  unfold kernelRun0_A
  dsimp only
  sl_unfold_words
  rw [View.canon_unit_zero hz]
  simp only [View.readAt_eq_ld, w3.read_unread, w4.read_unread, w6.read_unread, View.ld_unit_zero (S := S1024x2816) hz, View.ld_unit_zero (S := S2816x1024) hz, View.ld_unit_zero (S := S1024x1024) hz]

/-- The last step writes the sum out. -/
theorem last (c : Dev nD) (i : grid0.Coords) (a3 : Memref sig .tc .vmem S1024x2816 .bf16) (w3 : a3.IsWhole) (a4 : Memref sig .tc .vmem S2816x1024 .bf16)
    (w4 : a4.IsWhole) (a5 : Memref sig .tc .vmem S1024x1024 .f32) (w5 : a5.IsWhole) (a6 : Memref sig .tc .vmem S1024x1024 .f32) (w6 : a6.IsWhole) (h0 : ¬cond0_0 i) (h1 : cond0_1 i) (h2 : cond0_2 i)
    (x : Vec Ideal S1024x2816 .bf16) (w : Vec Ideal S2816x1024 .bf16) (s : Vec Ideal S1024x1024 .f32) : out0_B_2 c i a3 w3 a4 w4 a5 w5 a6 w6 h0 h1 h2 x w s = k0_pay3 x w s := by
  unfold out0_B_2
  rw [View.read_writes_eq_canon _ _ _ (cover0_B_2 c i a3 w3 a4 w4 a5 w5 a6 w6 h0 h1 h2 x w s)]
  unfold kernelRun0_B
  dsimp only
  sl_unfold_words
  rw [View.canon_unit_zero hz, View.readCov_unit_zero (S := S1024x1024) _ hz]
  simp only [View.readAt_eq_ld, w3.read_unread, w4.read_unread, w6.read_unread, View.ld_unit_zero (S := S1024x2816) hz, View.ld_unit_zero (S := S2816x1024) hz, View.ld_unit_zero (S := S1024x1024) hz]

/-- One step's product. -/
def prod (x : Vec Ideal S1024x2816 .bf16) (w : Vec Ideal S2816x1024 .bf16) (r k : Fin 1024) : EReal := ∑ n : Fin 2816, x (ix2 r n) * w (ix2 n k)

theorem pay2_at (x : Vec Ideal S1024x2816 .bf16) (w : Vec Ideal S2816x1024 .bf16) (r k : Fin 1024) : k0_pay2 x w (ix2 r k) = prod x w r k := by
  unfold k0_pay2 k0_pay1 prod; pointwise

theorem pay3_at (x : Vec Ideal S1024x2816 .bf16) (w : Vec Ideal S2816x1024 .bf16) (s : Vec Ideal S1024x1024 .f32) (r k : Fin 1024) :
    k0_pay3 x w s (ix2 r k) = s (ix2 r k) + prod x w r k := by
  unfold k0_pay3 k0_pay1 prod; pointwise

/-! ## The grid -/

theorem at0 : ∀ t : Fin cfg0.N, win0_0.index t = ![t.val / 2, t.val % 2] := by decide +kernel
theorem at1 : ∀ t : Fin cfg0.N, win0_1.index t = ![t.val % 2, 0] := by decide +kernel
theorem at2 : ∀ t : Fin cfg0.N, win0_2.index t = ![t.val / 2, 0] := by decide +kernel

variable (m : (ℓ : Loc nD τ sig) → Buf (Elt Ideal) ℓ) (ρ : Dev nD → PrngReg) (c : Dev nD)

abbrev argX : FVec Ideal S2048x5632 .bf16 := m ((c.tc : Thread nD τ).loc main_arg0)
abbrev argW : FVec Ideal S5632x1024 .bf16 := m ((c.tc : Thread nD τ).loc main_arg1)

/-- Step `g` of row block `b`. -/
def pt (b : Fin 2) (g : Fin 2) : Fin cfg0.N := ⟨2 * b.val + g.val, lt_of_lt_of_eq (show 2 * b.val + g.val < 4 by omega) N_0.symm⟩

/-- Row `r` of block `b`, and column `n` of block `g`. -/
def row (b : Fin 2) (r : Fin 1024) : Fin 2048 := ⟨1024 * b.val + r.val, by omega⟩
def col (g : Fin 2) (n : Fin 2816) : Fin 5632 := ⟨2816 * g.val + n.val, by omega⟩

theorem blk0 (b : Fin 2) (g : Fin 2) (r : Fin 1024) (n : Fin 2816) :
    (iblk m c 0 (pt b g) : Vec Ideal S1024x2816 .bf16) (ix2 r n) = argX m c (ix2 (row b r) (col g n)) := by
  show V m c main_arg0 _ = _
  rw [V_main_arg0]; congr 1
  refine Shape.idx_ext₂ ?_ ?_ <;> unfold row col pt <;> blk_simp [at0] <;> dsimp only <;> omega

theorem blk1 (b : Fin 2) (g : Fin 2) (n : Fin 2816) (k : Fin 1024) :
    (iblk m c 1 (pt b g) : Vec Ideal S2816x1024 .bf16) (ix2 n k) = argW m c (ix2 (col g n) k) := by
  show V m c main_arg1 _ = _
  rw [V_main_arg1]; congr 1
  refine Shape.idx_ext₂ ?_ ?_ <;> unfold col pt <;> blk_simp [at1] <;> dsimp only <;> omega

theorem outs_eq {n n' : ℕ} (h h') (e : n = n') : outsAt0 m c n h = outsAt0 m c n' h' := by subst e; rfl

/-- The product of step `g` of row block `b`, of the argument arrays. -/
def piece (b : Fin 2) (r k : Fin 1024) (g : Fin 2) : EReal :=
  ∑ n : Fin 2816, argX m c (ix2 (row b r) (col g n)) * argW m c (ix2 (col g n) k)

theorem prod_blk (b : Fin 2) (g : Fin 2) (r k : Fin 1024) : prod (iblk m c 0 (pt b g)) (iblk m c 1 (pt b g)) r k = piece m c b r k g :=
  Finset.sum_congr rfl fun n _ => by rw [blk0, blk1]

/-- The running sum after the first step. -/
theorem sum0 (b : Fin 2) (r k : Fin 1024) (h) :
    (outsAt0 m c (pt b 0).val h).2 (ix2 r k) = piece m c b r k 0 := by
  have hv : (pt b 0).val = 2 * b.val := rfl
  rw [outsAt0_A m c (pt b 0) (by omega) (by omega) (by omega), ← prod_blk, ← pay2_at, ← first]

/-- The output after the last step. -/
theorem after_at (b : Fin 2) (r k : Fin 1024) :
    ((dats m 0 c).after 2 (pt b 1) : Vec Ideal S1024x1024 .f32) (ix2 r k) = over (argX m c) (argW m c) (row b r) k := by
  have hv : (pt b 1).val = 2 * b.val + 1 := rfl
  have e : (dats m 0 c).after 2 (pt b 1) = k0_pay3 (iblk m c 0 (pt b 1)) (iblk m c 1 (pt b 1)) (outsAt0 m c (pt b 0).val (pt b 0).isLt).2 := by
    rw [after0_2, outsAt0_B m c (pt b 1) (by omega) (by omega) (by omega)]
    dsimp only
    rw [last, outs_eq m c _ (pt b 0).isLt (show (pt b 1).val - 1 = (pt b 0).val from rfl)]
  refine (congrFun e _).trans ((pay3_at _ _ _ r k).trans ?_)
  rw [sum0, prod_blk, over, Fin.sum_univ_tiles 2 2816 (by rfl), Fin.sum_univ_two]
  unfold piece col
  simp only [Nat.mul_comm 2816]

theorem arr : (dats m 0 c).arrAt 2 cfg0.N = grad (argX m c) (argW m c) := by
  refine (dats m 0 c).arrAt_eq_of_covers 2 _ (by decide +kernel) fun t hf y => ?_
  have hl : t.val % 2 = 1 := (flush0_2 t).mp hf
  have ht : t.val < 4 := lt_of_lt_of_eq t.isLt N_0
  obtain ⟨b, rfl⟩ : ∃ b : Fin 2, t = pt b 1 := ⟨⟨t.val / 2, by omega⟩, Fin.ext (show t.val = 2 * (t.val / 2) + 1 by omega)⟩
  refine Eq.trans ?_ ((after_at m c b (y 0) (y 1)).trans ?_)
  · blk_simp; congr 1; idx_ext
  unfold grad
  congr 1
  · refine Fin.ext ?_; unfold row pt; blk_simp [at2]; dsimp only; omega
  · refine Fin.ext ?_; blk_simp [at2]

/-- The reference's gradient is the same sum. -/
theorem reference_at (x : FVec Ideal S2048x5632 .bf16) (w : FVec Ideal S5632x1024 .bf16) :
    (Host.dotGeneral Cert.Reference3Ideal.dot_S2048x5632_S1024x5632_S2048x1024_1_1_0_0_n_n none (extf .f32 x Cert.Reference3Ideal.Facts₀.bitsLt_bf16_f32)
      (transpose Cert.Reference3Ideal.S1024x5632 [1, 0] (extf .f32 w Cert.Reference3Ideal.Facts₀.bitsLt_bf16_f32)
        Cert.Reference3Ideal.Facts₀.transposes_S5632x1024_S1024x5632_1_0) : FVec Ideal S2048x1024 .f32) = grad x w := by
  funext i
  have e : i = ix2 (i 0) (i 1) := Shape.idx_ext₂ rfl rfl
  rw [e]
  unfold grad over
  pointwise

end Cert.DgradFfn

end
-- ==== Proof.WgradIn.lean ====
/-
  The weight gradient of the layer's first projection: block by block of its columns, the kernel leaves the sum over the rows of each entry of
  the input times each entry of the projection's gradient, as the reference does.
-/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Geometry

@[expose] public section

noncomputable section

namespace Cert.WgradIn

open Cert.Kernel4Ideal Cert.Kernel4Ideal.Gen
open Idealize.ShloMosaic Idealize.ShloMosaic.TcCoe Idealize.SL.Sem
open scoped BigOperators

/-- The product, over the rows, of a column of the input and a column of the projection's gradient. -/
def over (x : FVec Ideal S2048x1024 .bf16) (y : FVec Ideal S2048x7040 .bf16) (k : Fin 1024) (n : Fin 7040) : EReal :=
  ∑ t : Fin 2048, x (ix2 t k) * y (ix2 t n)

/-- The gradient from the input and the projection's gradient. -/
def grad (x : FVec Ideal S2048x1024 .bf16) (y : FVec Ideal S2048x7040 .bf16) : FVec Ideal S1024x7040 .bf16 := fun i => over x y (i 0) (i 1)

theorem hz : (![0, 0] : Fin 2 → Nat) = fun _ => 0 := funext fun a => by fin_cases a <;> rfl

/-- What the body leaves is its one product. -/
theorem out_eq (c : Dev nD) (i : grid0.Coords) (a3 : Memref sig .tc .vmem S2048x1024 .bf16) (h3 : a3.IsWhole) (a4 : Memref sig .tc .vmem S2048x1408 .bf16)
    (h4 : a4.IsWhole) (a5 : Memref sig .tc .vmem S1024x1408 .bf16) (h5 : a5.IsWhole) (a6 : Memref sig .tc .vmem S8x128 .f32) (h6 : a6.IsWhole)
    (x0 : Vec Ideal S2048x1024 .bf16) (x1 : Vec Ideal S2048x1408 .bf16) : out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1408) hz]

theorem pay_at (x : Vec Ideal S2048x1024 .bf16) (y : Vec Ideal S2048x1408 .bf16) (k : Fin 1024) (n : Fin 1408) :
    k0_pay1 x y (ix2 k n) = ∑ t : Fin 2048, x (ix2 t k) * y (ix2 t n) := by
  unfold k0_pay1; pointwise

theorem at0 : ∀ t : Fin cfg0.N, win0_0.index t = ![0, 0] := by decide +kernel
theorem at1 : ∀ t : Fin cfg0.N, win0_1.index t = ![0, t.val] := by decide +kernel
theorem at2 : ∀ t : Fin cfg0.N, win0_2.index t = ![0, t.val] := by decide +kernel

variable (m : (ℓ : Loc nD τ sig) → Buf (Elt Ideal) ℓ) (ρ : Dev nD → PrngReg) (c : Dev nD)

abbrev argX : FVec Ideal S2048x1024 .bf16 := m ((c.tc : Thread nD τ).loc main_arg0)
abbrev argY : FVec Ideal S2048x7040 .bf16 := m ((c.tc : Thread nD τ).loc main_arg1)

/-- Column `n` of block `t`. -/
def col (t : Fin cfg0.N) (n : Fin 1408) : Fin 7040 := ⟨1408 * t.val + n.val, by have := lt_of_lt_of_eq t.isLt N_0; omega⟩

theorem blk0 (t : Fin cfg0.N) (s : Fin 2048) (k : Fin 1024) : (iblk m c 0 t : Vec Ideal S2048x1024 .bf16) (ix2 s k) = argX m c (ix2 s k) := by
  show V m c main_arg0 _ = _
  rw [V_main_arg0]; congr 1
  refine Shape.idx_ext₂ ?_ ?_ <;> blk_simp [at0]

theorem blk1 (t : Fin cfg0.N) (s : Fin 2048) (n : Fin 1408) : (iblk m c 1 t : Vec Ideal S2048x1408 .bf16) (ix2 s n) = argY m c (ix2 s (col t n)) := by
  show V m c main_arg1 _ = _
  rw [V_main_arg1]; congr 1
  refine Shape.idx_ext₂ ?_ ?_ <;> unfold col <;> blk_simp [at1] <;> dsimp only <;> omega

/-- After point `t` the output's buffer holds the gradient at the columns of block `t`. -/
theorem after_at (t : Fin cfg0.N) (k : Fin 1024) (n : Fin 1408) :
    ((dats m 0 c).after 2 t : Vec Ideal S1024x1408 .bf16) (ix2 k n) = over (argX m c) (argY m c) k (col t n) := by
  have e : (dats m 0 c).after 2 t = k0_pay1 (iblk m c 0 t) (iblk m c 1 t) := by rw [after0_2, outsAt0, out_eq]
  exact (congrFun e _).trans ((pay_at _ _ k n).trans (Finset.sum_congr rfl fun s _ => by rw [blk0, blk1]))

theorem arr : (dats m 0 c).arrAt 2 cfg0.N = grad (argX m c) (argY m c) := by
  refine (dats m 0 c).arrAt_eq_of_covers 2 _ (by decide +kernel) fun t hf y => ?_
  have hy : (y 1).val < 1408 := (y 1).isLt
  refine Eq.trans ?_ ((after_at m c t (y 0) (y 1)).trans ?_)
  · blk_simp; congr 1; idx_ext
  unfold grad
  congr 1
  · refine Fin.ext ?_; blk_simp [at2]
  · refine Fin.ext ?_; unfold col; blk_simp [at2]; dsimp only; omega

theorem reference_at (x : FVec Ideal S2048x1024 .bf16) (y : FVec Ideal S2048x7040 .bf16) :
    (truncf .bf16 (transpose Cert.Reference4Ideal.S1024x7040 [1, 0] (Host.dotGeneral Cert.Reference4Ideal.dot_S2048x7040_S2048x1024_S7040x1024_0_0_1_1_n_n none
      (extf .f32 y Cert.Reference4Ideal.Facts₀.bitsLt_bf16_f32) (extf .f32 x Cert.Reference4Ideal.Facts₀.bitsLt_bf16_f32))
      Cert.Reference4Ideal.Facts₀.transposes_S7040x1024_S1024x7040_1_0) Cert.Reference4Ideal.Facts₀.bitsLt_bf16_f32
      : FVec Ideal S1024x7040 .bf16) = grad x y := by
  funext i
  have e : i = ix2 (i 0) (i 1) := Shape.idx_ext₂ rfl rfl
  rw [e]
  unfold grad over
  pointwise
  exact Finset.sum_congr rfl fun t _ => mul_comm _ _

end Cert.WgradIn

end
-- ==== Proof.DgradIn.lean ====
/-
  The gradient through the layer's first projection: over five blocks of its columns the kernel adds up each entry of the projection's
  gradient times each entry of the weight, as the reference does in one sum.
-/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Geometry

@[expose] public section

noncomputable section

namespace Cert.DgradIn

open Cert.Kernel5Ideal Cert.Kernel5Ideal.Gen
open Idealize.ShloMosaic Idealize.ShloMosaic.TcCoe Idealize.SL.Sem
open scoped BigOperators

/-- The product of a row of the projection's gradient and a row of the weight. -/
def over (x : FVec Ideal S2048x7040 .bf16) (w : FVec Ideal S1024x7040 .bf16) (t : Fin 2048) (k : Fin 1024) : EReal :=
  ∑ n : Fin 7040, x (ix2 t n) * w (ix2 k n)

/-- The gradient from the product's gradient and the weight. -/
def grad (x : FVec Ideal S2048x7040 .bf16) (w : FVec Ideal S1024x7040 .bf16) : FVec Ideal S2048x1024 .f32 := fun i => over x w (i 0) (i 1)

/-! ## The body, on whole buffers -/

theorem hz : (![0, 0] : Fin 2 → Nat) = fun _ => 0 := funext fun a => by fin_cases a <;> rfl

/-- The first step over the columns leaves its product in the running sum. -/
theorem first (c : Dev nD) (i : grid0.Coords) (a3 : Memref sig .tc .vmem S1024x1408 .bf16) (w3 : a3.IsWhole) (a4 : Memref sig .tc .vmem S1024x1408 .bf16)
    (w4 : a4.IsWhole) (a5 : Memref sig .tc .vmem S1024x1024 .f32) (w5 : a5.IsWhole) (a6 : Memref sig .tc .vmem S1024x1024 .f32) (w6 : a6.IsWhole) (h0 : cond0_0 i) (h1 : ¬cond0_1 i) (h2 : ¬cond0_2 i)
    (x : Vec Ideal S1024x1408 .bf16) (w : Vec Ideal S1024x1408 .bf16) : sout0_A_0 c i a3 w3 a4 w4 a5 w5 a6 w6 h0 h1 h2 x w = k0_pay2 x w := by
  unfold sout0_A_0
  rw [View.read_writes_eq_canon _ _ _ (scover0_A_0 c i a3 w3 a4 w4 a5 w5 a6 w6 h0 h1 h2 x w)]
  unfold kernelRun0_A
  dsimp only
  sl_unfold_words
  rw [View.canon_unit_zero hz]
  simp only [View.readAt_eq_ld, w3.read_unread, w4.read_unread, w6.read_unread, View.ld_unit_zero (S := S1024x1408) hz, View.ld_unit_zero (S := S1024x1024) hz]

/-- A later step adds its product. -/
theorem later (c : Dev nD) (i : grid0.Coords) (a3 : Memref sig .tc .vmem S1024x1408 .bf16) (w3 : a3.IsWhole) (a4 : Memref sig .tc .vmem S1024x1408 .bf16)
    (w4 : a4.IsWhole) (a5 : Memref sig .tc .vmem S1024x1024 .f32) (w5 : a5.IsWhole) (a6 : Memref sig .tc .vmem S1024x1024 .f32) (w6 : a6.IsWhole) (h0 : ¬cond0_0 i) (h1 : cond0_1 i) (h2 : ¬cond0_2 i)
    (x : Vec Ideal S1024x1408 .bf16) (w : Vec Ideal S1024x1408 .bf16) (s : Vec Ideal S1024x1024 .f32) : sout0_B_0 c i a3 w3 a4 w4 a5 w5 a6 w6 h0 h1 h2 x w s = k0_pay3 x w s := by
  unfold sout0_B_0
  rw [View.read_writes_eq_canon _ _ _ (scover0_B_0 c i a3 w3 a4 w4 a5 w5 a6 w6 h0 h1 h2 x w s)]
  unfold kernelRun0_B
  dsimp only
  sl_unfold_words
  rw [View.canon_unit_zero hz]
  simp only [View.readAt_eq_ld, w3.read_unread, w4.read_unread, w6.read_unread, View.ld_unit_zero (S := S1024x1408) hz, View.ld_unit_zero (S := S1024x1024) hz]

/-- The last step writes the sum out. -/
theorem last (c : Dev nD) (i : grid0.Coords) (a3 : Memref sig .tc .vmem S1024x1408 .bf16) (w3 : a3.IsWhole) (a4 : Memref sig .tc .vmem S1024x1408 .bf16)
    (w4 : a4.IsWhole) (a5 : Memref sig .tc .vmem S1024x1024 .f32) (w5 : a5.IsWhole) (a6 : Memref sig .tc .vmem S1024x1024 .f32) (w6 : a6.IsWhole) (h0 : ¬cond0_0 i) (h1 : cond0_1 i) (h2 : cond0_2 i)
    (x : Vec Ideal S1024x1408 .bf16) (w : Vec Ideal S1024x1408 .bf16) (s : Vec Ideal S1024x1024 .f32) : out0_C_2 c i a3 w3 a4 w4 a5 w5 a6 w6 h0 h1 h2 x w s = k0_pay3 x w s := by
  unfold out0_C_2
  rw [View.read_writes_eq_canon _ _ _ (cover0_C_2 c i a3 w3 a4 w4 a5 w5 a6 w6 h0 h1 h2 x w s)]
  unfold kernelRun0_C
  dsimp only
  sl_unfold_words
  rw [View.canon_unit_zero hz, View.readCov_unit_zero (S := S1024x1024) _ hz]
  simp only [View.readAt_eq_ld, w3.read_unread, w4.read_unread, w6.read_unread, View.ld_unit_zero (S := S1024x1408) hz, View.ld_unit_zero (S := S1024x1024) hz]

/-- One step's product. -/
def prod (x : Vec Ideal S1024x1408 .bf16) (w : Vec Ideal S1024x1408 .bf16) (r k : Fin 1024) : EReal := ∑ n : Fin 1408, x (ix2 r n) * w (ix2 k n)

theorem pay2_at (x : Vec Ideal S1024x1408 .bf16) (w : Vec Ideal S1024x1408 .bf16) (r k : Fin 1024) : k0_pay2 x w (ix2 r k) = prod x w r k := by
  unfold k0_pay2 k0_pay1 prod; pointwise

theorem pay3_at (x : Vec Ideal S1024x1408 .bf16) (w : Vec Ideal S1024x1408 .bf16) (s : Vec Ideal S1024x1024 .f32) (r k : Fin 1024) :
    k0_pay3 x w s (ix2 r k) = s (ix2 r k) + prod x w r k := by
  unfold k0_pay3 k0_pay1 prod; pointwise

/-! ## The grid -/

theorem at0 : ∀ t : Fin cfg0.N, win0_0.index t = ![t.val / 5, t.val % 5] := by decide +kernel
theorem at1 : ∀ t : Fin cfg0.N, win0_1.index t = ![0, t.val % 5] := by decide +kernel
theorem at2 : ∀ t : Fin cfg0.N, win0_2.index t = ![t.val / 5, 0] := by decide +kernel

variable (m : (ℓ : Loc nD τ sig) → Buf (Elt Ideal) ℓ) (ρ : Dev nD → PrngReg) (c : Dev nD)

abbrev argX : FVec Ideal S2048x7040 .bf16 := m ((c.tc : Thread nD τ).loc main_arg0)
abbrev argW : FVec Ideal S1024x7040 .bf16 := m ((c.tc : Thread nD τ).loc main_arg1)

/-- Step `g` of row block `b`. -/
def pt (b : Fin 2) (g : Fin 5) : Fin cfg0.N := ⟨5 * b.val + g.val, lt_of_lt_of_eq (show 5 * b.val + g.val < 10 by omega) N_0.symm⟩

/-- Row `r` of block `b`, and column `n` of block `g`. -/
def row (b : Fin 2) (r : Fin 1024) : Fin 2048 := ⟨1024 * b.val + r.val, by omega⟩
def col (g : Fin 5) (n : Fin 1408) : Fin 7040 := ⟨1408 * g.val + n.val, by omega⟩

theorem blk0 (b : Fin 2) (g : Fin 5) (r : Fin 1024) (n : Fin 1408) :
    (iblk m c 0 (pt b g) : Vec Ideal S1024x1408 .bf16) (ix2 r n) = argX m c (ix2 (row b r) (col g n)) := by
  show V m c main_arg0 _ = _
  rw [V_main_arg0]; congr 1
  refine Shape.idx_ext₂ ?_ ?_ <;> unfold row col pt <;> blk_simp [at0] <;> dsimp only <;> omega

theorem blk1 (b : Fin 2) (g : Fin 5) (n : Fin 1408) (k : Fin 1024) :
    (iblk m c 1 (pt b g) : Vec Ideal S1024x1408 .bf16) (ix2 k n) = argW m c (ix2 k (col g n)) := by
  show V m c main_arg1 _ = _
  rw [V_main_arg1]; congr 1
  refine Shape.idx_ext₂ ?_ ?_ <;> unfold col pt <;> blk_simp [at1] <;> dsimp only <;> omega

theorem outs_eq {n n' : ℕ} (h h') (e : n = n') : outsAt0 m c n h = outsAt0 m c n' h' := by subst e; rfl

/-- The product of step `g` of row block `b`, of the argument arrays. -/
def piece (b : Fin 2) (r k : Fin 1024) (g : Fin 5) : EReal :=
  ∑ n : Fin 1408, argX m c (ix2 (row b r) (col g n)) * argW m c (ix2 k (col g n))

theorem prod_blk (b : Fin 2) (g : Fin 5) (r k : Fin 1024) : prod (iblk m c 0 (pt b g)) (iblk m c 1 (pt b g)) r k = piece m c b r k g :=
  Finset.sum_congr rfl fun n _ => by rw [blk0, blk1]

/-- The running sum after step `g`, before the last. -/
theorem sum_at (b : Fin 2) (r k : Fin 1024) : ∀ (g : ℕ) (hg : g < 4) (h),
    (outsAt0 m c (5 * b.val + g) h).2 (ix2 r k) = ∑ j : Fin (g + 1), piece m c b r k ⟨j.val, by omega⟩
  | 0, _, h => by
    have hv : (pt b 0).val = 5 * b.val := rfl
    rw [Fin.sum_univ_one]
    show (outsAt0 m c (pt b 0).val _).2 _ = piece m c b r k 0
    rw [outsAt0_A m c (pt b 0) (by omega) (by omega) (by omega), ← prod_blk, ← pay2_at, ← first]
  | g + 1, hg, h => by
    have hv : (pt b ⟨g + 1, by omega⟩).val = 5 * b.val + (g + 1) := rfl
    have e : (outsAt0 m c (pt b ⟨g + 1, by omega⟩).val (pt b ⟨g + 1, by omega⟩).isLt).2 = k0_pay3 (iblk m c 0 (pt b ⟨g + 1, by omega⟩)) (iblk m c 1 (pt b ⟨g + 1, by omega⟩))
        (outsAt0 m c (5 * b.val + g) (Nat.lt_of_succ_lt h)).2 := by
      rw [outsAt0_B m c (pt b ⟨g + 1, by omega⟩) (by omega) (by omega) (by omega)]
      dsimp only
      rw [later, outs_eq m c (n' := 5 * b.val + g) _ (Nat.lt_of_succ_lt h) (by omega)]
    rw [outs_eq m c h (pt b ⟨g + 1, by omega⟩).isLt hv.symm, e, pay3_at, sum_at b r k g (by omega), prod_blk]
    exact (Fin.sum_univ_castSucc (fun j : Fin (g + 2) => piece m c b r k ⟨j.val, by omega⟩)).symm

/-- The output after the last step. -/
theorem after_at (b : Fin 2) (r k : Fin 1024) :
    ((dats m 0 c).after 2 (pt b 4) : Vec Ideal S1024x1024 .f32) (ix2 r k) = over (argX m c) (argW m c) (row b r) k := by
  have hv : (pt b 4).val = 5 * b.val + 4 := rfl
  have e : (dats m 0 c).after 2 (pt b 4) = k0_pay3 (iblk m c 0 (pt b 4)) (iblk m c 1 (pt b 4))
      (outsAt0 m c (5 * b.val + 3) (Nat.lt_of_succ_lt (pt b 4).isLt)).2 := by
    rw [after0_2, outsAt0_C m c (pt b 4) (by omega) (by omega) (by omega)]
    dsimp only
    rw [last, outs_eq m c _ (Nat.lt_of_succ_lt (pt b 4).isLt) (show (pt b 4).val - 1 = 5 * b.val + 3 from rfl)]
  refine (congrFun e _).trans ((pay3_at _ _ _ r k).trans ?_)
  rw [sum_at m c b r k 3 (by omega), prod_blk, over, Fin.sum_univ_tiles (N := 7040) 5 1408 (by rfl)]
  refine (Fin.sum_univ_castSucc (piece m c b r k)).symm.trans ?_
  unfold piece col
  simp only [Nat.mul_comm 1408]

theorem arr : (dats m 0 c).arrAt 2 cfg0.N = grad (argX m c) (argW m c) := by
  refine (dats m 0 c).arrAt_eq_of_covers 2 _ (by decide +kernel) fun t hf y => ?_
  have hl : t.val % 5 = 4 := (flush0_2 t).mp hf
  have ht : t.val < 10 := lt_of_lt_of_eq t.isLt N_0
  obtain ⟨b, rfl⟩ : ∃ b : Fin 2, t = pt b 4 := ⟨⟨t.val / 5, by omega⟩, Fin.ext (show t.val = 5 * (t.val / 5) + 4 by omega)⟩
  refine Eq.trans ?_ ((after_at m c b (y 0) (y 1)).trans ?_)
  · blk_simp; congr 1; idx_ext
  unfold grad
  congr 1
  · refine Fin.ext ?_; unfold row pt; blk_simp [at2]; dsimp only; omega
  · refine Fin.ext ?_; blk_simp [at2]

/-- The reference's gradient is the same sum. -/
theorem reference_at (x : FVec Ideal S2048x7040 .bf16) (w : FVec Ideal S1024x7040 .bf16) :
    (Host.dotGeneral Cert.Reference5Ideal.dot_S2048x7040_S1024x7040_S2048x1024_1_1_0_0_n_n none (extf .f32 x Cert.Reference5Ideal.Facts₀.bitsLt_bf16_f32)
      (extf .f32 w Cert.Reference5Ideal.Facts₀.bitsLt_bf16_f32) : FVec Ideal S2048x1024 .f32) = grad x w := by
  funext i
  have e : i = ix2 (i 0) (i 1) := Shape.idx_ext₂ rfl rfl
  rw [e]
  unfold grad over
  pointwise

end Cert.DgradIn

end
-- ==== Proof.Linear.lean ====
/-
  The three products of the backward pass that stand alone (the two input gradients and the first projection's weight gradient): each runs, and
  its result is, over the reals, the gradient that its reference returns.
-/
module

public import proofs.«01_k».proof.Defs
public import proofs.«01_k».proof.Proof.DgradFfn
public import proofs.«01_k».proof.Proof.WgradIn
public import proofs.«01_k».proof.Proof.DgradIn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import Idealize.ShloMosaic.Adequacy
public import Idealize.ShloMosaic.Init

@[expose] public section

noncomputable section

open Idealize.ShloMosaic Idealize.SL.Sem

namespace Cert.DgradFfn

theorem frame_kernel : Cert.quiescent_Kernel3 (hKernel3 := Cert.Kernel3.Gen.facts) := fun m g _ => Cert.Kernel3.Gen.frame m g

theorem frame_kernelIdeal : Cert.quiescent_Kernel3Ideal (hKernel3Ideal := Cert.Kernel3Ideal.Gen.facts) := fun m g _ => Cert.Kernel3Ideal.Gen.frame m g

theorem frame_reference : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => grad (argX m c) (argW m c),
    (θ_run Cert.Kernel3Ideal.defs _ _).mono (fun r h c => ⟨(h c).1.trans (arr m c), (h c).2⟩) (Cert.Kernel3Ideal.Value.run_blocks m g),
    (θ_run Cert.Reference3Ideal.defs _ _).mono (fun r h c => ⟨(h c).1.trans ?_, (h c).2⟩) (Cert.Reference3Ideal.Value.run (F := Ideal) m' g')⟩
  rw [(hargs c).1, (hargs c).2]
  exact reference_at _ _

end Cert.DgradFfn

namespace Cert.WgradIn

theorem frame_kernel : Cert.quiescent_Kernel4 (hKernel4 := Cert.Kernel4.Gen.facts) := fun m g _ => Cert.Kernel4.Gen.frame m g

theorem frame_kernelIdeal : Cert.quiescent_Kernel4Ideal (hKernel4Ideal := Cert.Kernel4Ideal.Gen.facts) := fun m g _ => Cert.Kernel4Ideal.Gen.frame m g

theorem frame_reference : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => grad (argX m c) (argY m c),
    (θ_run Cert.Kernel4Ideal.defs _ _).mono (fun r h c => ⟨(h c).1.trans (arr m c), (h c).2⟩) (Cert.Kernel4Ideal.Value.run_blocks m g),
    (θ_run Cert.Reference4Ideal.defs _ _).mono (fun r h c => ⟨(h c).1.trans ?_, (h c).2⟩) (Cert.Reference4Ideal.Value.run (F := Ideal) m' g')⟩
  rw [(hargs c).1, (hargs c).2]
  exact reference_at _ _

end Cert.WgradIn

namespace Cert.DgradIn

theorem frame_kernel : Cert.quiescent_Kernel5 (hKernel5 := Cert.Kernel5.Gen.facts) := fun m g _ => Cert.Kernel5.Gen.frame m g

theorem frame_kernelIdeal : Cert.quiescent_Kernel5Ideal (hKernel5Ideal := Cert.Kernel5Ideal.Gen.facts) := fun m g _ => Cert.Kernel5Ideal.Gen.frame m g

theorem frame_reference : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => grad (argX m c) (argW m c),
    (θ_run Cert.Kernel5Ideal.defs _ _).mono (fun r h c => ⟨(h c).1.trans (arr m c), (h c).2⟩) (Cert.Kernel5Ideal.Value.run_blocks m g),
    (θ_run Cert.Reference5Ideal.defs _ _).mono (fun r h c => ⟨(h c).1.trans ?_, (h c).2⟩) (Cert.Reference5Ideal.Value.run (F := Ideal) m' g')⟩
  rw [(hargs c).1, (hargs c).2]
  exact reference_at _ _

end Cert.DgradIn

end
-- ==== Proof.MixSpec.lean ====
/-
  What the branch mixer's gradients are, row by row. A row of the mixer's gradient goes back through the output projection; each of the three
  branches is a row of the attention's output through the branch's weight, times the logistic of the branch's gate.
-/
module

public import Idealize.ShloMosaic.Lib.Pointwise

@[expose] public section

noncomputable section

namespace Cert.Mix

open Idealize.ShloMosaic
open scoped BigOperators

/-- The three branches' weights, and the output projection's. -/
abbrev Branch := (⟨3, ![3, 512, 1024]⟩ : Shape).Idx → EReal
abbrev Square := (⟨2, ![1024, 1024]⟩ : Shape).Idx → EReal

/-- The gradient before the output projection, from a row `x` of the gradient after it. -/
def dmE (x : Fin 1024 → EReal) (wo : Square) (d : Fin 1024) : EReal := ∑ e : Fin 1024, x e * wo (ix2 d e)

/-- Branch `k` of a row `o`. -/
def yE (o : Fin 512 → EReal) (w : Branch) (k : Fin 3) (d : Fin 1024) : EReal := ∑ a : Fin 512, o a * w (ix3 k a d)

/-- The branch's gradient, for the gate `g`. -/
def dyE (x : Fin 1024 → EReal) (wo : Square) (g : EReal) (d : Fin 1024) : EReal := dmE x wo d * Ideal.logistic g

/-- The gate's gradient. -/
def dgE (x : Fin 1024 → EReal) (wo : Square) (o : Fin 512 → EReal) (w : Branch) (k : Fin 3) (g : EReal) (d : Fin 1024) : EReal :=
  dmE x wo d * yE o w k d * (Ideal.logistic g * (1 - Ideal.logistic g))

/-- The gradient of the row that the branch is of. -/
def doE (x : Fin 1024 → EReal) (wo : Square) (g : Fin 1024 → EReal) (w : Branch) (k : Fin 3) (a : Fin 512) : EReal :=
  ∑ d : Fin 1024, dyE x wo (g d) d * w (ix3 k a d)

/-- Lane `l` of head `h`. -/
def ofHead (h : Fin 8) (l : Fin 64) : Fin 512 := ⟨h.val * 64 + l.val, by omega⟩

/-- Head `h`'s sum of that gradient times the row. -/
def dlE (x : Fin 1024 → EReal) (wo : Square) (o : Fin 512 → EReal) (g : Fin 1024 → EReal) (w : Branch) (k : Fin 3) (h : Fin 8) : EReal :=
  ∑ l : Fin 64, doE x wo g w k (ofHead h l) * o (ofHead h l)

/-- Column `d` of branch `k`'s gate, and which column of which branch column `n` is. -/
def gateCol (k : Fin 3) (d : Fin 1024) : Fin 3072 := ⟨k.val * 1024 + d.val, by omega⟩
def branchOf (n : Fin 3072) : Fin 3 := ⟨n.val / 1024, by omega⟩
def colOf (n : Fin 3072) : Fin 1024 := ⟨n.val % 1024, by omega⟩

end Cert.Mix

end
-- ==== Proof.MixBlock.lean ====
/-
  The branch mixer's body: what it computes of the blocks that it reads, entry by entry, and how the three branches' stores make up a block.
-/
module

public import proofs.«01_k».proof.Proof.MixSpec
public import proofs.«01_k».proof.Proof.Gen.Kernel6Ideal.Skeleton
public import Idealize.ShloMosaic.Lib.Ring
public import Idealize.ShloMosaic.Lib.Tactic
public import Idealize.ShloMosaic.Lib.Pipeline.FrameBody
public import Idealize.ShloMosaic.Lib.Pipeline.ValueKit.Tiles
public import Idealize.ShloMosaic.Lib.Pipeline.ValueKit.Geometry

@[expose] public section

noncomputable section

namespace Cert.Mix

open Cert.Kernel6Ideal Cert.Kernel6Ideal.Gen
open Idealize.ShloMosaic Idealize.SL.Sem
open scoped BigOperators

/-- Branch `k`'s weight, and its columns of the gates. -/
def slab {e : EltTy} (k : Fin 3) (w : Vec Ideal S3x512x1024 e) : Vec Ideal S1x512x1024 e := fun i => w (ix3 k (i 1) (i 2))
def part (k : Fin 3) (g : FVec Ideal S256x3072 .f32) : FVec Ideal S256x1024 .f32 := fun i => g (ix2 (i 0) (gateCol k (i 1)))

theorem ld_slab {e : EltTy} (k : Fin 3) (w : Vec Ideal S3x512x1024 e) (inb : ∀ a, (![k.val, 0, 0] : Fin 3 → ℕ) a + (![1, 512, 1024] : Fin 3 → ℕ) a ≤ S3x512x1024.size a) :
    View.ld (Val := Elt Ideal) (e' := e) w (Rect.unit (s := S3x512x1024) ![k.val, 0, 0] ![1, 512, 1024] inb) = slab k w := by
  funext i
  unfold View.ld slab
  congr 1
  refine funext fun a => Fin.ext ?_
  have h0 : (i 0).val = 0 := Nat.lt_one_iff.mp (i 0).isLt
  match a with
  | ⟨0, _⟩ => show k.val + 1 * (i 0).val = k.val; omega
  | ⟨1, _⟩ => show 0 + 1 * (i 1).val = (i 1).val; omega
  | ⟨2, _⟩ => show 0 + 1 * (i 2).val = (i 2).val; omega

theorem ld_part (k : Fin 3) (off : Fin 2 → ℕ) (ho : off = ![0, k.val * 1024]) (g : FVec Ideal S256x3072 .f32) (inb : ∀ a, off a + (![256, 1024] : Fin 2 → ℕ) a ≤ S256x3072.size a) :
    View.ld (Val := Elt Ideal) (e' := .f32) g (Rect.unit (s := S256x3072) off ![256, 1024] inb) = part k g := by
  subst ho
  funext i
  unfold View.ld part
  congr 1
  refine funext fun a => Fin.ext ?_
  match a with
  | ⟨0, _⟩ => show 0 + 1 * (i 0).val = (i 0).val; omega
  | ⟨1, _⟩ => show k.val * 1024 + 1 * (i 1).val = k.val * 1024 + (i 1).val; omega

/-! ## One branch -/

variable (x : FVec Ideal S256x1024 .bf16) (wo : FVec Ideal S1024x1024 .bf16) (w : FVec Ideal S3x512x1024 .bf16) (g : FVec Ideal S256x3072 .f32)
  (o : FVec Ideal S256x512 .bf16) (k : Fin 3)

/-- A row of the blocks. -/
abbrev bx (s : Fin 256) : Fin 1024 → EReal := fun e => x (ix2 s e)
abbrev bo (s : Fin 256) : Fin 512 → EReal := fun a => o (ix2 s a)
abbrev bg (s : Fin 256) : Fin 1024 → EReal := fun d => g (ix2 s (gateCol k d))

/-- What the body stores for branch `k`. -/
def stG : FVec Ideal S256x1024 .bf16 := k0_pay15 (k0_pay7 x wo) (k0_pay9 (slab k w) o) (part k g)
def stO : FVec Ideal S256x512 .bf16 := k0_pay16 (k0_pay7 x wo) (k0_pay8 (slab k w)) (part k g)
def stL : FVec Ideal S8x256 .f32 := k0_pay17 k0_pay6 (k0_pay7 x wo) (k0_pay8 (slab k w)) o (part k g)
def stW : FVec Ideal S1x512x1024 .f32 := k0_pay13 (k0_pay7 x wo) o (part k g)
def stU (u : FVec Ideal S3x512x1024 .f32) : FVec Ideal S1x512x1024 .f32 := k0_pay14 (k0_pay7 x wo) o (part k g) (slab k u)

theorem dm_at (s : Fin 256) (d : Fin 1024) : k0_pay7 (F := Ideal) x wo (ix2 s d) = dmE (bx x s) wo d := by
  unfold k0_pay7 dmE; pointwise

theorem y_at (s : Fin 256) (d : Fin 1024) : k0_pay9 (F := Ideal) (slab k w) o (ix2 s d) = yE (bo o s) w k d := by
  unfold k0_pay9 k0_pay8 yE; pointwise; rfl

theorem dy_at (s : Fin 256) (d : Fin 1024) : k0_pay11 (F := Ideal) (k0_pay7 x wo) (part k g) (ix2 s d) = dyE (bx x s) wo (bg g k s d) d := by
  unfold k0_pay11 k0_pay10 dyE; pointwise [dm_at]; rfl

theorem stG_at (s : Fin 256) (d : Fin 1024) : stG x wo w g o k (ix2 s d) = dgE (bx x s) wo (bo o s) w k (bg g k s d) d := by
  unfold stG k0_pay15 k0_pay10 dgE; pointwise [dm_at, y_at]; rfl

theorem stO_at (s : Fin 256) (a : Fin 512) : stO x wo w g k (ix2 s a) = doE (bx x s) wo (bg g k s) w k a := by
  unfold stO k0_pay16 k0_pay8 doE; pointwise [dy_at]; rfl

/-- The block's share of the branch's weight gradient. -/
def wE (a : Fin 512) (d : Fin 1024) : EReal := ∑ s : Fin 256, bo o s a * dyE (bx x s) wo (bg g k s d) d

theorem stW_at (z : Fin 1) (a : Fin 512) (d : Fin 1024) : stW x wo g o k (ix3 z a d) = wE x wo g o k a d := by
  unfold stW k0_pay13 k0_pay12 wE; pointwise [dy_at]

theorem stU_at (u : FVec Ideal S3x512x1024 .f32) (z : Fin 1) (a : Fin 512) (d : Fin 1024) :
    stU x wo g o k u (ix3 z a d) = u (ix3 k a d) + wE x wo g o k a d := by
  unfold stU k0_pay14 k0_pay12 wE; pointwise [dy_at]; rfl

/-- The body's quotient of a word by 64, rounded down. -/
def quot (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32)
    (IntOp.divsi .vector v 64#32)

theorem quot_at : ∀ a : Fin 512, quot (BitVec.ofNat 32 a.val) = BitVec.ofNat 32 (a.val / 64) := by decide +kernel

/-- The mask's column `h` is one on the lanes of head `h`. -/
theorem mask_at (a : Fin 512) (h : Fin 128) : k0_pay6 (F := Ideal) (ix2 a h) = if a.val / 64 = h.val then 1 else 0 := by
  have e : k0_pay6 (F := Ideal) (ix2 a h)
      = FloatOps.sitofp (F := Ideal) .f32 (BitVec.setWidth 32 (IntOp.cmpi .eq (quot (BitVec.ofNat 32 a.val)) (BitVec.ofNat 32 h.val))) := by
    unfold k0_pay6; pointwise; rfl
  rw [e, quot_at]
  by_cases c : a.val / 64 = h.val
  · have n : IntOp.cmpi .eq (BitVec.ofNat 32 (a.val / 64)) (BitVec.ofNat 32 h.val) = 1#1 := by rw [c]; simp [IntOp.cmpi]
    rw [if_pos c, n]
    show (((BitVec.setWidth 32 1#1).toInt : ℝ) : EReal) = 1
    norm_num
  · have n : BitVec.ofNat 32 (a.val / 64) ≠ BitVec.ofNat 32 h.val := fun n => c (by
      have := congrArg BitVec.toNat n
      simp only [BitVec.toNat_ofNat] at this
      omega)
    have n' : IntOp.cmpi .eq (BitVec.ofNat 32 (a.val / 64)) (BitVec.ofNat 32 h.val) = 0#1 := by simp [IntOp.cmpi, beq_false_of_ne n]
    rw [if_neg c, n']
    show (((BitVec.setWidth 32 0#1).toInt : ℝ) : EReal) = 0
    norm_num

/-- A sum against one head's mask is the sum over the head's lanes. -/
theorem sum_mask (f : Fin 512 → EReal) (h : Fin 8) : ∑ a : Fin 512, f a * (if a.val / 64 = h.val then 1 else 0) = ∑ l : Fin 64, f (ofHead h l) := by
  rw [Fin.sum_univ_tiles (N := 512) 8 64 (by rfl), Finset.sum_eq_single h]
  · refine Finset.sum_congr rfl fun l _ => ?_
    have e : (h.val * 64 + l.val) / 64 = h.val := by omega
    simp only [e, if_true, mul_one]; rfl
  · intro j _ hj
    refine Finset.sum_eq_zero fun l _ => ?_
    have e : ¬(j.val * 64 + l.val) / 64 = h.val := fun e => hj (Fin.ext (by omega))
    simp only [e, if_false, mul_zero]
  · exact fun n => absurd (Finset.mem_univ _) n

theorem stL_at (h : Fin 8) (s : Fin 256) : stL x wo w g o k (ix2 h s) = dlE (bx x s) wo (bo o s) (bg g k s) w k h := by
  refine Eq.trans ?_ (sum_mask (fun a => doE (bx x s) wo (bg g k s) w k a * bo o s a) h)
  have e : ∀ a : Fin 512, k0_pay16 (F := Ideal) (k0_pay7 x wo) (k0_pay8 (slab k w)) (part k g) (ix2 s a) = doE (bx x s) wo (bg g k s) w k a := stO_at x wo w g k s
  unfold stL k0_pay17; pointwise [e, mask_at]

/-! ## The three stores together -/

theorem three2 (p : Fin 3 → FVec Ideal S256x1024 .bf16) (i0 i1 i2) (s : Fin 256) (n : Fin 3072) :
    View.canon (Val := Elt Ideal) (s := S256x3072) (e := .bf16) [⟨Rect.unit (s := S256x3072) ![0, 2048] ![256, 1024] i2, p 2⟩,
      ⟨Rect.unit (s := S256x3072) ![0, 1024] ![256, 1024] i1, p 1⟩, ⟨Rect.unit (s := S256x3072) ![0, 0] ![256, 1024] i0, p 0⟩] (ix2 s n)
      = p (branchOf n) (ix2 s (colOf n)) := by
  have key : ∀ (j : Fin 3) (off : Fin 2 → ℕ), off = ![0, j.val * 1024] → View.TileAt (S := S256x3072) (Val := Elt Ideal) (e := .bf16) (ix2 s n) off ![256, 1024]
      (p j) (p (branchOf n) (ix2 s (colOf n))) := by
    rintro j off rfl q hq
    have h0 : s.val = 0 + (q 0).val := hq 0
    have h1 : n.val = j.val * 1024 + (q 1).val := hq 1
    have hl : (q 1).val < 1024 := (q 1).isLt
    have hj : branchOf n = j := Fin.ext (show n.val / 1024 = j.val by omega)
    rw [hj]
    refine congrArg _ (Shape.idx_ext₂ ?_ ?_)
    · show (q 0).val = s.val; omega
    · show (q 1).val = n.val % 1024; omega
  refine View.canon_eq_of_allAt _ _ _ (View.cover_of_tiledL (s := S256x3072) _ ![256, 1024] (by sl_kernel_rfl) _) ?_
  exact View.allAt_cons_unit _ _ _ _ _ (key 2 _ rfl) (View.allAt_cons_unit _ _ _ _ _ (key 1 _ rfl) (View.allAt_cons_unit _ _ _ _ _ (key 0 _ rfl) (View.allAt_nil _ _)))

theorem three3 (p : Fin 3 → FVec Ideal S1x512x1024 .f32) (i0 i1 i2) (k : Fin 3) (a : Fin 512) (d : Fin 1024) :
    View.canon (Val := Elt Ideal) (s := S3x512x1024) (e := .f32) [⟨Rect.unit (s := S3x512x1024) ![2, 0, 0] ![1, 512, 1024] i2, p 2⟩,
      ⟨Rect.unit (s := S3x512x1024) ![1, 0, 0] ![1, 512, 1024] i1, p 1⟩, ⟨Rect.unit (s := S3x512x1024) ![0, 0, 0] ![1, 512, 1024] i0, p 0⟩] (ix3 k a d)
      = p k (ix3 0 a d) := by
  have key : ∀ (j : Fin 3) (off : Fin 3 → ℕ), off = ![j.val, 0, 0] → View.TileAt (S := S3x512x1024) (Val := Elt Ideal) (e := .f32) (ix3 k a d) off ![1, 512, 1024]
      (p j) (p k (ix3 0 a d)) := by
    rintro j off rfl q hq
    have h0 : k.val = j.val + (q 0).val := hq 0
    have h1 : a.val = 0 + (q 1).val := hq 1
    have h2 : d.val = 0 + (q 2).val := hq 2
    have hl : (q 0).val = 0 := Nat.lt_one_iff.mp (q 0).isLt
    have hj : k = j := Fin.ext (by omega)
    subst hj
    refine congrArg _ (funext fun b => Fin.ext ?_)
    match b with
    | ⟨0, _⟩ => exact hl
    | ⟨1, _⟩ => show (q 1).val = a.val; omega
    | ⟨2, _⟩ => show (q 2).val = d.val; omega
  refine View.canon_eq_of_allAt _ _ _ (View.cover_of_tiledL (s := S3x512x1024) _ ![1, 512, 1024] (by sl_kernel_rfl) _) ?_
  exact View.allAt_cons_unit _ _ _ _ _ (key 2 _ rfl) (View.allAt_cons_unit _ _ _ _ _ (key 1 _ rfl) (View.allAt_cons_unit _ _ _ _ _ (key 0 _ rfl) (View.allAt_nil _ _)))

end Cert.Mix

end
-- ==== Proof.MixReference.lean ====
/-
  The branch mixer's gradients as the reference takes them, entry by entry.
-/
module

public import proofs.«01_k».proof.Proof.MixSpec
public import proofs.«01_k».proof.Proof.Gen.Reference6Ideal.Run

@[expose] public section

set_option maxRecDepth 16384

noncomputable section

namespace Cert.Mix

open Cert.Reference6Ideal Cert.Reference6Ideal.Facts₀
open Idealize.ShloMosaic Idealize.SL.Sem
open scoped BigOperators

variable (x : FVec Ideal S2048x1024 .bf16) (oa ob oc : FVec Ideal S2048x512 .bf16) (g : FVec Ideal S2048x3072 .f32) (w : FVec Ideal S3x512x1024 .bf16)
  (wo : FVec Ideal S1024x1024 .bf16)

/-- A row of each argument. -/
abbrev rowX (s : Fin 2048) : Fin 1024 → EReal := fun e => x (ix2 s e)
abbrev rowO (o : FVec Ideal S2048x512 .bf16) (s : Fin 2048) : Fin 512 → EReal := fun a => o (ix2 s a)
abbrev rowG (k : Fin 3) (s : Fin 2048) : Fin 1024 → EReal := fun d => g (ix2 s (gateCol k d))

/-- The array of branch `k`. -/
abbrev pick (k : Fin 3) : FVec Ideal S2048x512 .bf16 := ![oa, ob, oc] k

/-! ## The gradients -/

def gradG : FVec Ideal S2048x3072 .bf16 := fun i =>
  dgE (rowX x (i 0)) wo (rowO (pick oa ob oc (branchOf (i 1))) (i 0)) w (branchOf (i 1)) (g i) (colOf (i 1))
def gradW : FVec Ideal S3x512x1024 .f32 := fun i =>
  ∑ s : Fin 2048, rowO (pick oa ob oc (i 0)) s (i 1) * dyE (rowX x s) wo (rowG g (i 0) s (i 2)) (i 2)
def gradO (k : Fin 3) : FVec Ideal S2048x512 .bf16 := fun i => doE (rowX x (i 0)) wo (rowG g k (i 0)) w k (i 1)
def gradL (k : Fin 3) (o : FVec Ideal S2048x512 .bf16) : FVec Ideal S8x2048 .f32 := fun i =>
  dlE (rowX x (i 1)) wo (rowO o (i 1)) (rowG g k (i 1)) w k (i 0)

/-! ## The reference's terms -/

def rStack : FVec Ideal S2048x3x512 .f32 :=
  concatenate S2048x3x512 1 [⟨S2048x1x512, broadcastInDim S2048x1x512 ![0, 2] bcast_S2048x512_S2048x1x512_0_2 (extf .f32 oa bitsLt_bf16_f32)⟩,
    ⟨S2048x1x512, broadcastInDim S2048x1x512 ![0, 2] bcast_S2048x512_S2048x1x512_0_2 (extf .f32 ob bitsLt_bf16_f32)⟩,
    ⟨S2048x1x512, broadcastInDim S2048x1x512 ![0, 2] bcast_S2048x512_S2048x1x512_0_2 (extf .f32 oc bitsLt_bf16_f32)⟩]
    concatenates_S2048x1x512_S2048x1x512_S2048x1x512_S2048x3x512_d1
def rOne : FVec Ideal S2048x3x1024 .f32 := broadcastInDim S2048x3x1024 ![] bcast_S_S2048x3x1024 (constant S_ .f32 0x3F800000#32)
def rSig : FVec Ideal S2048x3x1024 .f32 := Host.divf rOne (addf rOne (Host.exp (Host.negf (shapeCast _ g shapeCasts_S2048x3072_S2048x3x1024))))
def rDm : FVec Ideal S2048x3x1024 .f32 :=
  broadcastInDim S2048x3x1024 ![0, 2] bcast_S2048x1024_S2048x3x1024_0_2 (Host.dotGeneral dot_S2048x1024_S1024x1024_S2048x1024_1_1_0_0_n_n none
    (extf .f32 x bitsLt_bf16_f32) (extf .f32 wo bitsLt_bf16_f32))
def rY : FVec Ideal S2048x3x1024 .f32 :=
  transpose S2048x3x1024 [2, 0, 1] (Host.dotGeneral dot_S3x512x1024_S2048x3x512_S3x1024x2048_1_2_2_0_0_1 none (extf .f32 w bitsLt_bf16_f32)
    (rStack oa ob oc)) transposes_S3x1024x2048_S2048x3x1024_2_0_1
def rDy : FVec Ideal S3x1024x2048 .f32 := transpose S3x1024x2048 [1, 2, 0] (mulf (rSig g) (rDm x wo)) transposes_S2048x3x1024_S3x1024x2048_1_2_0
def rDo : FVec Ideal S2048x3x512 .f32 :=
  transpose S2048x3x512 [1, 0, 2] (Host.dotGeneral dot_S3x1024x2048_S3x512x1024_S3x2048x512_1_2_2_1_0_0 none (rDy x g wo) (extf .f32 w bitsLt_bf16_f32))
    transposes_S3x2048x512_S2048x3x512_1_0_2

theorem rStack_at (s : Fin 2048) (k : Fin 3) (a : Fin 512) : rStack oa ob oc (ix3 s k a) = pick oa ob oc k (ix2 s a) := by
  unfold rStack
  fin_cases k <;> pointwise <;> rfl

theorem rOne_at (s : Fin 2048) (k : Fin 3) (d : Fin 1024) : rOne (ix3 s k d) = 1 := by unfold rOne; pointwise

theorem rSig_at (s : Fin 2048) (k : Fin 3) (d : Fin 1024) : rSig g (ix3 s k d) = Ideal.logistic (rowG g k s d) := by
  unfold rSig rowG gateCol; pointwise [rOne_at]; rfl

theorem rDm_at (s : Fin 2048) (k : Fin 3) (d : Fin 1024) : rDm x wo (ix3 s k d) = dmE (rowX x s) wo d := by
  unfold rDm dmE; pointwise

theorem rY_at (s : Fin 2048) (k : Fin 3) (d : Fin 1024) : rY oa ob oc w (ix3 s k d) = yE (rowO (pick oa ob oc k) s) w k d := by
  unfold rY yE; pointwise [rStack_at]
  exact Finset.sum_congr rfl fun a _ => mul_comm _ _

theorem rDy_at (s : Fin 2048) (k : Fin 3) (d : Fin 1024) : rDy x g wo (ix3 k d s) = dyE (rowX x s) wo (rowG g k s d) d := by
  unfold rDy dyE; pointwise [rSig_at, rDm_at]
  exact mul_comm _ _

theorem rDo_at (s : Fin 2048) (k : Fin 3) (a : Fin 512) : rDo x g w wo (ix3 s k a) = doE (rowX x s) wo (rowG g k s) w k a := by
  unfold rDo doE; pointwise [rDy_at]

theorem gateCol_of (n : Fin 3072) : gateCol (branchOf n) (colOf n) = n :=
  Fin.ext (show n.val / 1024 * 1024 + n.val % 1024 = n.val by omega)

theorem refG : (truncf .bf16 (shapeCast _ (mulf (mulf (rDm x wo) (rY oa ob oc w)) (mulf (rSig g) (subf rOne (rSig g)))) shapeCasts_S2048x3x1024_S2048x3072)
    bitsLt_bf16_f32 : FVec Ideal S2048x3072 .bf16) = gradG x oa ob oc g w wo := by
  have h : ∀ (s : Fin 2048) (n : Fin 3072), (truncf .bf16 (shapeCast _ (mulf (mulf (rDm x wo) (rY oa ob oc w)) (mulf (rSig g) (subf rOne (rSig g))))
      shapeCasts_S2048x3x1024_S2048x3072) bitsLt_bf16_f32 : FVec Ideal S2048x3072 .bf16) (ix2 s n)
      = dgE (rowX x s) wo (rowO (pick oa ob oc (branchOf n)) s) w (branchOf n) (rowG g (branchOf n) s (colOf n)) (colOf n) := fun s n => by
    pointwise
    refine (congrArg₂ (· * ·) (congrArg₂ (· * ·) (rDm_at x wo s (branchOf n) (colOf n)) (rY_at oa ob oc w s (branchOf n) (colOf n)))
      (congrArg₂ (fun a b => a * (b - a)) (rSig_at g s (branchOf n) (colOf n)) (rOne_at s (branchOf n) (colOf n))))
  funext i
  have e : i = ix2 (i 0) (i 1) := Shape.idx_ext₂ rfl rfl
  refine (congrArg (truncf .bf16 _ _) e).trans ((h (i 0) (i 1)).trans ?_)
  exact congrArg (fun v => dgE (rowX x (i 0)) wo (rowO (pick oa ob oc (branchOf (i 1))) (i 0)) w (branchOf (i 1)) v (colOf (i 1)))
    ((congrArg (fun n => g (ix2 (i 0) n)) (gateCol_of (i 1))).trans (congrArg g e.symm))

theorem refW : (transpose S3x512x1024 [0, 2, 1] (Host.dotGeneral dot_S3x1024x2048_S2048x3x512_S3x1024x512_2_0_1_2_0_1 none (rDy x g wo) (rStack oa ob oc))
    transposes_S3x1024x512_S3x512x1024_0_2_1 : FVec Ideal S3x512x1024 .f32) = gradW x oa ob oc g wo := by
  funext i
  unfold gradW; pointwise [rDy_at, rStack_at]
  exact Finset.sum_congr rfl fun s _ => mul_comm _ _

section Rows

variable {k : Fin 3} (hs : Shape.Slices S2048x3x512 ![0, k.val, 0] S2048x1x512)

/-- Branch `k` of the rows' gradient. -/
def rPart : FVec Ideal S2048x512 .f32 :=
  shapeCast _ (extractStridedSlice S2048x1x512 ![0, k.val, 0] (rDo x g w wo) hs) shapeCasts_S2048x1x512_S2048x512

theorem rPart_at (s : Fin 2048) (a : Fin 512) : rPart x g w wo hs (ix2 s a) = doE (rowX x s) wo (rowG g k s) w k a := by
  refine Eq.trans ?_ (rDo_at x g w wo s k a)
  unfold rPart; pointwise

theorem refO : (truncf .bf16 (rPart x g w wo hs) bitsLt_bf16_f32 : FVec Ideal S2048x512 .bf16) = gradO x g w wo k := by
  funext i
  have e : i = ix2 (i 0) (i 1) := Shape.idx_ext₂ rfl rfl
  exact (congrArg (rPart x g w wo hs) e).trans (rPart_at x g w wo hs (i 0) (i 1))

theorem refL (o : FVec Ideal S2048x512 .bf16) :
    (transpose S8x2048 [1, 0] (Host.reduceAdd (shapeCast _ (mulf (rPart x g w wo hs) (extf .f32 o bitsLt_bf16_f32)) shapeCasts_S2048x512_S2048x8x64)
      (constant S_ .f32 0x00000000#32) reducesTo_S2048x8x64_S2048x8_d2 h_S_) transposes_S2048x8_S8x2048_1_0 : FVec Ideal S8x2048 .f32)
      = gradL x g w wo k o := by
  funext i
  unfold gradL dlE; pointwise [rPart_at]; rfl

end Rows

end Cert.Mix

end
-- ==== Proof.MixValue.lean ====
/-
  The branch mixer's gradients as the kernel leaves them: each point of the grid writes a block of rows of every array but one, and adds the
  block's share to the weights' gradient, which the last point writes back.
-/
module

public import proofs.«01_k».proof.Proof.MixBlock
public import proofs.«01_k».proof.Proof.MixReference
public import proofs.«01_k».proof.Proof.Gen.Kernel6Ideal.Value
public import Idealize.ShloMosaic.Lib.Pipeline.ValueKit.Geometry

@[expose] public section

noncomputable section

namespace Cert.Mix

open Cert.Kernel6Ideal Cert.Kernel6Ideal.Gen
open Idealize.ShloMosaic Idealize.ShloMosaic.TcCoe Idealize.SL.Sem
open scoped BigOperators

theorem hz : (![0, 0] : Fin 2 → Nat) = fun _ => 0 := funext fun a => by fin_cases a <;> rfl

section Loads

variable {e : EltTy} (w : Vec Ideal S3x512x1024 e) (g : FVec Ideal S256x3072 .f32)

theorem ld_slab0 (i) : View.ld (Val := Elt Ideal) (e' := e) w (Rect.unit (s := S3x512x1024) ![0, 0, 0] ![1, 512, 1024] i) = slab 0 w := ld_slab 0 w i
theorem ld_slab1 (i) : View.ld (Val := Elt Ideal) (e' := e) w (Rect.unit (s := S3x512x1024) ![1, 0, 0] ![1, 512, 1024] i) = slab 1 w := ld_slab 1 w i
theorem ld_slab2 (i) : View.ld (Val := Elt Ideal) (e' := e) w (Rect.unit (s := S3x512x1024) ![2, 0, 0] ![1, 512, 1024] i) = slab 2 w := ld_slab 2 w i
theorem ld_part0 (i) : View.ld (Val := Elt Ideal) (e' := .f32) g (Rect.unit (s := S256x3072) ![0, 0] ![256, 1024] i) = part 0 g := ld_part 0 _ rfl g i
theorem ld_part1 (i) : View.ld (Val := Elt Ideal) (e' := .f32) g (Rect.unit (s := S256x3072) ![0, 1024] ![256, 1024] i) = part 1 g := ld_part 1 _ rfl g i
theorem ld_part2 (i) : View.ld (Val := Elt Ideal) (e' := .f32) g (Rect.unit (s := S256x3072) ![0, 2048] ![256, 1024] i) = part 2 g := ld_part 2 _ rfl g i

end Loads

variable (m : (ℓ : Loc nD τ sig) → Buf (Elt Ideal) ℓ) (c : Dev nD)

abbrev argX : FVec Ideal S2048x1024 .bf16 := m ((c.tc : Thread nD τ).loc main_arg0)
abbrev argA : FVec Ideal S2048x512 .bf16 := m ((c.tc : Thread nD τ).loc main_arg1)
abbrev argB : FVec Ideal S2048x512 .bf16 := m ((c.tc : Thread nD τ).loc main_arg2)
abbrev argC : FVec Ideal S2048x512 .bf16 := m ((c.tc : Thread nD τ).loc main_arg3)
abbrev argO (k : Fin 3) : FVec Ideal S2048x512 .bf16 := pick (argA m c) (argB m c) (argC m c) k
abbrev argG : FVec Ideal S2048x3072 .f32 := m ((c.tc : Thread nD τ).loc main_arg4)
abbrev argW : FVec Ideal S3x512x1024 .bf16 := m ((c.tc : Thread nD τ).loc main_arg5)
abbrev argWo : FVec Ideal S1024x1024 .bf16 := m ((c.tc : Thread nD τ).loc main_arg6)

/-! ## The blocks that a point reads -/

abbrev bX (t : Fin cfg0.N) : FVec Ideal S256x1024 .bf16 := iblk m c 0 t
abbrev bO (t : Fin cfg0.N) (k : Fin 3) : FVec Ideal S256x512 .bf16 := (![iblk m c 1 t, iblk m c 2 t, iblk m c 3 t] : Fin 3 → FVec Ideal S256x512 .bf16) k
abbrev bG (t : Fin cfg0.N) : FVec Ideal S256x3072 .f32 := iblk m c 4 t
abbrev bW (t : Fin cfg0.N) : FVec Ideal S3x512x1024 .bf16 := iblk m c 5 t
abbrev bWo (t : Fin cfg0.N) : FVec Ideal S1024x1024 .bf16 := iblk m c 6 t

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel
theorem at5 : ∀ t : Fin cfg0.N, win0_5.index t = ![0, 0, 0] := by decide +kernel
theorem at6 : ∀ t : Fin cfg0.N, win0_6.index t = ![0, 0] := by decide +kernel
theorem at7 : ∀ t : Fin cfg0.N, win0_7.index t = ![t.val, 0] := by decide +kernel
theorem at8 : ∀ t : Fin cfg0.N, win0_8.index t = ![0, 0, 0] := by decide +kernel
theorem at9 : ∀ t : Fin cfg0.N, win0_9.index t = ![t.val, 0] := by decide +kernel
theorem at10 : ∀ t : Fin cfg0.N, win0_10.index t = ![t.val, 0] := by decide +kernel
theorem at11 : ∀ t : Fin cfg0.N, win0_11.index t = ![t.val, 0] := by decide +kernel
theorem at12 : ∀ t : Fin cfg0.N, win0_12.index t = ![0, t.val] := by decide +kernel
theorem at13 : ∀ t : Fin cfg0.N, win0_13.index t = ![0, t.val] := by decide +kernel
theorem at14 : ∀ t : Fin cfg0.N, win0_14.index t = ![0, t.val] := by decide +kernel

/-- Row `s` of point `t`'s block. -/
def row (t : Fin cfg0.N) (s : Fin 256) : Fin 2048 := ⟨t.val * 256 + s.val, by
  have ht : t.val < 8 := lt_of_lt_of_eq t.isLt N_0
  omega⟩

theorem bx_at (t : Fin cfg0.N) (s : Fin 256) : bx (bX m c t) s = rowX (argX m c) (row t s) := funext fun n => by
  show V m c main_arg0 _ = _
  rw [V_main_arg0]
  refine congrArg _ (Shape.idx_ext₂ ?_ ?_) <;> unfold row <;> blk_simp [at0] <;> dsimp only <;> omega

theorem bo_at (t : Fin cfg0.N) (k : Fin 3) (s : Fin 256) : bo (bO m c t k) s = rowO (argO m c k) (row t s) := funext fun n => by
  fin_cases k
  · show V m c main_arg1 _ = argA m c _
    rw [V_main_arg1]; refine congrArg _ (Shape.idx_ext₂ ?_ ?_) <;> unfold row <;> blk_simp [at1] <;> dsimp only <;> omega
  · show V m c main_arg2 _ = argB m c _
    rw [V_main_arg2]; refine congrArg _ (Shape.idx_ext₂ ?_ ?_) <;> unfold row <;> blk_simp [at2] <;> dsimp only <;> omega
  · show V m c main_arg3 _ = argC m c _
    rw [V_main_arg3]; refine congrArg _ (Shape.idx_ext₂ ?_ ?_) <;> unfold row <;> blk_simp [at3] <;> dsimp only <;> omega

theorem bg_at (t : Fin cfg0.N) (k : Fin 3) (s : Fin 256) : bg (bG m c t) k s = rowG (argG m c) k (row t s) := funext fun d => by
  show V m c main_arg4 _ = _
  rw [V_main_arg4]
  refine congrArg _ (Shape.idx_ext₂ ?_ ?_) <;> unfold row <;> blk_simp [at4] <;> dsimp only <;> omega

theorem bW_eq (t : Fin cfg0.N) : bW m c t = argW m c := by
  funext i
  show V m c main_arg5 _ = _
  rw [V_main_arg5]
  refine congrArg _ (funext fun a => Fin.ext ?_)
  match a with
  | ⟨0, _⟩ => blk_simp [at5]
  | ⟨1, _⟩ => blk_simp [at5]
  | ⟨2, _⟩ => blk_simp [at5]

theorem bWo_eq (t : Fin cfg0.N) : bWo m c t = argWo m c := by
  funext i
  show V m c main_arg6 _ = _
  rw [V_main_arg6]
  refine congrArg _ (Shape.idx_ext₂ ?_ ?_) <;> blk_simp [at6]

/-! ## What a point leaves -/

theorem cases (t : Fin cfg0.N) : (t.val % 8 = 0 ∧ ¬1 ≤ t.val) ∨ (¬t.val % 8 = 0 ∧ 1 ≤ t.val) := by
  have ht : t.val < 8 := lt_of_lt_of_eq t.isLt N_0
  omega

/-- The blocks of rows that are of one branch each. -/
theorem outs_rows (t : Fin cfg0.N) : (outsAt0 m c t.val t.isLt).2.2.1 = stO (bX m c t) (bWo m c t) (bW m c t) (bG m c t) 0
    ∧ (outsAt0 m c t.val t.isLt).2.2.2.1 = stO (bX m c t) (bWo m c t) (bW m c t) (bG m c t) 1
    ∧ (outsAt0 m c t.val t.isLt).2.2.2.2.1 = stO (bX m c t) (bWo m c t) (bW m c t) (bG m c t) 2
    ∧ (outsAt0 m c t.val t.isLt).2.2.2.2.2.1 = stL (bX m c t) (bWo m c t) (bW m c t) (bG m c t) (bO m c t 0) 0
    ∧ (outsAt0 m c t.val t.isLt).2.2.2.2.2.2.1 = stL (bX m c t) (bWo m c t) (bW m c t) (bG m c t) (bO m c t 1) 1
    ∧ (outsAt0 m c t.val t.isLt).2.2.2.2.2.2.2 = stL (bX m c t) (bWo m c t) (bW m c t) (bG m c t) (bO m c t 2) 2 := by
  rcases cases t with ⟨h0, h1⟩ | ⟨h0, h1⟩
  · rw [outsAt0_A m c t h0 h1 h0 h1 h0 h1]
    dsimp only
    refine ⟨?_, ?_, ?_, ?_, ?_, ?_⟩
    on_goal 1 => unfold out0_A_9
    on_goal 2 => unfold out0_A_10
    on_goal 3 => unfold out0_A_11
    on_goal 4 => unfold out0_A_12
    on_goal 5 => unfold out0_A_13
    on_goal 6 => unfold out0_A_14
    all_goals rw [View.read_writes_junk_eq_canon]; unfold kernelRun0_A; dsimp only; sl_unfold_words; rw [View.canon_unit_zero hz]
    all_goals
      simp only [View.readAt_eq_ld, (hs0_0 t).read_unread, (hs0_1 t).read_unread, (hs0_2 t).read_unread, (hs0_3 t).read_unread, (hs0_4 t).read_unread,
        (hs0_5 t).read_unread, (hs0_6 t).read_unread, (hs0_8 t).read_unread, View.ld_unit_zero (S := S256x1024) hz, View.ld_unit_zero (S := S256x512) hz,
        View.ld_unit_zero (S := S1024x1024) hz, ld_slab0, ld_slab1, ld_slab2, ld_part0, ld_part1, ld_part2]
      rfl
  · rw [outsAt0_B m c t h0 h1 h0 h1 h0 h1]
    dsimp only
    refine ⟨?_, ?_, ?_, ?_, ?_, ?_⟩
    on_goal 1 => unfold out0_B_9
    on_goal 2 => unfold out0_B_10
    on_goal 3 => unfold out0_B_11
    on_goal 4 => unfold out0_B_12
    on_goal 5 => unfold out0_B_13
    on_goal 6 => unfold out0_B_14
    all_goals rw [View.read_writes_junk_eq_canon]; unfold kernelRun0_B; dsimp only; sl_unfold_words; rw [View.canon_unit_zero hz]
    all_goals
      simp only [View.readAt_eq_ld, (hs0_0 t).read_unread, (hs0_1 t).read_unread, (hs0_2 t).read_unread, (hs0_3 t).read_unread, (hs0_4 t).read_unread,
        (hs0_5 t).read_unread, (hs0_6 t).read_unread, (hs0_8 t).read_unread, View.ld_unit_zero (S := S256x1024) hz, View.ld_unit_zero (S := S256x512) hz,
        View.ld_unit_zero (S := S1024x1024) hz, ld_slab0, ld_slab1, ld_slab2, ld_part0, ld_part1, ld_part2]
      rfl

/-- The gates' block. -/
theorem out_gates (t : Fin cfg0.N) (s : Fin 256) (n : Fin 3072) : (outsAt0 m c t.val t.isLt).1 (ix2 s n)
    = stG (bX m c t) (bWo m c t) (bW m c t) (bG m c t) (bO m c t (branchOf n)) (branchOf n) (ix2 s (colOf n)) := by
  rcases cases t with ⟨h0, h1⟩ | ⟨h0, h1⟩
  · rw [outsAt0_A m c t h0 h1 h0 h1 h0 h1]
    dsimp only
    unfold out0_A_7 kernelRun0_A
    rw [View.read_writes_junk_eq_canon]
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_8 t).read_unread, View.ld_unit_zero (S := S256x1024) hz, View.ld_unit_zero (S := S256x512) hz,
      View.ld_unit_zero (S := S1024x1024) hz, ld_slab0, ld_slab1, ld_slab2, ld_part0, ld_part1, ld_part2]
    exact three2 (fun k => stG (bX m c t) (bWo m c t) (bW m c t) (bG m c t) (bO m c t k) k) _ _ _ s n
  · rw [outsAt0_B m c t h0 h1 h0 h1 h0 h1]
    dsimp only
    unfold out0_B_7 kernelRun0_B
    rw [View.read_writes_junk_eq_canon]
    sl_unfold_words
    simp only [View.readAt_eq_ld, (hs0_0 t).read_unread, (hs0_1 t).read_unread, (hs0_2 t).read_unread, (hs0_3 t).read_unread, (hs0_4 t).read_unread,
      (hs0_5 t).read_unread, (hs0_6 t).read_unread, (hs0_8 t).read_unread, View.ld_unit_zero (S := S256x1024) hz, View.ld_unit_zero (S := S256x512) hz,
      View.ld_unit_zero (S := S1024x1024) hz, ld_slab0, ld_slab1, ld_slab2, ld_part0, ld_part1, ld_part2]
    exact three2 (fun k => stG (bX m c t) (bWo m c t) (bW m c t) (bG m c t) (bO m c t k) k) _ _ _ s n

/-- The weights' gradient after the first point. -/
theorem out_first (t : Fin cfg0.N) (h0 : t.val % 8 = 0) (h1 : ¬1 ≤ t.val) (k : Fin 3) (a : Fin 512) (d : Fin 1024) :
    (outsAt0 m c t.val t.isLt).2.1 (ix3 k a d) = stW (bX m c t) (bWo m c t) (bG m c t) (bO m c t k) k (ix3 0 a d) := by
  rw [outsAt0_A m c t h0 h1 h0 h1 h0 h1]
  dsimp only
  unfold out0_A_8 kernelRun0_A
  rw [View.read_writes_junk_eq_canon]
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_8 t).read_unread, View.ld_unit_zero (S := S256x1024) hz, View.ld_unit_zero (S := S256x512) hz,
    View.ld_unit_zero (S := S1024x1024) hz, ld_slab0, ld_slab1, ld_slab2, ld_part0, ld_part1, ld_part2]
  exact three3 (fun k => stW (bX m c t) (bWo m c t) (bG m c t) (bO m c t k) k) _ _ _ k a d

/-- The weights' gradient after a later point, on what the point before it left. -/
theorem out_later (t : Fin cfg0.N) (h0 : ¬t.val % 8 = 0) (h1 : 1 ≤ t.val) (u : FVec Ideal S3x512x1024 .f32)
    (hu : (outsAt0 m c (t.val - 1) (Nat.lt_of_le_of_lt (Nat.sub_le _ _) t.isLt)).2.1 = u) (k : Fin 3) (a : Fin 512) (d : Fin 1024) :
    (outsAt0 m c t.val t.isLt).2.1 (ix3 k a d) = stU (bX m c t) (bWo m c t) (bG m c t) (bO m c t k) k u (ix3 0 a d) := by
  rw [outsAt0_B m c t h0 h1 h0 h1 h0 h1]
  dsimp only
  unfold out0_B_8 kernelRun0_B
  rw [View.read_writes_junk_eq_canon]
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_8 t).read_unread, View.ld_unit_zero (S := S256x1024) hz, View.ld_unit_zero (S := S256x512) hz,
    View.ld_unit_zero (S := S1024x1024) hz, ld_slab0, ld_slab1, ld_slab2, ld_part0, ld_part1, ld_part2, hu]
  exact three3 (fun k => stU (bX m c t) (bWo m c t) (bG m c t) (bO m c t k) k u) _ _ _ k a d

/-! ## The arrays of rows -/

theorem arrG : (dats m 0 c).arrAt 7 cfg0.N = gradG (argX m c) (argA m c) (argB m c) (argC m c) (argG m c) (argW m c) (argWo m c) := by
  have h : ∀ (t : Fin cfg0.N) (s : Fin 256) (n : Fin 3072), (outsAt0 m c t.val t.isLt).1 (ix2 s n)
      = gradG (argX m c) (argA m c) (argB m c) (argC m c) (argG m c) (argW m c) (argWo m c) (ix2 (row t s) n) := fun t s n => by
    refine (out_gates m c t s n).trans ((stG_at _ _ _ _ _ _ s (colOf n)).trans ?_)
    rw [bx_at, bo_at, bg_at, bW_eq, bWo_eq]
    unfold rowG
    rw [gateCol_of]
    rfl
  refine (dats m 0 c).arrAt_eq_of_covers 7 _ (by decide +kernel) fun t hf y => ?_
  refine Eq.trans ?_ ((h t (y 0) (y 1)).trans (congrArg _ (Shape.idx_ext₂ ?_ ?_)))
  · blk_simp; rw [after0_7]; exact congrArg _ (Shape.idx_ext₂ rfl rfl)
  · unfold row; blk_simp [at7]
  · blk_simp [at7]

theorem arrO : (dats m 0 c).arrAt 9 cfg0.N = gradO (argX m c) (argG m c) (argW m c) (argWo m c) 0
    ∧ (dats m 0 c).arrAt 10 cfg0.N = gradO (argX m c) (argG m c) (argW m c) (argWo m c) 1
    ∧ (dats m 0 c).arrAt 11 cfg0.N = gradO (argX m c) (argG m c) (argW m c) (argWo m c) 2 := by
  have h : ∀ (k : Fin 3) (t : Fin cfg0.N) (s : Fin 256) (a : Fin 512), stO (bX m c t) (bWo m c t) (bW m c t) (bG m c t) k (ix2 s a)
      = gradO (argX m c) (argG m c) (argW m c) (argWo m c) k (ix2 (row t s) a) := fun k t s a => by
    refine (stO_at _ _ _ _ k s a).trans ?_
    rw [bx_at, bg_at, bW_eq, bWo_eq]; rfl
  refine ⟨(dats m 0 c).arrAt_eq_of_covers 9 _ (by decide +kernel) fun t hf y => Eq.trans ?_ ((h 0 t (y 0) (y 1)).trans (congrArg _ (Shape.idx_ext₂ ?_ ?_))),
    (dats m 0 c).arrAt_eq_of_covers 10 _ (by decide +kernel) fun t hf y => Eq.trans ?_ ((h 1 t (y 0) (y 1)).trans (congrArg _ (Shape.idx_ext₂ ?_ ?_))),
    (dats m 0 c).arrAt_eq_of_covers 11 _ (by decide +kernel) fun t hf y => Eq.trans ?_ ((h 2 t (y 0) (y 1)).trans (congrArg _ (Shape.idx_ext₂ ?_ ?_)))⟩
  · blk_simp; rw [after0_9, (outs_rows m c t).1]; exact congrArg _ (Shape.idx_ext₂ rfl rfl)
  · unfold row; blk_simp [at9]
  · blk_simp [at9]
  · blk_simp; rw [after0_10, (outs_rows m c t).2.1]; exact congrArg _ (Shape.idx_ext₂ rfl rfl)
  · unfold row; blk_simp [at10]
  · blk_simp [at10]
  · blk_simp; rw [after0_11, (outs_rows m c t).2.2.1]; exact congrArg _ (Shape.idx_ext₂ rfl rfl)
  · unfold row; blk_simp [at11]
  · blk_simp [at11]

theorem arrL : (dats m 0 c).arrAt 12 cfg0.N = gradL (argX m c) (argG m c) (argW m c) (argWo m c) 0 (argA m c)
    ∧ (dats m 0 c).arrAt 13 cfg0.N = gradL (argX m c) (argG m c) (argW m c) (argWo m c) 1 (argB m c)
    ∧ (dats m 0 c).arrAt 14 cfg0.N = gradL (argX m c) (argG m c) (argW m c) (argWo m c) 2 (argC m c) := by
  have h : ∀ (k : Fin 3) (t : Fin cfg0.N) (j : Fin 8) (s : Fin 256), stL (bX m c t) (bWo m c t) (bW m c t) (bG m c t) (bO m c t k) k (ix2 j s)
      = gradL (argX m c) (argG m c) (argW m c) (argWo m c) k (argO m c k) (ix2 j (row t s)) := fun k t j s => by
    refine (stL_at _ _ _ _ _ k j s).trans ?_
    rw [bx_at, bo_at, bg_at, bW_eq, bWo_eq]; rfl
  refine ⟨(dats m 0 c).arrAt_eq_of_covers 12 _ (by decide +kernel) fun t hf y => Eq.trans ?_ ((h 0 t (y 0) (y 1)).trans (congrArg _ (Shape.idx_ext₂ ?_ ?_))),
    (dats m 0 c).arrAt_eq_of_covers 13 _ (by decide +kernel) fun t hf y => Eq.trans ?_ ((h 1 t (y 0) (y 1)).trans (congrArg _ (Shape.idx_ext₂ ?_ ?_))),
    (dats m 0 c).arrAt_eq_of_covers 14 _ (by decide +kernel) fun t hf y => Eq.trans ?_ ((h 2 t (y 0) (y 1)).trans (congrArg _ (Shape.idx_ext₂ ?_ ?_)))⟩
  · blk_simp; rw [after0_12, (outs_rows m c t).2.2.2.1]; exact congrArg _ (Shape.idx_ext₂ rfl rfl)
  · blk_simp [at12]
  · unfold row; blk_simp [at12]
  · blk_simp; rw [after0_13, (outs_rows m c t).2.2.2.2.1]; exact congrArg _ (Shape.idx_ext₂ rfl rfl)
  · blk_simp [at13]
  · unfold row; blk_simp [at13]
  · blk_simp; rw [after0_14, (outs_rows m c t).2.2.2.2.2]; exact congrArg _ (Shape.idx_ext₂ rfl rfl)
  · blk_simp [at14]
  · unfold row; blk_simp [at14]

/-! ## The weights' gradient -/

/-- Point `t`'s share of the weights' gradient, of the argument arrays. -/
def share (k : Fin 3) (a : Fin 512) (d : Fin 1024) (t : Fin cfg0.N) : EReal :=
  ∑ s : Fin 256, rowO (argO m c k) (row t s) a * dyE (rowX (argX m c) (row t s)) (argWo m c) (rowG (argG m c) k (row t s) d) d

theorem wE_blk (t : Fin cfg0.N) (k : Fin 3) (a : Fin 512) (d : Fin 1024) :
    wE (bX m c t) (bWo m c t) (bG m c t) (bO m c t k) k a d = share m c k a d t := by
  unfold wE share
  refine Finset.sum_congr rfl fun s _ => ?_
  rw [bo_at, bx_at, bg_at, bWo_eq]

theorem outs_eq {n n' : ℕ} (h h') (e : n = n') : outsAt0 m c n h = outsAt0 m c n' h' := by subst e; rfl

abbrev pt (j : Fin 8) : Fin cfg0.N := j.cast N_0.symm

/-- The sum after each point. -/
theorem sum_at (k : Fin 3) (a : Fin 512) (d : Fin 1024) : ∀ (n : ℕ) (hn : n < 8) (h),
    (outsAt0 m c n h).2.1 (ix3 k a d) = ∑ j : Fin (n + 1), share m c k a d (pt ⟨j.val, by omega⟩)
  | 0, hn, h => by
    rw [Fin.sum_univ_one]
    exact (out_first m c (pt 0) rfl (show ¬1 ≤ 0 by omega) k a d).trans ((stW_at _ _ _ _ k 0 a d).trans (wE_blk m c (pt 0) k a d))
  | n + 1, hn, h => by
    refine (out_later m c (pt ⟨n + 1, hn⟩) (show ¬(n + 1) % 8 = 0 by omega) (show 1 ≤ n + 1 by omega) (outsAt0 m c n (Nat.lt_of_succ_lt h)).2.1 rfl
      k a d).trans ((stU_at _ _ _ _ k _ 0 a d).trans ?_)
    rw [sum_at k a d n (by omega) (Nat.lt_of_succ_lt h), wE_blk]
    exact (Fin.sum_univ_castSucc (fun j : Fin (n + 2) => share m c k a d (pt ⟨j.val, by omega⟩))).symm

theorem arrW : (dats m 0 c).arrAt 8 cfg0.N = gradW (argX m c) (argA m c) (argB m c) (argC m c) (argG m c) (argWo m c) := by
  have h : ∀ (t : Fin cfg0.N) (ht : t.val = 7) (k : Fin 3) (a : Fin 512) (d : Fin 1024), (outsAt0 m c t.val t.isLt).2.1 (ix3 k a d)
      = gradW (argX m c) (argA m c) (argB m c) (argC m c) (argG m c) (argWo m c) (ix3 k a d) := fun t ht k a d => by
    rw [outs_eq m c t.isLt (lt_of_lt_of_eq (show 7 < 8 by omega) N_0.symm) ht, sum_at m c k a d 7 (by omega)]
    exact (Fin.sum_univ_tiles (N := 2048) 8 256 (by rfl)
      (fun s => rowO (argO m c k) s a * dyE (rowX (argX m c) s) (argWo m c) (rowG (argG m c) k s d) d)).symm
  refine (dats m 0 c).arrAt_eq_of_covers 8 _ (by decide +kernel) fun t hf y => ?_
  have hl : t.val % 8 = 7 := (flush0_8 t).mp hf
  have ht : t.val < 8 := lt_of_lt_of_eq t.isLt N_0
  refine Eq.trans ?_ ((h t (by omega) (y 0) (y 1) (y 2)).trans (congrArg _ (funext fun a => Fin.ext ?_)))
  · blk_simp; rw [after0_8]; exact congrArg _ (funext fun a => by fin_cases a <;> rfl)
  match a with
  | ⟨0, _⟩ => blk_simp [at8]; rfl
  | ⟨1, _⟩ => blk_simp [at8]; rfl
  | ⟨2, _⟩ => blk_simp [at8]; rfl

end Cert.Mix

end
-- ==== Proof.Mix.lean ====
/-
  The branch mixer: the kernel's eight results are the reference's, and each program runs and leaves its arguments as they were.
-/
module

public import proofs.«01_k».proof.Proof.MixValue
public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal

@[expose] public section

set_option maxRecDepth 16384

noncomputable section

namespace Cert.Mix

open Idealize.ShloMosaic Idealize.ShloMosaic.TcCoe Idealize.SL.Sem
open Cert.Kernel6Ideal Cert.Kernel6Ideal.Gen

theorem frame_kernel : Cert.quiescent_Kernel6 (hKernel6 := Cert.Kernel6.Gen.facts) := fun m g _ => Cert.Kernel6.Gen.frame m g

theorem frame_kernelIdeal : Cert.quiescent_Kernel6Ideal (hKernel6Ideal := Cert.Kernel6Ideal.Gen.facts) := fun m g _ => Cert.Kernel6Ideal.Gen.frame m g

theorem frame_reference : Cert.quiescent_Reference6Ideal (hReference6Ideal := Cert.Reference6Ideal.Gen.facts) := fun m g _ =>
  (θ_run Cert.Reference6Ideal.defs _ _).mono (fun r h => ⟨fun c => (h c).2.2.2.2.2.2.2.2, sem_eq_zero_of_no_sems (by decide) r.2⟩)
    (Cert.Reference6Ideal.Value.run (F := Ideal) m g)

theorem algebraic : Cert.algebraic_Kernel6Ideal_Reference6Ideal (hKernel6Ideal := Cert.Kernel6Ideal.Gen.facts)
    (hReference6Ideal := Cert.Reference6Ideal.Gen.facts) := by
  intro m g m' g' hpre hargs
  refine ⟨fun c => gradG (argX m c) (argA m c) (argB m c) (argC m c) (argG m c) (argW m c) (argWo m c),
    fun c => gradW (argX m c) (argA m c) (argB m c) (argC m c) (argG m c) (argWo m c),
    fun c => gradO (argX m c) (argG m c) (argW m c) (argWo m c) 0,
    fun c => gradO (argX m c) (argG m c) (argW m c) (argWo m c) 1,
    fun c => gradO (argX m c) (argG m c) (argW m c) (argWo m c) 2,
    fun c => gradL (argX m c) (argG m c) (argW m c) (argWo m c) 0 (argA m c),
    fun c => gradL (argX m c) (argG m c) (argW m c) (argWo m c) 1 (argB m c),
    fun c => gradL (argX m c) (argG m c) (argW m c) (argWo m c) 2 (argC m c),
    (θ_run Cert.Kernel6Ideal.defs _ _).mono (fun r h c => ?_) (Cert.Kernel6Ideal.Value.run_blocks m g),
    (θ_run Cert.Reference6Ideal.defs _ _).mono (fun r h c => ?_) (Cert.Reference6Ideal.Value.run (F := Ideal) m' g')⟩
  · obtain ⟨h7, h8, h9, h10, h11, h12, h13, h14, hk⟩ := h c
    exact ⟨h7.trans (arrG m c), h8.trans (arrW m c), h9.trans (arrO m c).1, h10.trans (arrO m c).2.1, h11.trans (arrO m c).2.2, h12.trans (arrL m c).1,
      h13.trans (arrL m c).2.1, h14.trans (arrL m c).2.2, hk⟩
  · obtain ⟨h7, h8, h9, h10, h11, h12, h13, h14, hk⟩ := h c
    obtain ⟨a0, a1, a2, a3, a4, a5, a6⟩ := hargs c
    refine ⟨h7.trans ((refG _ _ _ _ _ _ _).trans ?_), h8.trans ((refW _ _ _ _ _ _).trans ?_), h9.trans ((refO _ _ _ _ (k := 0) _).trans ?_),
      h10.trans ((refO _ _ _ _ (k := 1) _).trans ?_), h11.trans ((refO _ _ _ _ (k := 2) _).trans ?_), h12.trans ((refL _ _ _ _ (k := 0) _ _).trans ?_),
      h13.trans ((refL _ _ _ _ (k := 1) _ _).trans ?_), h14.trans ((refL _ _ _ _ (k := 2) _ _).trans ?_), hk⟩
    all_goals simp only [a0, a1, a2, a3, a4, a5, a6]

end Cert.Mix

end
-- ==== Proof.FfnIn.lean ====
/-
  The first half of the feed-forward block: tile by tile, the kernel leaves the gate's column through its own logistic times the other half's, as
  the reference does.
-/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Geometry

@[expose] public section

noncomputable section

namespace Cert.FfnIn

open Cert.Kernel7Ideal Cert.Kernel7Ideal.Gen
open Idealize.ShloMosaic Idealize.ShloMosaic.TcCoe Idealize.SL.Sem
open scoped BigOperators

/-- The two halves of the projection's columns. -/
def lo (n : Fin 2816) : Fin 5632 := ⟨n.val, by omega⟩
def hi (n : Fin 2816) : Fin 5632 := ⟨2816 + n.val, by omega⟩

/-- A row of the input against a row of the projection's transpose. -/
def proj (h : FVec Ideal S2048x1024 .bf16) (w : FVec Ideal S5632x1024 .bf16) (s : Fin 2048) (n : Fin 5632) : EReal :=
  ∑ k : Fin 1024, h (ix2 s k) * w (ix2 n k)

/-- The gate through its own logistic, times the other half. -/
def gated (a u : EReal) : EReal := a * Ideal.logistic a * u

def actE (h : FVec Ideal S2048x1024 .bf16) (w : FVec Ideal S5632x1024 .bf16) (s : Fin 2048) (n : Fin 2816) : EReal :=
  gated (proj h w s (lo n)) (proj h w s (hi n))

/-- The activations. -/
def act (h : FVec Ideal S2048x1024 .bf16) (w : FVec Ideal S5632x1024 .bf16) : FVec Ideal S2048x2816 .bf16 := fun i => actE h w (i 0) (i 1)

theorem hz : (![0, 0] : Fin 2 → Nat) = fun _ => 0 := funext fun a => by fin_cases a <;> rfl

/-- The body's value from its three blocks. -/
theorem out_at (h : Vec Ideal S512x1024 .bf16) (g u : Vec Ideal S1408x1024 .bf16) (s : Fin 512) (n : Fin 1408) :
    out0_3 h g u (ix2 s n) = gated (∑ k : Fin 1024, h (ix2 s k) * g (ix2 n k)) (∑ k : Fin 1024, h (ix2 s k) * u (ix2 n k)) := by
  unfold out0_3
  rw [View.canon_unit_zero hz, View.ld_unit_zero (S := S512x1024) hz, View.ld_unit_zero (S := S1408x1024) hz, View.ld_unit_zero (S := S1408x1024) hz]
  unfold k0_pay1 gated
  pointwise

theorem at0 : ∀ t : Fin cfg0.N, win0_0.index t = ![t.val % 4, 0] := by decide +kernel
theorem at1 : ∀ t : Fin cfg0.N, win0_1.index t = ![t.val / 4, 0] := by decide +kernel
theorem at2 : ∀ t : Fin cfg0.N, win0_2.index t = ![t.val / 4 + 2, 0] := by decide +kernel
theorem at3 : ∀ t : Fin cfg0.N, win0_3.index t = ![t.val % 4, t.val / 4] := by decide +kernel

variable (m : (ℓ : Loc nD τ sig) → Buf (Elt Ideal) ℓ) (ρ : Dev nD → PrngReg) (c : Dev nD)

abbrev argH : FVec Ideal S2048x1024 .bf16 := m ((c.tc : Thread nD τ).loc main_arg0)
abbrev argW : FVec Ideal S5632x1024 .bf16 := m ((c.tc : Thread nD τ).loc main_arg1)

/-- Row `s` of the row block of point `t`, and column `n` of its column block. -/
def row (t : Fin cfg0.N) (s : Fin 512) : Fin 2048 := ⟨512 * (t.val % 4) + s.val, by omega⟩
def col (t : Fin cfg0.N) (n : Fin 1408) : Fin 2816 := ⟨1408 * (t.val / 4) + n.val, by have := lt_of_lt_of_eq t.isLt N_0; omega⟩

variable (t : Fin cfg0.N)

theorem blk0 (s : Fin 512) (k : Fin 1024) : (iblk m c 0 t : Vec Ideal S512x1024 .bf16) (ix2 s k) = argH m c (ix2 (row t s) k) := by
  show V m c main_arg0 _ = _
  rw [V_main_arg0]
  refine congrArg _ (Shape.idx_ext₂ ?_ ?_) <;> unfold row <;> blk_simp [at0] <;> dsimp only <;> omega

theorem blk1 (n : Fin 1408) (k : Fin 1024) : (iblk m c 1 t : Vec Ideal S1408x1024 .bf16) (ix2 n k) = argW m c (ix2 (lo (col t n)) k) := by
  show V m c main_arg1 _ = _
  rw [V_main_arg1]
  refine congrArg _ (Shape.idx_ext₂ ?_ ?_) <;> unfold lo col <;> blk_simp [at1] <;> dsimp only <;> omega

theorem blk2 (n : Fin 1408) (k : Fin 1024) : (iblk m c 2 t : Vec Ideal S1408x1024 .bf16) (ix2 n k) = argW m c (ix2 (hi (col t n)) k) := by
  show V m c main_arg1 _ = _
  rw [V_main_arg1]
  refine congrArg _ (Shape.idx_ext₂ ?_ ?_) <;> unfold hi col <;> blk_simp [at2] <;> dsimp only <;> omega

/-- After point `t` the output's buffer holds the activations at the rows and columns of its tile. -/
theorem after_at (s : Fin 512) (n : Fin 1408) :
    ((dats m 0 c).after 3 t : Vec Ideal S512x1408 .bf16) (ix2 s n) = act (argH m c) (argW m c) (ix2 (row t s) (col t n)) := by
  rw [after0_3, out_at]
  show _ = actE (argH m c) (argW m c) (row t s) (col t n)
  unfold actE proj
  simp only [blk0, blk1, blk2]

theorem arr : (dats m 0 c).arrAt 3 cfg0.N = act (argH m c) (argW m c) := by
  refine (dats m 0 c).arrAt_eq_of_covers 3 _ (by decide +kernel) fun t hf y => ?_
  have h0 : (y 0).val < 512 := (y 0).isLt
  have h1 : (y 1).val < 1408 := (y 1).isLt
  refine Eq.trans ?_ ((after_at m c t (y 0) (y 1)).trans (congrArg _ (Shape.idx_ext₂ ?_ ?_)))
  · blk_simp; exact congrArg _ (Shape.idx_ext₂ rfl rfl)
  · unfold row; blk_simp [at3]; dsimp only; omega
  · unfold col; blk_simp [at3]; dsimp only; omega

section Reference

variable (h : FVec Ideal S2048x1024 .bf16) (w : FVec Ideal S5632x1024 .bf16)

/-- The reference's projection, and the logistic of its gate. -/
def rProj : FVec Ideal Cert.Reference7Ideal.S2048x5632 .f32 :=
  Host.dotGeneral Cert.Reference7Ideal.dot_S2048x1024_S1024x5632_S2048x5632_1_0_0_1_n_n none (extf .f32 h Cert.Reference7Ideal.Facts₀.bitsLt_bf16_f32)
    (transpose Cert.Reference7Ideal.S1024x5632 [1, 0] (extf .f32 w Cert.Reference7Ideal.Facts₀.bitsLt_bf16_f32) Cert.Reference7Ideal.Facts₀.transposes_S5632x1024_S1024x5632_1_0)

def rGate : FVec Ideal S2048x2816 .f32 := extractStridedSlice S2048x2816 ![0, 0] (rProj h w) Cert.Reference7Ideal.Facts₀.slices_S2048x5632_S2048x2816_0_0

def rUp : FVec Ideal S2048x2816 .f32 := extractStridedSlice S2048x2816 ![0, 2816] (rProj h w) Cert.Reference7Ideal.Facts₀.slices_S2048x5632_S2048x2816_0_2816

def rOne : FVec Ideal S2048x2816 .f32 := broadcastInDim S2048x2816 ![] Cert.Reference7Ideal.Facts₀.bcast_S_S2048x2816 (constant Cert.Reference7Ideal.S_ .f32 0x3F800000#32)

def rSig : FVec Ideal S2048x2816 .f32 := Host.divf rOne (addf rOne (Host.exp (Host.negf (rGate h w))))

theorem rProj_at (s : Fin 2048) (n : Fin 5632) : rProj h w (ix2 s n) = proj h w s n := by
  unfold rProj proj; pointwise

theorem rGate_at (s : Fin 2048) (n : Fin 2816) : rGate h w (ix2 s n) = proj h w s (lo n) := by
  refine Eq.trans ?_ (rProj_at h w s (lo n))
  unfold rGate lo; pointwise

theorem rUp_at (s : Fin 2048) (n : Fin 2816) : rUp h w (ix2 s n) = proj h w s (hi n) := by
  refine Eq.trans ?_ (rProj_at h w s (hi n))
  unfold rUp hi; pointwise

theorem rOne_at (s : Fin 2048) (n : Fin 2816) : rOne (ix2 s n) = 1 := by
  unfold rOne; pointwise

theorem rSig_at (s : Fin 2048) (n : Fin 2816) : rSig h w (ix2 s n) = Ideal.logistic (proj h w s (lo n)) := by
  unfold rSig; pointwise [rOne_at, rGate_at]; rfl

/-- The reference's result. -/
def rAct : FVec Ideal S2048x2816 .bf16 := truncf .bf16 (mulf (mulf (rGate h w) (rSig h w)) (rUp h w)) Cert.Reference7Ideal.Facts₀.bitsLt_bf16_f32

theorem rAct_at (s : Fin 2048) (n : Fin 2816) : rAct h w (ix2 s n) = actE h w s n := by
  unfold rAct actE gated; pointwise [rGate_at, rSig_at, rUp_at]

theorem reference_at : rAct h w = act h w :=
  funext fun i => Eq.trans (congrArg (rAct h w) (Shape.idx_ext₂ rfl rfl : i = ix2 (i 0) (i 1))) (rAct_at h w (i 0) (i 1))

end Reference

end Cert.FfnIn

end
-- ==== Proof.FfnOut.lean ====
/-
  The second half of the feed-forward block: tile by tile, the kernel leaves the product of the activations and the projection, and the running
  sum with that product through the gate, as the reference does.
-/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit.Geometry

@[expose] public section

noncomputable section

namespace Cert.FfnOut

open Cert.Kernel8Ideal Cert.Kernel8Ideal.Gen
open Idealize.ShloMosaic Idealize.ShloMosaic.TcCoe Idealize.SL.Sem
open scoped BigOperators

/-- A row of the activations against a column of the projection. -/
def prodE (a : FVec Ideal S2048x2816 .bf16) (w : FVec Ideal S2816x1024 .bf16) (s : Fin 2048) (n : Fin 1024) : EReal :=
  ∑ k : Fin 2816, a (ix2 s k) * w (ix2 k n)

/-- The product, and the running sum with it through the gate. -/
def prod (a : FVec Ideal S2048x2816 .bf16) (w : FVec Ideal S2816x1024 .bf16) : FVec Ideal S2048x1024 .bf16 := fun i => prodE a w (i 0) (i 1)

def total (a : FVec Ideal S2048x2816 .bf16) (w : FVec Ideal S2816x1024 .bf16) (x : FVec Ideal S2048x1024 .f32) (g : FVec Ideal S1x1024 .f32) :
    FVec Ideal S2048x1024 .f32 := fun i => x (ix2 (i 0) (i 1)) + g (ix2 0 (i 1)) * prodE a w (i 0) (i 1)

theorem hz : (![0, 0] : Fin 2 → Nat) = fun _ => 0 := funext fun a => by fin_cases a <;> rfl

section Body

variable (c : Dev nD) (i : grid0.Coords) (a3 : Memref sig .tc .vmem S1024x2816 .bf16) (h3 : a3.IsWhole) (a4 : Memref sig .tc .vmem S2816x512 .bf16)
  (h4 : a4.IsWhole) (a5 : Memref sig .tc .vmem S1024x512 .f32) (h5 : a5.IsWhole) (a6 : Memref sig .tc .vmem S1x512 .f32) (h6 : a6.IsWhole)
  (a7 : Memref sig .tc .vmem S1024x512 .f32) (h7 : a7.IsWhole) (a8 : Memref sig .tc .vmem S1024x512 .bf16) (h8 : a8.IsWhole)
  (a9 : Memref sig .tc .vmem S8x128 .f32) (h9 : a9.IsWhole)
  (x0 : Vec Ideal S1024x2816 .bf16) (x1 : Vec Ideal S2816x512 .bf16) (x2 : Vec Ideal S1024x512 .f32) (x3 : Vec Ideal S1x512 .f32)

/-- What the body leaves in its two outputs. -/
theorem out4_eq : out0_A_4 c i a3 h3 a4 h4 a5 h5 a6 h6 a7 h7 a8 h8 a9 h9 x0 x1 x2 x3 = k0_pay2 x0 x1 x2 x3 := by
  unfold out0_A_4
  rw [View.read_writes_eq_canon _ _ _ (cover0_A_4 c i a3 h3 a4 h4 a5 h5 a6 h6 a7 h7 a8 h8 a9 h9 x0 x1 x2 x3)]
  unfold kernelRun0_A
  dsimp only
  sl_unfold_words
  rw [View.canon_unit_zero hz]
  simp only [View.readAt_eq_ld, h3.read_unread, h4.read_unread, h5.read_unread, h6.read_unread, View.ld_unit_zero (S := S1024x2816) hz,
    View.ld_unit_zero (S := S2816x512) hz, View.ld_unit_zero (S := S1024x512) hz, View.ld_unit_zero (S := S1x512) hz]

theorem out5_eq : out0_A_5 c i a3 h3 a4 h4 a5 h5 a6 h6 a7 h7 a8 h8 a9 h9 x0 x1 x2 x3 = k0_pay3 x0 x1 := by
  unfold out0_A_5
  rw [View.read_writes_eq_canon _ _ _ (cover0_A_5 c i a3 h3 a4 h4 a5 h5 a6 h6 a7 h7 a8 h8 a9 h9 x0 x1 x2 x3)]
  unfold kernelRun0_A
  dsimp only
  sl_unfold_words
  rw [View.canon_unit_zero hz]
  simp only [View.readAt_eq_ld, h3.read_unread, h4.read_unread, View.ld_unit_zero (S := S1024x2816) hz, View.ld_unit_zero (S := S2816x512) hz]

theorem pay_at (s : Fin 1024) (n : Fin 512) : k0_pay1 x0 x1 (ix2 s n) = ∑ k : Fin 2816, x0 (ix2 s k) * x1 (ix2 k n) := by
  unfold k0_pay1; pointwise

theorem pay2_at (s : Fin 1024) (n : Fin 512) :
    k0_pay2 x0 x1 x2 x3 (ix2 s n) = x2 (ix2 s n) + x3 (ix2 0 n) * ∑ k : Fin 2816, x0 (ix2 s k) * x1 (ix2 k n) := by
  unfold k0_pay2; pointwise [pay_at]

theorem pay3_at (s : Fin 1024) (n : Fin 512) : k0_pay3 x0 x1 (ix2 s n) = ∑ k : Fin 2816, x0 (ix2 s k) * x1 (ix2 k n) := by
  unfold k0_pay3; pointwise [pay_at]

end Body

theorem at0 : ∀ t : Fin cfg0.N, win0_0.index t = ![t.val / 2, 0] := by decide +kernel
theorem at1 : ∀ t : Fin cfg0.N, win0_1.index t = ![0, t.val % 2] := by decide +kernel
theorem at2 : ∀ t : Fin cfg0.N, win0_2.index t = ![t.val / 2, t.val % 2] := by decide +kernel
theorem at3 : ∀ t : Fin cfg0.N, win0_3.index t = ![0, t.val % 2] := by decide +kernel
theorem at4 : ∀ t : Fin cfg0.N, win0_4.index t = ![t.val / 2, t.val % 2] := by decide +kernel
theorem at5 : ∀ t : Fin cfg0.N, win0_5.index t = ![t.val / 2, t.val % 2] := by decide +kernel

variable (m : (ℓ : Loc nD τ sig) → Buf (Elt Ideal) ℓ) (ρ : Dev nD → PrngReg) (c : Dev nD)

abbrev argA : FVec Ideal S2048x2816 .bf16 := m ((c.tc : Thread nD τ).loc main_arg0)
abbrev argW : FVec Ideal S2816x1024 .bf16 := m ((c.tc : Thread nD τ).loc main_arg1)
abbrev argX : FVec Ideal S2048x1024 .f32 := m ((c.tc : Thread nD τ).loc main_arg2)
abbrev argG : FVec Ideal S1x1024 .f32 := m ((c.tc : Thread nD τ).loc main_arg3)

/-- Row `s` of the row block of point `t`, and column `n` of its column block. -/
def row (t : Fin cfg0.N) (s : Fin 1024) : Fin 2048 := ⟨1024 * (t.val / 2) + s.val, by have := lt_of_lt_of_eq t.isLt N_0; omega⟩
def col (t : Fin cfg0.N) (n : Fin 512) : Fin 1024 := ⟨512 * (t.val % 2) + n.val, by omega⟩

variable (t : Fin cfg0.N)

theorem blk0 (s : Fin 1024) (k : Fin 2816) : (iblk m c 0 t : Vec Ideal S1024x2816 .bf16) (ix2 s k) = argA m c (ix2 (row t s) k) := by
  show V m c main_arg0 _ = _
  rw [V_main_arg0]
  refine congrArg _ (Shape.idx_ext₂ ?_ ?_) <;> unfold row <;> blk_simp [at0] <;> dsimp only <;> omega

theorem blk1 (k : Fin 2816) (n : Fin 512) : (iblk m c 1 t : Vec Ideal S2816x512 .bf16) (ix2 k n) = argW m c (ix2 k (col t n)) := by
  show V m c main_arg1 _ = _
  rw [V_main_arg1]
  refine congrArg _ (Shape.idx_ext₂ ?_ ?_) <;> unfold col <;> blk_simp [at1] <;> dsimp only <;> omega

theorem blk2 (s : Fin 1024) (n : Fin 512) : (iblk m c 2 t : Vec Ideal S1024x512 .f32) (ix2 s n) = argX m c (ix2 (row t s) (col t n)) := by
  show V m c main_arg2 _ = _
  rw [V_main_arg2]
  refine congrArg _ (Shape.idx_ext₂ ?_ ?_) <;> unfold row col <;> blk_simp [at2] <;> dsimp only <;> omega

theorem blk3 (n : Fin 512) : (iblk m c 3 t : Vec Ideal S1x512 .f32) (ix2 0 n) = argG m c (ix2 0 (col t n)) := by
  show V m c main_arg3 _ = _
  rw [V_main_arg3]
  refine congrArg _ (Shape.idx_ext₂ ?_ ?_) <;> unfold col <;> blk_simp [at3] <;> dsimp only <;> omega

/-- After point `t` the outputs' buffers hold the two results at the rows and columns of its tile. -/
theorem after4_at (s : Fin 1024) (n : Fin 512) : ((dats m 0 c).after 4 t : Vec Ideal S1024x512 .f32) (ix2 s n)
    = total (argA m c) (argW m c) (argX m c) (argG m c) (ix2 (row t s) (col t n)) := by
  have e : (dats m 0 c).after 4 t = k0_pay2 (iblk m c 0 t) (iblk m c 1 t) (iblk m c 2 t) (iblk m c 3 t) := by
    rw [after0_4, outsAt0]; dsimp only; rw [out4_eq]
  refine (congrFun e _).trans ((pay2_at _ _ _ _ s n).trans ?_)
  rw [blk2, blk3]
  simp only [blk0, blk1]
  rfl

theorem after5_at (s : Fin 1024) (n : Fin 512) : ((dats m 0 c).after 5 t : Vec Ideal S1024x512 .bf16) (ix2 s n)
    = prod (argA m c) (argW m c) (ix2 (row t s) (col t n)) := by
  have e : (dats m 0 c).after 5 t = k0_pay3 (iblk m c 0 t) (iblk m c 1 t) := by rw [after0_5, outsAt0]; dsimp only; rw [out5_eq]
  refine (congrFun e _).trans ((pay3_at _ _ s n).trans ?_)
  simp only [blk0, blk1]
  rfl

theorem arr4 : (dats m 0 c).arrAt 4 cfg0.N = total (argA m c) (argW m c) (argX m c) (argG m c) := by
  refine (dats m 0 c).arrAt_eq_of_covers 4 _ (by decide +kernel) fun t hf y => ?_
  have h0 : (y 0).val < 1024 := (y 0).isLt
  have h1 : (y 1).val < 512 := (y 1).isLt
  refine Eq.trans ?_ ((after4_at m c t (y 0) (y 1)).trans (congrArg _ (Shape.idx_ext₂ ?_ ?_)))
  · blk_simp; exact congrArg _ (Shape.idx_ext₂ rfl rfl)
  · unfold row; blk_simp [at4]; dsimp only; omega
  · unfold col; blk_simp [at4]; dsimp only; omega

theorem arr5 : (dats m 0 c).arrAt 5 cfg0.N = prod (argA m c) (argW m c) := by
  refine (dats m 0 c).arrAt_eq_of_covers 5 _ (by decide +kernel) fun t hf y => ?_
  have h0 : (y 0).val < 1024 := (y 0).isLt
  have h1 : (y 1).val < 512 := (y 1).isLt
  refine Eq.trans ?_ ((after5_at m c t (y 0) (y 1)).trans (congrArg _ (Shape.idx_ext₂ ?_ ?_)))
  · blk_simp; exact congrArg _ (Shape.idx_ext₂ rfl rfl)
  · unfold row; blk_simp [at5]; dsimp only; omega
  · unfold col; blk_simp [at5]; dsimp only; omega

section Reference

variable (a : FVec Ideal S2048x2816 .bf16) (w : FVec Ideal S2816x1024 .bf16)

/-- The reference's product. -/
def rProd : FVec Ideal S2048x1024 .f32 :=
  Host.dotGeneral Cert.Reference8Ideal.dot_S2048x2816_S2816x1024_S2048x1024_1_0_0_1_n_n none (extf .f32 a Cert.Reference8Ideal.Facts₀.bitsLt_bf16_f32) (extf .f32 w Cert.Reference8Ideal.Facts₀.bitsLt_bf16_f32)

theorem rProd_at (s : Fin 2048) (n : Fin 1024) : rProd a w (ix2 s n) = prodE a w s n := by
  unfold rProd prodE; pointwise

variable (x : FVec Ideal S2048x1024 .f32) (g : FVec Ideal S1x1024 .f32)

/-- The reference's two results. -/
def rTotal : FVec Ideal S2048x1024 .f32 :=
  addf x (mulf (broadcastInDim S2048x1024 ![0, 1] Cert.Reference8Ideal.Facts₀.bcast_S1x1024_S2048x1024_0_1 g) (rProd a w))

def rCast : FVec Ideal S2048x1024 .bf16 := truncf .bf16 (rProd a w) Cert.Reference8Ideal.Facts₀.bitsLt_bf16_f32

theorem rTotal_at (s : Fin 2048) (n : Fin 1024) : rTotal a w x g (ix2 s n) = x (ix2 s n) + g (ix2 0 n) * prodE a w s n := by
  unfold rTotal; pointwise [rProd_at]

theorem rCast_at (s : Fin 2048) (n : Fin 1024) : rCast a w (ix2 s n) = prodE a w s n := by
  unfold rCast; pointwise [rProd_at]

theorem reference4_at : rTotal a w x g = total a w x g :=
  funext fun i => Eq.trans (congrArg (rTotal a w x g) (Shape.idx_ext₂ rfl rfl : i = ix2 (i 0) (i 1))) (rTotal_at a w x g (i 0) (i 1))

theorem reference5_at : rCast a w = prod a w :=
  funext fun i => Eq.trans (congrArg (rCast a w) (Shape.idx_ext₂ rfl rfl : i = ix2 (i 0) (i 1))) (rCast_at a w (i 0) (i 1))

end Reference

end Cert.FfnOut

end
-- ==== Proof.WgradOut.lean ====
/-
  The weight gradient of the mixer's last projection: the kernel leaves the sum over the rows of each entry of the merged branches times each
  entry of the mixer's gradient, as the reference does.
-/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit.Geometry

@[expose] public section

noncomputable section

namespace Cert.WgradOut

open Cert.Kernel9Ideal Cert.Kernel9Ideal.Gen
open Idealize.ShloMosaic Idealize.ShloMosaic.TcCoe Idealize.SL.Sem
open scoped BigOperators

/-- The gradient: over the rows, the product of a column of each argument. -/
def grad (x y : FVec Ideal S2048x1024 .bf16) : FVec Ideal S1024x1024 .bf16 := fun i => ∑ t : Fin 2048, x (ix2 t (i 0)) * y (ix2 t (i 1))

theorem hz : (![0, 0] : Fin 2 → Nat) = fun _ => 0 := funext fun a => by fin_cases a <;> rfl

/-- What the body leaves is its one product. -/
theorem out_eq (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .bf16) (h5 : a5.IsWhole) (a6 : Memref sig .tc .vmem S8x128 .f32) (h6 : a6.IsWhole)
    (x0 x1 : Vec Ideal S2048x1024 .bf16) : out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S2048x1024) hz]

theorem pay_at (x y : Vec Ideal S2048x1024 .bf16) (k n : Fin 1024) : k0_pay1 x y (ix2 k n) = ∑ t : Fin 2048, x (ix2 t k) * y (ix2 t n) := by
  unfold k0_pay1; pointwise

theorem at0 : ∀ t : Fin cfg0.N, win0_0.index t = ![0, 0] := by decide +kernel
theorem at1 : ∀ t : Fin cfg0.N, win0_1.index t = ![0, 0] := by decide +kernel
theorem at2 : ∀ t : Fin cfg0.N, win0_2.index t = ![0, 0] := by decide +kernel

variable (m : (ℓ : Loc nD τ sig) → Buf (Elt Ideal) ℓ) (ρ : Dev nD → PrngReg) (c : Dev nD)

abbrev argX : FVec Ideal S2048x1024 .bf16 := m ((c.tc : Thread nD τ).loc main_arg0)
abbrev argY : FVec Ideal S2048x1024 .bf16 := m ((c.tc : Thread nD τ).loc main_arg1)

theorem blk0 (t : Fin cfg0.N) (s : Fin 2048) (k : Fin 1024) : (iblk m c 0 t : Vec Ideal S2048x1024 .bf16) (ix2 s k) = argX m c (ix2 s k) := by
  show V m c main_arg0 _ = _
  rw [V_main_arg0]
  refine congrArg _ (Shape.idx_ext₂ ?_ ?_) <;> blk_simp [at0]

theorem blk1 (t : Fin cfg0.N) (s : Fin 2048) (k : Fin 1024) : (iblk m c 1 t : Vec Ideal S2048x1024 .bf16) (ix2 s k) = argY m c (ix2 s k) := by
  show V m c main_arg1 _ = _
  rw [V_main_arg1]
  refine congrArg _ (Shape.idx_ext₂ ?_ ?_) <;> blk_simp [at1]

/-- After its one point the output's buffer holds the gradient. -/
theorem after_at (t : Fin cfg0.N) (k n : Fin 1024) :
    ((dats m 0 c).after 2 t : Vec Ideal S1024x1024 .bf16) (ix2 k n) = grad (argX m c) (argY m c) (ix2 k n) := by
  have e : (dats m 0 c).after 2 t = k0_pay1 (iblk m c 0 t) (iblk m c 1 t) := by rw [after0_2, outsAt0, out_eq]
  exact (congrFun e _).trans ((pay_at _ _ k n).trans (Finset.sum_congr rfl fun s _ => by rw [blk0, blk1]; rfl))

theorem arr : (dats m 0 c).arrAt 2 cfg0.N = grad (argX m c) (argY m c) := by
  refine (dats m 0 c).arrAt_eq_of_covers 2 _ (by decide +kernel) fun t hf y => ?_
  refine Eq.trans ?_ ((after_at m c t (y 0) (y 1)).trans (congrArg _ (Shape.idx_ext₂ ?_ ?_)))
  · blk_simp; exact congrArg _ (Shape.idx_ext₂ rfl rfl)
  · blk_simp [at2]
  · blk_simp [at2]

theorem reference_at (x y : FVec Ideal S2048x1024 .bf16) :
    (truncf .bf16 (transpose S1024x1024 [1, 0] (Host.dotGeneral Cert.Reference9Ideal.dot_S2048x1024_S2048x1024_S1024x1024_0_0_1_1_n_n none
      (extf .f32 y Cert.Reference9Ideal.Facts₀.bitsLt_bf16_f32) (extf .f32 x Cert.Reference9Ideal.Facts₀.bitsLt_bf16_f32))
      Cert.Reference9Ideal.Facts₀.transposes_S1024x1024_S1024x1024_1_0) Cert.Reference9Ideal.Facts₀.bitsLt_bf16_f32
      : FVec Ideal S1024x1024 .bf16) = grad x y := by
  funext i
  have e : i = ix2 (i 0) (i 1) := Shape.idx_ext₂ rfl rfl
  rw [e]
  show _ = ∑ t : Fin 2048, x (ix2 t (i 0)) * y (ix2 t (i 1))
  pointwise
  exact Finset.sum_congr rfl fun t _ => mul_comm _ _

end Cert.WgradOut

end
-- ==== Proof.Products.lean ====
/-
  The two halves of the feed-forward block's forward pass and the weight gradient of the mixer's last projection: each runs, and its results are,
  over the reals, those that its reference returns.
-/
module

public import proofs.«01_k».proof.Defs
public import proofs.«01_k».proof.Proof.FfnIn
public import proofs.«01_k».proof.Proof.FfnOut
public import proofs.«01_k».proof.Proof.WgradOut
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import Idealize.ShloMosaic.Adequacy
public import Idealize.ShloMosaic.Init

@[expose] public section

noncomputable section

open Idealize.ShloMosaic Idealize.SL.Sem

namespace Cert.FfnIn

theorem frame_kernel : Cert.quiescent_Kernel7 (hKernel7 := Cert.Kernel7.Gen.facts) := fun m g _ => Cert.Kernel7.Gen.frame m g

theorem frame_kernelIdeal : Cert.quiescent_Kernel7Ideal (hKernel7Ideal := Cert.Kernel7Ideal.Gen.facts) := fun m g _ => Cert.Kernel7Ideal.Gen.frame m g

theorem frame_reference : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => act (argH m c) (argW m c),
    (θ_run Cert.Kernel7Ideal.defs _ _).mono (fun r h c => ⟨(h c).1.trans (arr m c), (h c).2⟩) (Cert.Kernel7Ideal.Value.run_blocks m g),
    (θ_run Cert.Reference7Ideal.defs _ _).mono (fun r h c => ⟨(h c).1.trans ((reference_at _ _).trans ?_), (h c).2⟩)
      (Cert.Reference7Ideal.Value.run (F := Ideal) m' g')⟩
  obtain ⟨a0, a1⟩ := hargs c
  simp only [a0, a1]

end Cert.FfnIn

namespace Cert.FfnOut

theorem frame_kernel : Cert.quiescent_Kernel8 (hKernel8 := Cert.Kernel8.Gen.facts) := fun m g _ => Cert.Kernel8.Gen.frame m g

theorem frame_kernelIdeal : Cert.quiescent_Kernel8Ideal (hKernel8Ideal := Cert.Kernel8Ideal.Gen.facts) := fun m g _ => Cert.Kernel8Ideal.Gen.frame m g

theorem frame_reference : Cert.quiescent_Reference8Ideal (hReference8Ideal := Cert.Reference8Ideal.Gen.facts) := fun m g _ =>
  (θ_run Cert.Reference8Ideal.defs _ _).mono (fun r h => ⟨fun c => (h c).2.2, sem_eq_zero_of_no_sems (by decide) r.2⟩)
    (Cert.Reference8Ideal.Value.run (F := Ideal) m g)

theorem algebraic : Cert.algebraic_Kernel8Ideal_Reference8Ideal (hKernel8Ideal := Cert.Kernel8Ideal.Gen.facts)
    (hReference8Ideal := Cert.Reference8Ideal.Gen.facts) := by
  intro m g m' g' hpre hargs
  refine ⟨fun c => total (argA m c) (argW m c) (argX m c) (argG m c), fun c => prod (argA m c) (argW m c),
    (θ_run Cert.Kernel8Ideal.defs _ _).mono (fun r h c => ⟨(h c).1.trans (arr4 m c), (h c).2.1.trans (arr5 m c), (h c).2.2⟩)
      (Cert.Kernel8Ideal.Value.run_blocks m g),
    (θ_run Cert.Reference8Ideal.defs _ _).mono (fun r h c => ⟨(h c).1.trans ((reference4_at _ _ _ _).trans ?_),
      (h c).2.1.trans ((reference5_at _ _).trans ?_), (h c).2.2⟩) (Cert.Reference8Ideal.Value.run (F := Ideal) m' g')⟩
  all_goals obtain ⟨a0, a1, a2, a3⟩ := hargs c; simp only [a0, a1, a2, a3]

end Cert.FfnOut

namespace Cert.WgradOut

theorem frame_kernel : Cert.quiescent_Kernel9 (hKernel9 := Cert.Kernel9.Gen.facts) := fun m g _ => Cert.Kernel9.Gen.frame m g

theorem frame_kernelIdeal : Cert.quiescent_Kernel9Ideal (hKernel9Ideal := Cert.Kernel9Ideal.Gen.facts) := fun m g _ => Cert.Kernel9Ideal.Gen.frame m g

theorem frame_reference : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run (F := Ideal) m g)

theorem algebraic : Cert.algebraic_Kernel9Ideal_Reference9Ideal (hKernel9Ideal := Cert.Kernel9Ideal.Gen.facts)
    (hReference9Ideal := Cert.Reference9Ideal.Gen.facts) := by
  intro m g m' g' hpre hargs
  refine ⟨fun c => grad (argX m c) (argY m c),
    (θ_run Cert.Kernel9Ideal.defs _ _).mono (fun r h c => ⟨(h c).1.trans (arr m c), (h c).2⟩) (Cert.Kernel9Ideal.Value.run_blocks m g),
    (θ_run Cert.Reference9Ideal.defs _ _).mono (fun r h c => ⟨(h c).1.trans ((reference_at _ _).trans ?_), (h c).2⟩)
      (Cert.Reference9Ideal.Value.run (F := Ideal) m' g')⟩
  obtain ⟨a0, a1⟩ := hargs c
  simp only [a0, a1]

end Cert.WgradOut

end
-- ==== Proof.ProjectRun.lean ====
/-
  The run of the mixer's first projection, over any float values: what each grid point leaves in the two outputs.
-/
module

public import proofs.«01_k».proof.Proof.Gen.Kernel10Ideal.Skeleton
public import proofs.«01_k».proof.Proof.Gen.Kernel10Ideal.Frame
public import Idealize.ShloMosaic.Lib.Pipeline.DatRel
public import Idealize.ShloMosaic.Lib.Pipeline.FrameBody
public import Idealize.ShloMosaic.Lib.Pipeline.Value

@[expose] public section

set_option maxRecDepth 16384

noncomputable section

namespace Cert.Project

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat RDat Cfg Window)

/-- The first five grid points work on the attention's columns. -/
theorem cond1_iff (i : grid0.Coords) : k0_cond1 i = 1#1 ↔ (i 1).val < 5 := by
  have h : (i 1).val < 9 := (i 1).isLt
  generalize hg : (i 1).val = g at h ⊢
  simp only [k0_cond1, hg]
  word_cmp

/-- The others work on the gates' columns. -/
theorem cond2_iff (i : grid0.Coords) : k0_cond2 i = 1#1 ↔ 5 ≤ (i 1).val := by
  have h : (i 1).val < 9 := (i 1).isLt
  generalize hg : (i 1).val = g at h ⊢
  simp only [k0_cond2, hg]
  word_cmp

variable {F : FTy → Type} [FloatOps F]

local notation "𝕄" => MT nD τ sig Unit (Elt F) ℕ (UR sig nD τ) ℕ

theorem hz : (![0, 0] : Fin 2 → Nat) = fun _ => 0 := funext fun a => by fin_cases a <;> rfl

section Body

variable (c : Dev nD) (i : grid0.Coords)
  (arg2 : Memref sig .tc .vmem S2048x1024 .bf16) (harg2 : arg2.IsWhole)
  (arg3 : Memref sig .tc .vmem S1024x768 .bf16) (harg3 : arg3.IsWhole)
  (arg4 : Memref sig .tc .vmem S2048x768 .bf16) (harg4 : arg4.IsWhole)
  (arg5 : Memref sig .tc .vmem S2048x768 .f32) (harg5 : arg5.IsWhole)
  (x2 : Vec F S2048x1024 .bf16) (x3 : Vec F S1024x768 .bf16) (x4 : Vec F S2048x768 .bf16) (x5 : Vec F S2048x768 .f32)

set_option maxHeartbeats 1000000 in
/-- A point of the first five leaves the product in the attention's columns, and the gates' buffer as it was. -/
theorem walk_qkv (hi : (i 1).val < 5) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (iprop(owns (c : Thread nD τ) arg2 fullShare x2 ∗ owns (c : Thread nD τ) arg3 fullShare x3 ∗ owns (c : Thread nD τ) arg4 fullShare (k0_pay2 x2 x3) ∗ owns (c : Thread nD τ) arg5 fullShare x5) -∗ K ⟨⟩))
      ⊢ wp frame (wpE (defs₀ (F := F)) Variants.none c none) E (cc0_proj i arg2 harg2 arg3 harg3 arg4 harg4 arg5 harg5) K := by
  have hc1 : k0_cond1 i = 1#1 := (cond1_iff i).mpr hi
  have hc2 : ¬k0_cond2 i = 1#1 := fun h => absurd ((cond2_iff i).mp h) (by omega)
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => View.cover_of_tiled _ S2048x768.size (by rfl) y), View.canon_unit_zero hz]
    simp only [View.readAt_eq_ld]
    rw [View.ld_unit_zero (S := S2048x1024) hz, View.ld_unit_zero (S := S1024x768) hz]
  iexists f5; isplitr; · ipureintro; rfl
  iexact H5

set_option maxHeartbeats 1000000 in
/-- A later point leaves the product in the gates' columns, and the attention's buffer as it was. -/
theorem walk_gates (hi : 5 ≤ (i 1).val) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (iprop(owns (c : Thread nD τ) arg2 fullShare x2 ∗ owns (c : Thread nD τ) arg3 fullShare x3 ∗ owns (c : Thread nD τ) arg4 fullShare x4 ∗ owns (c : Thread nD τ) arg5 fullShare (k0_pay1 x2 x3)) -∗ K ⟨⟩))
      ⊢ wp frame (wpE (defs₀ (F := F)) Variants.none c none) E (cc0_proj i arg2 harg2 arg3 harg3 arg4 harg4 arg5 harg5) K := by
  have hc1 : ¬k0_cond1 i = 1#1 := fun h => absurd ((cond1_iff i).mp h) (by omega)
  have hc2 : k0_cond2 i = 1#1 := (cond2_iff i).mpr hi
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => View.cover_of_tiled _ S2048x768.size (by rfl) y), View.canon_unit_zero hz]
  simp only [View.readAt_eq_ld]
  rw [View.ld_unit_zero (S := S2048x1024) hz, View.ld_unit_zero (S := S1024x768) hz]

end Body

variable (m : (ℓ : Loc nD τ sig) → Buf (Elt F) ℓ) (ρ : Dev nD → PrngReg) (c : Dev nD)

/-- The point whose columns the attention's buffer holds after point `t`: the last of the first five. -/
def held (t : Fin cfg0.N) : Fin cfg0.N := ⟨min t.val 4, Nat.lt_of_le_of_lt (Nat.min_le_left _ _) t.isLt⟩

/-- What each output is held to. -/
def Rl (c : Dev nD) : (w : Fin cfg0.W) → Fin cfg0.N → ((cfg0.win w).block.Idx → Elt F (cfg0.win w).elt) → Prop := fun w t =>
  match w with
  | ⟨2, _⟩ => fun X => X = k0_pay2 (iblk m c 0 (held t)) (X0_1 m c (held t))
  | ⟨3, _⟩ => fun X => 5 ≤ t.val → X = k0_pay1 (iblk m c 0 t) (X0_1 m c t)
  | _ => fun _ => True

/-- The windows whose contents are held to a relation: the two outputs. -/
def rel : Fin 4 → Bool := fun w => decide (2 ≤ w.val)

/-- The data of the pipeline: the arrays as the region finds them, the inputs left as found, nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, h⟩ => Dat.unnamed (cfg := cfg0) ⟨2, h⟩ t
    | ⟨3, h⟩ => Dat.unnamed (cfg := cfg0) ⟨3, h⟩ t
  Φ _ := Pipeline.ΦA spec0 c
  q w := Pipeline.shareOf spec0 w
  owed _ := 0

/-- The same data with the outputs held to their relations. -/
abbrev rdat (c : Dev nD) : RDat τ (Elt F) Unit ℕ (UR sig nD τ) ℕ cfg0 c := (dat m c).toRRel rel (Rl m c)

theorem dat_A (c : Dev nD) (w : Fin cfg0.W) : (dat m c).A w = V m c (Pipeline.arrRef spec0 w) := by dsimp only [dat]

theorem found0 (t : Fin cfg0.N) (d) : (dat m c).before 0 t d = iblk m c 0 t :=
  before0_0_of m (dat m c) (dat_A m c 0) (fun t => by dsimp only [dat]) t d
theorem found1 (t : Fin cfg0.N) (d) : (dat m c).before 1 t d = X0_1 m c t :=
  before0_1_of m (dat m c) (dat_A m c 1) (fun t => by dsimp only [dat]) t d

/-- The weight's buffer, filled over anything with its own part, is as it was. -/
theorem refill (t : Fin cfg0.N) (d) :
    (cfg0.win 1).fill (cfg0.grid.coords t) d ((cfg0.win 1).cut (cfg0.grid.coords t) ((dat m c).after 1 t)) = X0_1 m c t := by
  rw [show (dat m c).after 1 t = X0_1 m c t from rfl, fill0_1 t d dflt0_1]
  unfold X0_1
  rw [Pipeline.Window.cut_fill]

theorem fill_back (t : Fin cfg0.N) :
    (owns (c : Thread nD τ) (win0_1.stage (cfg0.slots t 1)) fullShare (X0_1 m c t) : sProp 𝕄)
      ⊢ iprop(∃ d, owns (c : Thread nD τ) (win0_1.stage (cfg0.slots t 1)) fullShare
          ((cfg0.win 1).fill (cfg0.grid.coords t) d ((cfg0.win 1).cut (cfg0.grid.coords t) ((dat m c).after 1 t)))) := by
  rw [← refill m c t dflt0_1]
  iintro H; iexists dflt0_1; iexact H

theorem step_val : ∀ t : Fin cfg0.N, ((grid0.coords t) 1).val = t.val := by decide +kernel

theorem kept2 : ∀ t : Fin cfg0.N, 4 ≤ t.val → t.val < 8 → (cfg0.win 2).flush t = false := by decide +kernel

/-- The attention's buffer, as a later point finds it: what the point before left. -/
theorem found2 (t : Fin cfg0.N) (X) (hX : (rdat m c).Finds 2 t X) (h : 5 ≤ t.val) : Rl m c 2 t X := by
  have ht : t.val < 9 := lt_of_lt_of_eq t.isLt N_0
  rcases ((rdat m c).finds_of_pos (w := 2) (show (cfg0.win 2).fetch t = false from rfl) (by omega) X).mp hX with h' | h'
  · rw [kept2 _ (by dsimp only; omega) (by dsimp only; omega)] at h'; exact absurd h' (by decide)
  · have e := Dat.toRRel_leaves (w := 2) _ rfl h'
    have eh : held (⟨t.val - 1, Nat.lt_of_le_of_lt (Nat.sub_le _ _) t.isLt⟩ : Fin cfg0.N) = held t := Fin.ext (by unfold held; dsimp only; omega)
    unfold Rl at e ⊢
    dsimp only at e ⊢
    rw [eh] at e
    exact e

set_option maxHeartbeats 1000000 in
/-- The body at a point, from what the pipeline hands it to what it takes back. -/
theorem point (t : Fin cfg0.N) :
    iprop((dat m c).Φ t.castSucc ∗ (dat m c).owesAt () t.castSucc
        ∗ (∃ d, owns (c : Thread nD τ) (win0_0.stage (cfg0.slots t 0)) fullShare ((dat m c).before 0 t d))
        ∗ (∃ d, owns (c : Thread nD τ) (win0_1.stage (cfg0.slots t 1)) fullShare ((dat m c).before 1 t d))
        ∗ (∃ Y, ⌜(rdat m c).Finds 2 t Y⌝ ∗ owns (c : Thread nD τ) (win0_2.stage (cfg0.slots t 2)) fullShare Y)
        ∗ (∃ Y, ⌜(rdat m c).Finds 3 t Y⌝ ∗ owns (c : Thread nD τ) (win0_3.stage (cfg0.slots t 3)) fullShare Y))
      ⊢ wp frame (wpE (defs₀ (F := F)) Variants.none c none) Set.univ (bodyAt0 t) fun _ =>
        iprop((dat m c).Φ t.succ ∗ (dat m c).owesAt () t.succ
          ∗ owns (c : Thread nD τ) (win0_0.stage (cfg0.slots t 0)) fullShare ((dat m c).after 0 t)
          ∗ (∃ d, owns (c : Thread nD τ) (win0_1.stage (cfg0.slots t 1)) fullShare
              ((cfg0.win 1).fill (cfg0.grid.coords t) d ((cfg0.win 1).cut (cfg0.grid.coords t) ((dat m c).after 1 t))))
          ∗ (∃ X, ⌜Rl m c 2 t X⌝ ∗ owns (c : Thread nD τ) (win0_2.stage (cfg0.slots t 2)) fullShare X)
          ∗ (∃ X, ⌜Rl m c 3 t X⌝ ∗ owns (c : Thread nD τ) (win0_3.stage (cfg0.slots t 3)) fullShare X)) := by
  simp only [found0, found1]
  rw [show (dat m c).owesAt () t.succ = (dat m c).owesAt () t.castSucc from rfl]
  rw [show (dat m c).Φ t.succ = Pipeline.ΦA spec0 c from rfl, show (dat m c).Φ t.castSucc = Pipeline.ΦA spec0 c from rfl]
  iintro ⟨HΦ, Ho, ⟨%d0, H0⟩, ⟨%d1, H1⟩, ⟨%x4, %h4, H2⟩, ⟨%x5, %h5, H3⟩⟩
  rcases Nat.lt_or_ge t.val 5 with hi | hi
  · iapply (walk_qkv c (grid0.coords t) _ _ _ _ _ _ _ _ (iblk m c 0 t) (X0_1 m c t) x4 x5 (by rw [step_val]; exact hi) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iapply (fill_back m c t); iexact H1
    isplitl [H2]
    · iexists _; isplitr
      swap; · iexact H2
      ipureintro
      have eh : held t = t := Fin.ext (by unfold held; dsimp only; omega)
      show _ = k0_pay2 (iblk m c 0 (held t)) (X0_1 m c (held t))
      rw [eh]
    iexists x5; isplitr
    · ipureintro
      unfold Rl
      dsimp only
      exact fun h => absurd h (by omega)
    iexact H3
  · iapply (walk_gates c (grid0.coords t) _ _ _ _ _ _ _ _ (iblk m c 0 t) (X0_1 m c t) x4 x5 (by rw [step_val]; exact hi) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]
    · iapply (fill_back m c t); iexact H1
    isplitl [H2]
    · iexists x4; isplitr
      · ipureintro; exact found2 m c t x4 h4 hi
      iexact H2
    iexists _; isplitr
    swap; · iexact H3
    ipureintro
    unfold Rl
    dsimp only
    exact fun _ => rfl

/-- The table's row for the body is the body. -/
theorem row_body (t : Fin cfg0.N) : defs₀ (F := F) .tc cfg0.body (cfg0.bodyArgs t (cfg0.slots t)) = bodyAt0 t := by
  unfold defs₀; rw [Defs.onTc_tc]

/-- The body at every point, as the library asks for it. -/
theorem points : Pipeline.BodyObligationRel (dat m c) (defs₀ (F := F)) Variants.none () Set.univ rel (Rl m c) := fun t => by
  rw [bigSep_W0, bigSep_W0, row_body]
  exact triple_restated (point m c t) rfl .rfl fun _ => .rfl

-- the launch theorem's implicit arguments are found by unfolding plain definitions
set_option backward.isDefEq.respectTransparency.types false in
/-- The run: it ends, every counter is zero, and every array holds what the relations allow. -/
theorem run : θ_run defs (onTc (τ := τ) (main (F := F))) (s₀ m ρ)
    (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := fun c => (points m c).toRRel) (hshare := fun c w => by fin_cases w <;> rfl) (howed := fun _ _ => rfl) (V := V m) (hmain := hmain m Variants.none)
    (hA := dat_A m) (hin := fun _ => .rfl) (hout := fun _ => .rfl)

/-- The run leaves the arguments as they were. -/
theorem args_kept {r : PUnit × MemSt nD τ sig (Elt F)} (h : RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((congrFun ((rdat m c).ArrAt_in 0 rfl _) _).mp ((h c).1 0)).trans (V_main_arg0 m c),
    ((congrFun ((rdat m c).ArrAt_in 1 rfl _) _).mp ((h c).1 1)).trans (V_main_arg1 m c)⟩

/-- The run, of which only the arguments and the counters are kept. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => args_kept m h.1 c, h.2⟩) (run m ρ)

end Cert.Project

end
-- ==== Proof.Project.lean ====
/-
  The mixer's first projection: the attention's columns and the gates' columns of one matrix product, each in its own result, as the reference
  returns them.
-/
module

public import proofs.«01_k».proof.Defs
public import proofs.«01_k».proof.Proof.ProjectRun
public import proofs.«01_k».proof.Proof.Gen.Kernel10
public import proofs.«01_k».proof.Proof.Gen.Reference10Ideal
public import proofs.«01_k».proof.Proof.Gen.Reference10Ideal.Run
public import Idealize.ShloMosaic.Adequacy
public import Idealize.ShloMosaic.Init
public import Idealize.ShloMosaic.Lib.Pointwise
public import Idealize.ShloMosaic.Lib.Pipeline.ArrRel
public import Idealize.ShloMosaic.Lib.Pipeline.ValueKit.Geometry

@[expose] public section

set_option maxRecDepth 16384

noncomputable section

namespace Cert.Project

open Cert.Kernel10Ideal Cert.Kernel10Ideal.Gen
open Idealize.ShloMosaic Idealize.ShloMosaic.TcCoe Idealize.SL.Sem
open Idealize.ShloMosaic.Rounds
open scoped BigOperators
open Idealize.ShloMosaic.Pipeline (Dat RDat)

/-- A row of the input against a column of the projection. -/
def projE (h : FVec Ideal S2048x1024 .bf16) (w : FVec Ideal S1024x7040 .bf16) (s : Fin 2048) (n : Fin 7040) : EReal :=
  ∑ k : Fin 1024, h (ix2 s k) * w (ix2 k n)

/-- Where the two results' columns lie among the projection's. -/
def colQ (n : Fin 3840) : Fin 7040 := ⟨n.val, by omega⟩
def colG (n : Fin 3072) : Fin 7040 := ⟨3840 + n.val, by omega⟩

/-- The attention's columns, and the gates'. -/
def qkv (h : FVec Ideal S2048x1024 .bf16) (w : FVec Ideal S1024x7040 .bf16) : FVec Ideal S2048x3840 .bf16 := fun i => projE h w (i 0) (colQ (i 1))
def gates (h : FVec Ideal S2048x1024 .bf16) (w : FVec Ideal S1024x7040 .bf16) : FVec Ideal S2048x3072 .f32 := fun i => projE h w (i 0) (colG (i 1))

/-- The body's product of its two blocks, as each kind of point stores it. -/
theorem pay1_at (h : Vec Ideal S2048x1024 .bf16) (w : Vec Ideal S1024x768 .bf16) (s : Fin 2048) (n : Fin 768) :
    k0_pay1 (F := Ideal) h w (ix2 s n) = ∑ k : Fin 1024, h (ix2 s k) * w (ix2 k n) := by
  unfold k0_pay1; pointwise

theorem pay2_at (h : Vec Ideal S2048x1024 .bf16) (w : Vec Ideal S1024x768 .bf16) (s : Fin 2048) (n : Fin 768) :
    k0_pay2 (F := Ideal) h w (ix2 s n) = ∑ k : Fin 1024, h (ix2 s k) * w (ix2 k n) := by
  refine Eq.trans ?_ (pay1_at h w s n)
  unfold k0_pay2; pointwise

theorem at0 : ∀ t : Fin cfg0.N, win0_0.index t = ![0, 0] := by decide +kernel
theorem at1 : ∀ t : Fin cfg0.N, win0_1.index t = ![0, t.val] := by decide +kernel
theorem at2 : ∀ t : Fin cfg0.N, win0_2.index t = ![0, min t.val 4] := by decide +kernel
theorem at3 : ∀ t : Fin cfg0.N, win0_3.index t = ![0, t.val - 5] := by decide +kernel

/-- The gates' buffer is written back by the later points only. -/
theorem flush3 : ∀ t : Fin cfg0.N, (cfg0.win 3).flush t = true → 5 ≤ t.val := by decide +kernel

section Values

variable (m : (ℓ : Loc nD τ sig) → Buf (Elt Ideal) ℓ) (ρ : Dev nD → PrngReg) (c : Dev nD)

abbrev argH : FVec Ideal S2048x1024 .bf16 := m ((c.tc : Thread nD τ).loc main_arg0)
abbrev argW : FVec Ideal S1024x7040 .bf16 := m ((c.tc : Thread nD τ).loc main_arg1)

/-- Column `n` of the column block of point `t`. -/
def col (t : Fin cfg0.N) (n : Fin 768) : Fin 7040 := ⟨768 * t.val + n.val, by have := lt_of_lt_of_eq t.isLt N_0; omega⟩

theorem blk0 (t : Fin cfg0.N) (s : Fin 2048) (k : Fin 1024) : (iblk m c 0 t : Vec Ideal S2048x1024 .bf16) (ix2 s k) = argH m c (ix2 s k) := by
  show V m c main_arg0 _ = _
  rw [V_main_arg0]
  refine congrArg _ (Shape.idx_ext₂ ?_ ?_) <;> blk_simp [at0] <;> dsimp only <;> omega

theorem blk1 (t : Fin cfg0.N) (k : Fin 1024) (n : Fin 768) : (X0_1 m c t : Vec Ideal S1024x768 .bf16) (ix2 k n) = argW m c (ix2 k (col t n)) := by
  unfold X0_1 Pipeline.Window.fill
  rw [dif_pos (moved0_1 t _)]
  show V m c main_arg1 _ = _
  rw [V_main_arg1]
  refine congrArg _ (Shape.idx_ext₂ ?_ ?_) <;> unfold col <;> blk_simp [at1] <;> dsimp only <;> omega

theorem left2 (t : Fin cfg0.N) (X : Vec Ideal S2048x768 .bf16) (hX : Rl m c 2 t X) (s : Fin 2048) (n : Fin 768) :
    X (ix2 s n) = projE (argH m c) (argW m c) s (col (held t) n) := by
  have e : X = k0_pay2 (iblk m c 0 (held t)) (X0_1 m c (held t)) := hX
  rw [e, pay2_at]
  unfold projE
  simp only [blk0, blk1]

theorem left3 (t : Fin cfg0.N) (ht : 5 ≤ t.val) (X : Vec Ideal S2048x768 .f32) (hX : Rl m c 3 t X) (s : Fin 2048) (n : Fin 768) :
    X (ix2 s n) = projE (argH m c) (argW m c) s (col t n) := by
  have e : X = k0_pay1 (iblk m c 0 t) (X0_1 m c t) := hX ht
  rw [e, pay1_at]
  unfold projE
  simp only [blk0, blk1]

variable (D : Dat τ (Elt Ideal) Unit ℕ (UR sig nD τ) ℕ cfg0 c)

theorem arr2 (h : ∀ t : Fin cfg0.N, (cfg0.win 2).flush t = true → Rl m c 2 t (D.after 2 t)) : D.arrAt 2 cfg0.N = qkv (argH m c) (argW m c) := by
  refine D.arrAt_eq_of_covers 2 _ (by decide +kernel) fun t hf y => ?_
  have h1 : (y 1).val < 768 := (y 1).isLt
  refine Eq.trans ?_ ((left2 m c t _ (h t hf) (y 0) (y 1)).trans ?_)
  · blk_simp; exact congrArg _ (Shape.idx_ext₂ rfl rfl)
  unfold qkv
  refine congrArg₂ _ (Fin.ext ?_) (Fin.ext ?_)
  · blk_simp [at2]
  · unfold col colQ held; blk_simp [at2]; dsimp only; omega

theorem arr3 (h : ∀ t : Fin cfg0.N, (cfg0.win 3).flush t = true → Rl m c 3 t (D.after 3 t)) : D.arrAt 3 cfg0.N = gates (argH m c) (argW m c) := by
  refine D.arrAt_eq_of_covers 3 _ (by decide +kernel) fun t hf y => ?_
  have h1 : (y 1).val < 768 := (y 1).isLt
  have ht := flush3 t hf
  refine Eq.trans ?_ ((left3 m c t ht _ (h t hf) (y 0) (y 1)).trans ?_)
  · blk_simp; exact congrArg _ (Shape.idx_ext₂ rfl rfl)
  unfold gates
  refine congrArg₂ _ (Fin.ext ?_) (Fin.ext ?_)
  · blk_simp [at3]
  · unfold col colG; blk_simp [at3]; dsimp only; omega

/-- The run's outputs, the arguments as they were. -/
theorem run_out : θ_run defs (onTc (τ := τ) (main (F := Ideal))) ⟨m, fun _ => 0, ρ⟩ (fun r => ∀ c : Dev nD,
      r.2.mem ((c.tc : Thread nD τ).loc main_v0_0) = qkv (argH m c) (argW m c)
      ∧ r.2.mem ((c.tc : Thread nD τ).loc main_v0_1) = gates (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run m ρ)
  obtain ⟨after, hL, hA⟩ := RDat.FramePost.exists_exact h.1 c
  have L : ∀ (w : Fin cfg0.W), rel w = true → ∀ t : Fin cfg0.N, (cfg0.win w).flush t = true → Rl m c w t (after w t) := fun w hw t hf =>
    Dat.toRRel_leaves _ hw (hL w t hf)
  exact ⟨(hA 2).trans (arr2 m c _ fun t hf => L 2 rfl t hf), (hA 3).trans (arr3 m c _ fun t hf => L 3 rfl t hf), args_kept m h.1 c⟩

end Values

section Reference

variable (h : FVec Ideal S2048x1024 .bf16) (w : FVec Ideal S1024x7040 .bf16)

/-- The reference's projection and its two results. -/
def rProj : FVec Ideal Cert.Reference10Ideal.S2048x7040 .f32 :=
  Host.dotGeneral Cert.Reference10Ideal.dot_S2048x1024_S1024x7040_S2048x7040_1_0_0_1_n_n none (extf .f32 h Cert.Reference10Ideal.Facts₀.bitsLt_bf16_f32)
    (extf .f32 w Cert.Reference10Ideal.Facts₀.bitsLt_bf16_f32)

def rQ : FVec Ideal S2048x3840 .bf16 :=
  truncf .bf16 (extractStridedSlice S2048x3840 ![0, 0] (rProj h w) Cert.Reference10Ideal.Facts₀.slices_S2048x7040_S2048x3840_0_0) Cert.Reference10Ideal.Facts₀.bitsLt_bf16_f32

def rG : FVec Ideal S2048x3072 .f32 :=
  extractStridedSlice S2048x3072 ![0, 3840] (rProj h w) Cert.Reference10Ideal.Facts₀.slices_S2048x7040_S2048x3072_0_3840

theorem rProj_at (s : Fin 2048) (n : Fin 7040) : rProj h w (ix2 s n) = projE h w s n := by
  unfold rProj projE; pointwise

theorem rQ_at (s : Fin 2048) (n : Fin 3840) : rQ h w (ix2 s n) = projE h w s (colQ n) := by
  refine Eq.trans ?_ (rProj_at h w s (colQ n))
  unfold rQ colQ; pointwise

theorem rG_at (s : Fin 2048) (n : Fin 3072) : rG h w (ix2 s n) = projE h w s (colG n) := by
  refine Eq.trans ?_ (rProj_at h w s (colG n))
  unfold rG colG; pointwise

theorem referenceQ_at : rQ h w = qkv h w :=
  funext fun i => Eq.trans (congrArg (rQ h w) (Shape.idx_ext₂ rfl rfl : i = ix2 (i 0) (i 1))) (rQ_at h w (i 0) (i 1))

theorem referenceG_at : rG h w = gates h w :=
  funext fun i => Eq.trans (congrArg (rG h w) (Shape.idx_ext₂ rfl rfl : i = ix2 (i 0) (i 1))) (rG_at h w (i 0) (i 1))

end Reference

/-! ## The claims -/

set_option maxHeartbeats 2000000 in
/-- The two kernels' bodies are the same. -/
theorem bodies_same : Cert.Kernel10.defs₀ (F := Bits) = Cert.Kernel10Ideal.defs₀ (F := Bits) :=
  congrArg Defs.onTc (funext fun l => funext fun x => match l, x with
    | ⟨0, _⟩, (_, _) => rfl
    | ⟨_ + 1, h⟩, _ => absurd h (Nat.not_lt.2 (Nat.le_add_left _ _)))

set_option maxHeartbeats 2000000 in
theorem defs_same : Cert.Kernel10.defs (F := Bits) = Cert.Kernel10Ideal.defs (F := Bits) := congrArg (Pipeline.defs Cert.Kernel10Ideal.pcfgs) bodies_same

set_option maxHeartbeats 2000000 in
theorem frame_kernel : Cert.quiescent_Kernel10 (hKernel10 := Cert.Kernel10.Gen.facts) := fun m ρ _ => by
  rw [defs_same]; exact frame_any (F := Bits) m ρ

theorem frame_kernelIdeal : Cert.quiescent_Kernel10Ideal (hKernel10Ideal := Cert.Kernel10Ideal.Gen.facts) := fun m ρ _ => frame_any m ρ

theorem frame_reference : Cert.quiescent_Reference10Ideal (hReference10Ideal := Cert.Reference10Ideal.Gen.facts) := fun m g _ =>
  (θ_run Cert.Reference10Ideal.defs _ _).mono (fun r h => ⟨fun c => (h c).2.2, sem_eq_zero_of_no_sems (by decide) r.2⟩)
    (Cert.Reference10Ideal.Value.run (F := Ideal) m g)

theorem algebraic : Cert.algebraic_Kernel10Ideal_Reference10Ideal (hKernel10Ideal := Cert.Kernel10Ideal.Gen.facts)
    (hReference10Ideal := Cert.Reference10Ideal.Gen.facts) := by
  intro m g m' g' hpre hargs
  refine ⟨fun c => qkv (argH m c) (argW m c), fun c => gates (argH m c) (argW m c), run_out m g,
    (θ_run Cert.Reference10Ideal.defs _ _).mono (fun r h c => ⟨(h c).1.trans ((referenceQ_at _ _).trans ?_),
      (h c).2.1.trans ((referenceG_at _ _).trans ?_), (h c).2.2⟩)
      (Cert.Reference10Ideal.Value.run (F := Ideal) m' g')⟩
  all_goals
    obtain ⟨a0, a1⟩ := hargs c
    simp only [a0, a1]

end Cert.Project

end
-- ==== Proof.lean ====
/-
  Every program runs and leaves its arguments and counters as they were, and each kernel's outputs are, over the reals, the gradients that its
  reference returns: the attention's and the feed-forward block's on finite arguments, the three single products and the
  branch mixer on all.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Gradients
public import proofs.«01_k».proof.Proof.Reference
public import proofs.«01_k».proof.Proof.Finite
public import proofs.«01_k».proof.Proof.Ffn
public import proofs.«01_k».proof.Proof.Linear
public import proofs.«01_k».proof.Proof.Mix
public import proofs.«01_k».proof.Proof.Products
public import proofs.«01_k».proof.Proof.Project
public import Idealize.ShloMosaic.Adequacy
public import Idealize.ShloMosaic.Init

@[expose] public section

noncomputable section

namespace Cert.Proof

open Idealize.ShloMosaic Idealize.SL.Sem Cert.AttnBwd

/-- The reference runs; it uses no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.2.2.2.1, (h c).2.2.2.2.2.2.1, (h c).2.2.2.2.2.2.2⟩,
    sem_eq_zero_of_no_sems (by decide) r.2⟩) (Cert.ReferenceIdeal.Value.run (F := Ideal) m ρ)

theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre hargs
  refine ⟨fun c => outQ (blkN m c), fun c => outK (blkN m c), fun c => outV (blkN m c), fun c => outDK (blkN m c), fun c => outDQ (blkN m c),
    run_out m g, (θ_run Cert.ReferenceIdeal.defs _ _).mono (fun r h c => ?_) (Cert.ReferenceIdeal.Value.run (F := Ideal) m' g')⟩
  obtain ⟨R⟩ := finite_real _ _ _ (hpre c)
  have e0 : Reference.argX m' c = argX m c := (hargs c).1
  have e1 : Reference.argY m' c = argY m c := (hargs c).2.1
  have e2 : Reference.argC m' c = argZ m c := (hargs c).2.2
  obtain ⟨h0, h1, h2, h3, h4, ha⟩ := h c
  refine ⟨h0.trans ((Reference.out0 m' c).trans ?_), h1.trans ((Reference.out1 m' c).trans ?_), h2.trans ((Reference.out2 m' c).trans ?_),
    h3.trans ((Reference.out3 m' c).trans ?_), h4.trans ((Reference.out4 m' c).trans ?_), ha⟩
  · rw [e0, e1, e2]; exact (outQ_eq R).symm
  · rw [e0, e1, e2]; exact (outK_eq R).symm
  · rw [e0, e1, e2]; exact (outV_eq R).symm
  · rw [e0, e1, e2]; exact (outDK_eq R).symm
  · rw [e0, e1, e2]; exact (outDQ_eq R).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    finiteFacts, Ffn.finiteFacts,
    frame_kernel, frame_kernelIdeal, fun m g _ => frame_kernelIdeal m g trivial, frame_reference, fun m g _ => frame_reference m g trivial,
    Ffn.frame_kernel, Ffn.frame_kernelIdeal, fun m g _ => Ffn.frame_kernelIdeal m g trivial, Ffn.frame_reference,
    fun m g _ => Ffn.frame_reference m g trivial,
    DgradFfn.frame_kernel, DgradFfn.frame_kernelIdeal, DgradFfn.frame_reference,
    WgradIn.frame_kernel, WgradIn.frame_kernelIdeal, WgradIn.frame_reference,
    DgradIn.frame_kernel, DgradIn.frame_kernelIdeal, DgradIn.frame_reference,
    Mix.frame_kernel, Mix.frame_kernelIdeal, Mix.frame_reference,
    FfnIn.frame_kernel, FfnIn.frame_kernelIdeal, FfnIn.frame_reference,
    FfnOut.frame_kernel, FfnOut.frame_kernelIdeal, FfnOut.frame_reference,
    WgradOut.frame_kernel, WgradOut.frame_kernelIdeal, WgradOut.frame_reference,
    Project.frame_kernel, Project.frame_kernelIdeal, Project.frame_reference,
    trivial, algebraic, trivial, Ffn.algebraic, trivial, DgradFfn.algebraic, trivial, WgradIn.algebraic, trivial, DgradIn.algebraic,
    trivial, Mix.algebraic, trivial, FfnIn.algebraic, trivial, FfnOut.algebraic, trivial, WgradOut.algebraic, trivial, Project.algebraic⟩

end Cert.Proof

end
